-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))).1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))).2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7))).1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v12)) (v3 : (c : Dev Cert.KernelIdeal.nD) → Buf (Elt Ideal) ((c.tc : Thread Cert.KernelIdeal.nD Cert.KernelIdeal.τ).loc Cert.KernelIdeal.main_v13)) (v4 : (c : Dev Cert.KernelIdeal.nD) → Buf (Elt Ideal) ((c.tc : Thread Cert.KernelIdeal.nD Cert.KernelIdeal.τ).loc Cert.KernelIdeal.main_v14)) (v5 : (c : Dev Cert.KernelIdeal.nD) → Buf (Elt Ideal) ((c.tc : Thread Cert.KernelIdeal.nD Cert.KernelIdeal.τ).loc Cert.KernelIdeal.main_v15)) (v6 : (c : Dev Cert.KernelIdeal.nD) → Buf (Elt Ideal) ((c.tc : Thread Cert.KernelIdeal.nD Cert.KernelIdeal.τ).loc Cert.KernelIdeal.main_v16)) (v7 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v12) = v2 c
          ∧ r.2.mem ((c.tc : Thread Cert.KernelIdeal.nD Cert.KernelIdeal.τ).loc Cert.KernelIdeal.main_v13) = v3 c
          ∧ r.2.mem ((c.tc : Thread Cert.KernelIdeal.nD Cert.KernelIdeal.τ).loc Cert.KernelIdeal.main_v14) = v4 c
          ∧ r.2.mem ((c.tc : Thread Cert.KernelIdeal.nD Cert.KernelIdeal.τ).loc Cert.KernelIdeal.main_v15) = v5 c
          ∧ r.2.mem ((c.tc : Thread Cert.KernelIdeal.nD Cert.KernelIdeal.τ).loc Cert.KernelIdeal.main_v16) = v6 c
          ∧ r.2.mem ((c.tc : Thread Cert.KernelIdeal.nD Cert.KernelIdeal.τ).loc Cert.KernelIdeal.main_v17) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_v118) = v1 c
          ∧ r.2.mem ((c.tc : Thread Cert.ReferenceIdeal.nD Cert.ReferenceIdeal.τ).loc Cert.ReferenceIdeal.main_v121) = v2 c
          ∧ r.2.mem ((c.tc : Thread Cert.ReferenceIdeal.nD Cert.ReferenceIdeal.τ).loc Cert.ReferenceIdeal.main_v124) = v3 c
          ∧ r.2.mem ((c.tc : Thread Cert.ReferenceIdeal.nD Cert.ReferenceIdeal.τ).loc Cert.ReferenceIdeal.main_v127) = v4 c
          ∧ r.2.mem ((c.tc : Thread Cert.ReferenceIdeal.nD Cert.ReferenceIdeal.τ).loc Cert.ReferenceIdeal.main_v130) = v5 c
          ∧ r.2.mem ((c.tc : Thread Cert.ReferenceIdeal.nD Cert.ReferenceIdeal.τ).loc Cert.ReferenceIdeal.main_v133) = v6 c
          ∧ r.2.mem ((c.tc : Thread Cert.ReferenceIdeal.nD Cert.ReferenceIdeal.τ).loc Cert.ReferenceIdeal.main_v136) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v59) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2_0)) (v1 : (c : Dev Cert.Kernel3Ideal.nD) → Buf (Elt Ideal) ((c.tc : Thread Cert.Kernel3Ideal.nD Cert.Kernel3Ideal.τ).loc Cert.Kernel3Ideal.main_v2_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_0) = v0 c
          ∧ r.2.mem ((c.tc : Thread Cert.Kernel3Ideal.nD Cert.Kernel3Ideal.τ).loc Cert.Kernel3Ideal.main_v2_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v17) = v0 c
          ∧ r.2.mem ((c.tc : Thread Cert.Reference3Ideal.nD Cert.Reference3Ideal.τ).loc Cert.Reference3Ideal.main_v18) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)) →
    ∃ (v0 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v46) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10))

def preserves_Kernel5_Kernel5Ideal : Prop :=
  IdealRules.named_const.Statement Cert.Kernel5Ideal.κ "mask" .f32 0xF149F2CA#32 ⊥

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v10_0)) (v1 : (c : Dev Cert.Kernel5Ideal.nD) → Buf (Elt Ideal) ((c.tc : Thread Cert.Kernel5Ideal.nD Cert.Kernel5Ideal.τ).loc Cert.Kernel5Ideal.main_v4)) (v2 : (c : Dev Cert.Kernel5Ideal.nD) → Buf (Elt Ideal) ((c.tc : Thread Cert.Kernel5Ideal.nD Cert.Kernel5Ideal.τ).loc Cert.Kernel5Ideal.main_v11)) (v3 : (c : Dev Cert.Kernel5Ideal.nD) → Buf (Elt Ideal) ((c.tc : Thread Cert.Kernel5Ideal.nD Cert.Kernel5Ideal.τ).loc Cert.Kernel5Ideal.main_v12)) (v4 : (c : Dev Cert.Kernel5Ideal.nD) → Buf (Elt Ideal) ((c.tc : Thread Cert.Kernel5Ideal.nD Cert.Kernel5Ideal.τ).loc Cert.Kernel5Ideal.main_v13)) (v5 : (c : Dev Cert.Kernel5Ideal.nD) → Buf (Elt Ideal) ((c.tc : Thread Cert.Kernel5Ideal.nD Cert.Kernel5Ideal.τ).loc Cert.Kernel5Ideal.main_v14)) (v6 : (c : Dev Cert.Kernel5Ideal.nD) → Buf (Elt Ideal) ((c.tc : Thread Cert.Kernel5Ideal.nD Cert.Kernel5Ideal.τ).loc Cert.Kernel5Ideal.main_v15)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v10_0) = v0 c
          ∧ r.2.mem ((c.tc : Thread Cert.Kernel5Ideal.nD Cert.Kernel5Ideal.τ).loc Cert.Kernel5Ideal.main_v4) = v1 c
          ∧ r.2.mem ((c.tc : Thread Cert.Kernel5Ideal.nD Cert.Kernel5Ideal.τ).loc Cert.Kernel5Ideal.main_v11) = v2 c
          ∧ r.2.mem ((c.tc : Thread Cert.Kernel5Ideal.nD Cert.Kernel5Ideal.τ).loc Cert.Kernel5Ideal.main_v12) = v3 c
          ∧ r.2.mem ((c.tc : Thread Cert.Kernel5Ideal.nD Cert.Kernel5Ideal.τ).loc Cert.Kernel5Ideal.main_v13) = v4 c
          ∧ r.2.mem ((c.tc : Thread Cert.Kernel5Ideal.nD Cert.Kernel5Ideal.τ).loc Cert.Kernel5Ideal.main_v14) = v5 c
          ∧ r.2.mem ((c.tc : Thread Cert.Kernel5Ideal.nD Cert.Kernel5Ideal.τ).loc Cert.Kernel5Ideal.main_v15) = v6 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v115) = v0 c
          ∧ r.2.mem ((c.tc : Thread Cert.Reference5Ideal.nD Cert.Reference5Ideal.τ).loc Cert.Reference5Ideal.main_v118) = v1 c
          ∧ r.2.mem ((c.tc : Thread Cert.Reference5Ideal.nD Cert.Reference5Ideal.τ).loc Cert.Reference5Ideal.main_v121) = v2 c
          ∧ r.2.mem ((c.tc : Thread Cert.Reference5Ideal.nD Cert.Reference5Ideal.τ).loc Cert.Reference5Ideal.main_v124) = v3 c
          ∧ r.2.mem ((c.tc : Thread Cert.Reference5Ideal.nD Cert.Reference5Ideal.τ).loc Cert.Reference5Ideal.main_v127) = v4 c
          ∧ r.2.mem ((c.tc : Thread Cert.Reference5Ideal.nD Cert.Reference5Ideal.τ).loc Cert.Reference5Ideal.main_v130) = v5 c
          ∧ r.2.mem ((c.tc : Thread Cert.Reference5Ideal.nD Cert.Reference5Ideal.τ).loc Cert.Reference5Ideal.main_v133) = v6 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_finite5 : Cert.Pre_finite5.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
-- ==== Pre_finite.lean ====
abbrev S8x2048x3072 : Shape := ⟨3, ![8, 2048, 3072]⟩
abbrev S2x8x15x31 : Shape := ⟨4, ![2, 8, 15, 31]⟩
abbrev S2x1024x5120 : Shape := ⟨3, ![2, 1024, 5120]⟩
abbrev S2x512x1024 : Shape := ⟨3, ![2, 512, 1024]⟩
abbrev S2x1024x1024 : Shape := ⟨3, ![2, 1024, 1024]⟩
abbrev S2x1024x4096 : Shape := ⟨3, ![2, 1024, 4096]⟩
abbrev S2x4096x1024 : Shape := ⟨3, ![2, 4096, 1024]⟩
abbrev S8x2048x1024 : Shape := ⟨3, ![8, 2048, 1024]⟩
abbrev S_ : Shape := ⟨0, ![]⟩
abbrev S1x8x15x31 : Shape := ⟨4, ![1, 8, 15, 31]⟩
abbrev S8x15x31 : Shape := ⟨3, ![8, 15, 31]⟩

class Facts : Prop where
  slices_S8x2048x3072_S8x2048x1024_0_0_0 : S8x2048x3072.Slices ![0, 0, 0] S8x2048x1024
  bitsLt_bf16_f32 : FTy.bits .bf16 < FTy.bits .f32
  bcast_S_S8x2048x1024 : S_.BroadcastsInDim S8x2048x1024 (![] : Fin 0 → Fin S8x2048x1024.rank)
  slices_S2x8x15x31_S1x8x15x31_0_0_0_0 : S2x8x15x31.Slices ![0, 0, 0, 0] S1x8x15x31
  shapeCasts_S1x8x15x31_S8x15x31 : S1x8x15x31.ShapeCasts S8x15x31
  bcast_S_S8x15x31 : S_.BroadcastsInDim S8x15x31 (![] : Fin 0 → Fin S8x15x31.rank)

variable [Facts]

def fn {F : FTy → Type} [FloatOps F] (main_arg0 : FVec F S8x2048x3072 .bf16) (main_arg1 : FVec F S2x8x15x31 .f32) (main_arg2 : FVec F S2x1024x5120 .f32) (main_arg3 : FVec F S2x512x1024 .f32) (main_arg4 : FVec F S2x512x1024 .f32) (main_arg5 : FVec F S2x1024x1024 .f32) (main_arg6 : FVec F S2x1024x4096 .f32) (main_arg7 : FVec F S2x4096x1024 .f32) : IVec S8x2048x1024 1 × IVec S8x15x31 1 :=
  let main_v0 : FVec F S8x2048x1024 .bf16 := (extractStridedSlice S8x2048x1024 ![0, 0, 0] · slices_S8x2048x3072_S8x2048x1024_0_0_0) main_arg0
  let main_v1 : FVec F S8x2048x1024 .f32 := (extf .f32 · bitsLt_bf16_f32) main_v0
  let main_v2 : FVec F S8x2048x1024 .f32 := Host.absf main_v1
  let main_cst : FVec F S_ .f32 := constant S_ .f32 0x7F800000#32
  let main_v3 : FVec F S8x2048x1024 .f32 := broadcastInDim S8x2048x1024 ![] bcast_S_S8x2048x1024 main_cst
  let main_v4 : IVec S8x2048x1024 1 := cmpf .olt main_v2 main_v3
  let main_v5 : FVec F S1x8x15x31 .f32 := (extractStridedSlice S1x8x15x31 ![0, 0, 0, 0] · slices_S2x8x15x31_S1x8x15x31_0_0_0_0) main_arg1
  let main_v6 : FVec F S8x15x31 .f32 := shapeCast S8x15x31 main_v5 shapeCasts_S1x8x15x31_S8x15x31
  let main_v7 : FVec F S8x15x31 .f32 := Host.absf main_v6
  let main_cst_0 : FVec F S_ .f32 := constant S_ .f32 0x7F800000#32
  let main_v8 : FVec F S8x15x31 .f32 := broadcastInDim S8x15x31 ![] bcast_S_S8x15x31 main_cst_0
  let main_v9 : IVec S8x15x31 1 := cmpf .olt main_v7 main_v8
  (main_v4, main_v9)
-- ==== Pre_finite5.lean ====
abbrev S8x2048x3072 : Shape := ⟨3, ![8, 2048, 3072]⟩
abbrev S2x8x15x31 : Shape := ⟨4, ![2, 8, 15, 31]⟩
abbrev S2x1024x5120 : Shape := ⟨3, ![2, 1024, 5120]⟩
abbrev S2x512x1024 : Shape := ⟨3, ![2, 512, 1024]⟩
abbrev S2x1024x1024 : Shape := ⟨3, ![2, 1024, 1024]⟩
abbrev S2x1024x4096 : Shape := ⟨3, ![2, 1024, 4096]⟩
abbrev S2x4096x1024 : Shape := ⟨3, ![2, 4096, 1024]⟩
abbrev S8x2048x1024 : Shape := ⟨3, ![8, 2048, 1024]⟩
abbrev S_ : Shape := ⟨0, ![]⟩
abbrev S1x8x15x31 : Shape := ⟨4, ![1, 8, 15, 31]⟩
abbrev S8x15x31 : Shape := ⟨3, ![8, 15, 31]⟩

class Facts : Prop where
  slices_S8x2048x3072_S8x2048x1024_0_0_0 : S8x2048x3072.Slices ![0, 0, 0] S8x2048x1024
  bitsLt_bf16_f32 : FTy.bits .bf16 < FTy.bits .f32
  bcast_S_S8x2048x1024 : S_.BroadcastsInDim S8x2048x1024 (![] : Fin 0 → Fin S8x2048x1024.rank)
  slices_S2x8x15x31_S1x8x15x31_1_0_0_0 : S2x8x15x31.Slices ![1, 0, 0, 0] S1x8x15x31
  shapeCasts_S1x8x15x31_S8x15x31 : S1x8x15x31.ShapeCasts S8x15x31
  bcast_S_S8x15x31 : S_.BroadcastsInDim S8x15x31 (![] : Fin 0 → Fin S8x15x31.rank)

variable [Facts]

def fn {F : FTy → Type} [FloatOps F] (main_arg0 : FVec F S8x2048x3072 .bf16) (main_arg1 : FVec F S2x8x15x31 .f32) (main_arg2 : FVec F S2x1024x5120 .f32) (main_arg3 : FVec F S2x512x1024 .f32) (main_arg4 : FVec F S2x512x1024 .f32) (main_arg5 : FVec F S2x1024x1024 .f32) (main_arg6 : FVec F S2x1024x4096 .f32) (main_arg7 : FVec F S2x4096x1024 .f32) : IVec S8x2048x1024 1 × IVec S8x15x31 1 :=
  let main_v0 : FVec F S8x2048x1024 .bf16 := (extractStridedSlice S8x2048x1024 ![0, 0, 0] · slices_S8x2048x3072_S8x2048x1024_0_0_0) main_arg0
  let main_v1 : FVec F S8x2048x1024 .f32 := (extf .f32 · bitsLt_bf16_f32) main_v0
  let main_v2 : FVec F S8x2048x1024 .f32 := Host.absf main_v1
  let main_cst : FVec F S_ .f32 := constant S_ .f32 0x7F800000#32
  let main_v3 : FVec F S8x2048x1024 .f32 := broadcastInDim S8x2048x1024 ![] bcast_S_S8x2048x1024 main_cst
  let main_v4 : IVec S8x2048x1024 1 := cmpf .olt main_v2 main_v3
  let main_v5 : FVec F S1x8x15x31 .f32 := (extractStridedSlice S1x8x15x31 ![1, 0, 0, 0] · slices_S2x8x15x31_S1x8x15x31_1_0_0_0) main_arg1
  let main_v6 : FVec F S8x15x31 .f32 := shapeCast S8x15x31 main_v5 shapeCasts_S1x8x15x31_S8x15x31
  let main_v7 : FVec F S8x15x31 .f32 := Host.absf main_v6
  let main_cst_0 : FVec F S_ .f32 := constant S_ .f32 0x7F800000#32
  let main_v8 : FVec F S8x15x31 .f32 := broadcastInDim S8x15x31 ![] bcast_S_S8x15x31 main_cst_0
  let main_v9 : IVec S8x15x31 1 := cmpf .olt main_v7 main_v8
  (main_v4, main_v9)
-- ==== Kernel.lean ====
abbrev S8x2048x3072 : Shape := ⟨3, ![8, 2048, 3072]⟩
abbrev S2x8x15x31 : Shape := ⟨4, ![2, 8, 15, 31]⟩
abbrev S2x1024x5120 : Shape := ⟨3, ![2, 1024, 5120]⟩
abbrev S2x512x1024 : Shape := ⟨3, ![2, 512, 1024]⟩
abbrev S2x1024x1024 : Shape := ⟨3, ![2, 1024, 1024]⟩
abbrev S2x1024x4096 : Shape := ⟨3, ![2, 1024, 4096]⟩
abbrev S2x4096x1024 : Shape := ⟨3, ![2, 4096, 1024]⟩
abbrev S_ : Shape := ⟨0, ![]⟩
abbrev S2x8x15x128 : Shape := ⟨4, ![2, 8, 15, 128]⟩
abbrev S2x8x15x113 : Shape := ⟨4, ![2, 8, 15, 113]⟩
abbrev S2x8x15x15 : Shape := ⟨4, ![2, 8, 15, 15]⟩
abbrev S32x64x5120 : Shape := ⟨3, ![32, 64, 5120]⟩
abbrev S2x3x8x256x768 : Shape := ⟨5, ![2, 3, 8, 256, 768]⟩
abbrev S16x64x5120 : Shape := ⟨3, ![16, 64, 5120]⟩
abbrev S1x1x15x128 : Shape := ⟨4, ![1, 1, 15, 128]⟩
abbrev S1x64x5120 : Shape := ⟨3, ![1, 64, 5120]⟩
abbrev S1x3x1x256x768 : Shape := ⟨5, ![1, 3, 1, 256, 768]⟩
abbrev S64x128 : Shape := ⟨2, ![64, 128]⟩
abbrev S1x1x1x128 : Shape := ⟨4, ![1, 1, 1, 128]⟩
abbrev S1x128 : Shape := ⟨2, ![1, 128]⟩
abbrev S1x1x1x64x128 : Shape := ⟨5, ![1, 1, 1, 64, 128]⟩
abbrev S64x5120 : Shape := ⟨2, ![64, 5120]⟩
abbrev S1024x5120 : Shape := ⟨2, ![1024, 5120]⟩
abbrev S32x32x1024 : Shape := ⟨3, ![32, 32, 1024]⟩
abbrev S32x64x1024 : Shape := ⟨3, ![32, 64, 1024]⟩
abbrev S32x64x4096 : Shape := ⟨3, ![32, 64, 4096]⟩
abbrev S32x256x1024 : Shape := ⟨3, ![32, 256, 1024]⟩
abbrev S8x2048x512 : Shape := ⟨3, ![8, 2048, 512]⟩
abbrev S16x32x1024 : Shape := ⟨3, ![16, 32, 1024]⟩
abbrev S16x64x1024 : Shape := ⟨3, ![16, 64, 1024]⟩
abbrev S16x64x4096 : Shape := ⟨3, ![16, 64, 4096]⟩
abbrev S16x256x1024 : Shape := ⟨3, ![16, 256, 1024]⟩
abbrev S4x256x512 : Shape := ⟨3, ![4, 256, 512]⟩
abbrev S1x1x8x256x768 : Shape := ⟨5, ![1, 1, 8, 256, 768]⟩
abbrev S1x32x1024 : Shape := ⟨3, ![1, 32, 1024]⟩
abbrev S1x64x1024 : Shape := ⟨3, ![1, 64, 1024]⟩
abbrev S1x64x4096 : Shape := ⟨3, ![1, 64, 4096]⟩
abbrev S1x256x1024 : Shape := ⟨3, ![1, 256, 1024]⟩
abbrev S32x1024 : Shape := ⟨2, ![32, 1024]⟩
abbrev S64x1024 : Shape := ⟨2, ![64, 1024]⟩
abbrev S64x4096 : Shape := ⟨2, ![64, 4096]⟩
abbrev S256x1024 : Shape := ⟨2, ![256, 1024]⟩
abbrev S256x128 : Shape := ⟨2, ![256, 128]⟩
abbrev S1x256x128 : Shape := ⟨3, ![1, 256, 128]⟩
abbrev S768x128 : Shape := ⟨2, ![768, 128]⟩
abbrev S768x256 : Shape := ⟨2, ![768, 256]⟩
abbrev S256x768 : Shape := ⟨2, ![256, 768]⟩
abbrev S1x1x1x256x768 : Shape := ⟨5, ![1, 1, 1, 256, 768]⟩
abbrev S256 : Shape := ⟨1, ![256]⟩
abbrev S256x1 : Shape := ⟨2, ![256, 1]⟩
abbrev S256x256 : Shape := ⟨2, ![256, 256]⟩
abbrev S512x1024 : Shape := ⟨2, ![512, 1024]⟩
abbrev S1024x1024 : Shape := ⟨2, ![1024, 1024]⟩
abbrev S1024x4096 : Shape := ⟨2, ![1024, 4096]⟩
abbrev S4096x1024 : Shape := ⟨2, ![4096, 1024]⟩

abbrev nBuf : Space → Nat
  | .hbm => 37
  | .vmem => 50
  | .smem => 0
  | _ => 0

abbrev bufTy : (tb : Table) → Fin (tcTables nBuf tb) → BufTy
  | .hbm, ⟨0, _⟩ => ⟨S8x2048x3072, .bf16⟩
  | .hbm, ⟨1, _⟩ => ⟨S2x8x15x31, .f32⟩
  | .hbm, ⟨2, _⟩ => ⟨S2x1024x5120, .f32⟩
  | .hbm, ⟨3, _⟩ => ⟨S2x512x1024, .f32⟩
  | .hbm, ⟨4, _⟩ => ⟨S2x512x1024, .f32⟩
  | .hbm, ⟨5, _⟩ => ⟨S2x1024x1024, .f32⟩
  | .hbm, ⟨6, _⟩ => ⟨S2x1024x4096, .f32⟩
  | .hbm, ⟨7, _⟩ => ⟨S2x4096x1024, .f32⟩
  | .hbm, ⟨8, _⟩ => ⟨S_, .f32⟩
  | .hbm, ⟨9, _⟩ => ⟨S_, .f32⟩
  | .hbm, ⟨10, _⟩ => ⟨S2x8x15x128, .f32⟩
  | .hbm, ⟨11, _⟩ => ⟨S2x8x15x113, .f32⟩
  | .hbm, ⟨12, _⟩ => ⟨S2x8x15x15, .f32⟩
  | .hbm, ⟨13, _⟩ => ⟨S2x8x15x128, .f32⟩
  | .hbm, ⟨14, _⟩ => ⟨S32x64x5120, .f32⟩
  | .hbm, ⟨15, _⟩ => ⟨S2x3x8x256x768, .f32⟩
  | .hbm, ⟨16, _⟩ => ⟨S16x64x5120, .bf16⟩
  | .hbm, ⟨17, _⟩ => ⟨S1024x5120, .bf16⟩
  | .hbm, ⟨18, _⟩ => ⟨S32x32x1024, .f32⟩
  | .hbm, ⟨19, _⟩ => ⟨S32x32x1024, .f32⟩
  | .hbm, ⟨20, _⟩ => ⟨S32x64x1024, .f32⟩
  | .hbm, ⟨21, _⟩ => ⟨S32x64x4096, .f32⟩
  | .hbm, ⟨22, _⟩ => ⟨S32x256x1024, .f32⟩
  | .hbm, ⟨23, _⟩ => ⟨S32x64x5120, .f32⟩
  | .hbm, ⟨24, _⟩ => ⟨S8x2048x512, .bf16⟩
  | .hbm, ⟨25, _⟩ => ⟨S16x32x1024, .bf16⟩
  | .hbm, ⟨26, _⟩ => ⟨S16x32x1024, .bf16⟩
  | .hbm, ⟨27, _⟩ => ⟨S16x64x1024, .bf16⟩
  | .hbm, ⟨28, _⟩ => ⟨S16x64x4096, .bf16⟩
  | .hbm, ⟨29, _⟩ => ⟨S16x256x1024, .bf16⟩
  | .hbm, ⟨30, _⟩ => ⟨S16x64x5120, .bf16⟩
  | .hbm, ⟨31, _⟩ => ⟨S512x1024, .bf16⟩
  | .hbm, ⟨32, _⟩ => ⟨S512x1024, .bf16⟩
  | .hbm, ⟨33, _⟩ => ⟨S1024x1024, .bf16⟩
  | .hbm, ⟨34, _⟩ => ⟨S1024x4096, .bf16⟩
  | .hbm, ⟨35, _⟩ => ⟨S4096x1024, .bf16⟩
  | .hbm, ⟨36, _⟩ => ⟨S1024x5120, .bf16⟩
  | .local _ .vmem, ⟨0, _⟩ => ⟨S1x1x15x128, .f32⟩
  | .local _ .vmem, ⟨1, _⟩ => ⟨S1x1x15x128, .f32⟩
  | .local _ .vmem, ⟨2, _⟩ => ⟨S1x64x5120, .f32⟩
  | .local _ .vmem, ⟨3, _⟩ => ⟨S1x64x5120, .f32⟩
  | .local _ .vmem, ⟨4, _⟩ => ⟨S1x3x1x256x768, .f32⟩
  | .local _ .vmem, ⟨5, _⟩ => ⟨S1x3x1x256x768, .f32⟩
  | .local _ .vmem, ⟨6, _⟩ => ⟨S1x64x5120, .bf16⟩
  | .local _ .vmem, ⟨7, _⟩ => ⟨S1x64x5120, .bf16⟩
  | .local _ .vmem, ⟨8, _⟩ => ⟨S4x256x512, .bf16⟩
  | .local _ .vmem, ⟨9, _⟩ => ⟨S4x256x512, .bf16⟩
  | .local _ .vmem, ⟨10, _⟩ => ⟨S4x256x512, .bf16⟩
  | .local _ .vmem, ⟨11, _⟩ => ⟨S4x256x512, .bf16⟩
  | .local _ .vmem, ⟨12, _⟩ => ⟨S4x256x512, .bf16⟩
  | .local _ .vmem, ⟨13, _⟩ => ⟨S4x256x512, .bf16⟩
  | .local _ .vmem, ⟨14, _⟩ => ⟨S4x256x512, .bf16⟩
  | .local _ .vmem, ⟨15, _⟩ => ⟨S4x256x512, .bf16⟩
  | .local _ .vmem, ⟨16, _⟩ => ⟨S4x256x512, .bf16⟩
  | .local _ .vmem, ⟨17, _⟩ => ⟨S4x256x512, .bf16⟩
  | .local _ .vmem, ⟨18, _⟩ => ⟨S4x256x512, .bf16⟩
  | .local _ .vmem, ⟨19, _⟩ => ⟨S4x256x512, .bf16⟩
  | .local _ .vmem, ⟨20, _⟩ => ⟨S4x256x512, .bf16⟩
  | .local _ .vmem, ⟨21, _⟩ => ⟨S4x256x512, .bf16⟩
  | .local _ .vmem, ⟨22, _⟩ => ⟨S1x1x8x256x768, .f32⟩
  | .local _ .vmem, ⟨23, _⟩ => ⟨S1x1x8x256x768, .f32⟩
  | .local _ .vmem, ⟨24, _⟩ => ⟨S1x32x1024, .f32⟩
  | .local _ .vmem, ⟨25, _⟩ => ⟨S1x32x1024, .f32⟩
  | .local _ .vmem, ⟨26, _⟩ => ⟨S1x32x1024, .f32⟩
  | .local _ .vmem, ⟨27, _⟩ => ⟨S1x32x1024, .f32⟩
  | .local _ .vmem, ⟨28, _⟩ => ⟨S1x64x1024, .f32⟩
  | .local _ .vmem, ⟨29, _⟩ => ⟨S1x64x1024, .f32⟩
  | .local _ .vmem, ⟨30, _⟩ => ⟨S1x64x4096, .f32⟩
  | .local _ .vmem, ⟨31, _⟩ => ⟨S1x64x4096, .f32⟩
  | .local _ .vmem, ⟨32, _⟩ => ⟨S1x256x1024, .f32⟩
  | .local _ .vmem, ⟨33, _⟩ => ⟨S1x256x1024, .f32⟩
  | .local _ .vmem, ⟨34, _⟩ => ⟨S1x64x5120, .f32⟩
  | .local _ .vmem, ⟨35, _⟩ => ⟨S1x64x5120, .f32⟩
  | .local _ .vmem, ⟨36, _⟩ => ⟨S4x256x512, .bf16⟩
  | .local _ .vmem, ⟨37, _⟩ => ⟨S4x256x512, .bf16⟩
  | .local _ .vmem, ⟨38, _⟩ => ⟨S1x32x1024, .bf16⟩
  | .local _ .vmem, ⟨39, _⟩ => ⟨S1x32x1024, .bf16⟩
  | .local _ .vmem, ⟨40, _⟩ => ⟨S1x32x1024, .bf16⟩
  | .local _ .vmem, ⟨41, _⟩ => ⟨S1x32x1024, .bf16⟩
  | .local _ .vmem, ⟨42, _⟩ => ⟨S1x64x1024, .bf16⟩
  | .local _ .vmem, ⟨43, _⟩ => ⟨S1x64x1024, .bf16⟩
  | .local _ .vmem, ⟨44, _⟩ => ⟨S1x64x4096, .bf16⟩
  | .local _ .vmem, ⟨45, _⟩ => ⟨S1x64x4096, .bf16⟩
  | .local _ .vmem, ⟨46, _⟩ => ⟨S1x256x1024, .bf16⟩
  | .local _ .vmem, ⟨47, _⟩ => ⟨S1x256x1024, .bf16⟩
  | .local _ .vmem, ⟨48, _⟩ => ⟨S1x64x5120, .bf16⟩
  | .local _ .vmem, ⟨49, _⟩ => ⟨S1x64x5120, .bf16⟩
  | _, _ => ⟨S8x2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_call0_v0 : Ref sig .tc := ⟨.hbm, 9, rfl⟩
abbrev main_v0 : Ref sig .tc := ⟨.hbm, 10, rfl⟩
abbrev main_call1_v0 : Ref sig .tc := ⟨.hbm, 11, rfl⟩
abbrev main_call1_v1 : Ref sig .tc := ⟨.hbm, 12, rfl⟩
abbrev main_v1 : Ref sig .tc := ⟨.hbm, 13, rfl⟩
abbrev main_v2 : Ref sig .tc := ⟨.hbm, 14, rfl⟩
abbrev main_v3_0 : Ref sig .tc := ⟨.hbm, 15, rfl⟩
abbrev main_v3_1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11_0 : Ref sig .tc := ⟨.hbm, 24, rfl⟩
abbrev main_v11_1 : Ref sig .tc := ⟨.hbm, 25, rfl⟩
abbrev main_v11_2 : Ref sig .tc := ⟨.hbm, 26, rfl⟩
abbrev main_v11_3 : Ref sig .tc := ⟨.hbm, 27, rfl⟩
abbrev main_v11_4 : Ref sig .tc := ⟨.hbm, 28, rfl⟩
abbrev main_v11_5 : Ref sig .tc := ⟨.hbm, 29, rfl⟩
abbrev main_v11_6 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc1_stg8_0 : Ref sig .tc := ⟨.vmem, 24, rfl⟩
abbrev cc1_stg8_1 : Ref sig .tc := ⟨.vmem, 25, rfl⟩
abbrev cc1_stg9_0 : Ref sig .tc := ⟨.vmem, 26, rfl⟩
abbrev cc1_stg9_1 : Ref sig .tc := ⟨.vmem, 27, rfl⟩
abbrev cc1_stg10_0 : Ref sig .tc := ⟨.vmem, 28, rfl⟩
abbrev cc1_stg10_1 : Ref sig .tc := ⟨.vmem, 29, rfl⟩
abbrev cc1_stg11_0 : Ref sig .tc := ⟨.vmem, 30, rfl⟩
abbrev cc1_stg11_1 : Ref sig .tc := ⟨.vmem, 31, rfl⟩
abbrev cc1_stg12_0 : Ref sig .tc := ⟨.vmem, 32, rfl⟩
abbrev cc1_stg12_1 : Ref sig .tc := ⟨.vmem, 33, rfl⟩
abbrev cc1_stg13_0 : Ref sig .tc := ⟨.vmem, 34, rfl⟩
abbrev cc1_stg13_1 : Ref sig .tc := ⟨.vmem, 35, rfl⟩
abbrev cc1_stg14_0 : Ref sig .tc := ⟨.vmem, 36, rfl⟩
abbrev cc1_stg14_1 : Ref sig .tc := ⟨.vmem, 37, rfl⟩
abbrev cc1_stg15_0 : Ref sig .tc := ⟨.vmem, 38, rfl⟩
abbrev cc1_stg15_1 : Ref sig .tc := ⟨.vmem, 39, rfl⟩
abbrev cc1_stg16_0 : Ref sig .tc := ⟨.vmem, 40, rfl⟩
abbrev cc1_stg16_1 : Ref sig .tc := ⟨.vmem, 41, rfl⟩
abbrev cc1_stg17_0 : Ref sig .tc := ⟨.vmem, 42, rfl⟩
abbrev cc1_stg17_1 : Ref sig .tc := ⟨.vmem, 43, rfl⟩
abbrev cc1_stg18_0 : Ref sig .tc := ⟨.vmem, 44, rfl⟩
abbrev cc1_stg18_1 : Ref sig .tc := ⟨.vmem, 45, rfl⟩
abbrev cc1_stg19_0 : Ref sig .tc := ⟨.vmem, 46, rfl⟩
abbrev cc1_stg19_1 : Ref sig .tc := ⟨.vmem, 47, rfl⟩
abbrev cc1_stg20_0 : Ref sig .tc := ⟨.vmem, 48, rfl⟩
abbrev cc1_stg20_1 : Ref sig .tc := ⟨.vmem, 49, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem6_1 : DmaSem sig := 21
abbrev cc1_sem7_0 : DmaSem sig := 22
abbrev cc1_sem7_1 : DmaSem sig := 23
abbrev cc1_sem8_0 : DmaSem sig := 24
abbrev cc1_sem8_1 : DmaSem sig := 25
abbrev cc1_sem9_0 : DmaSem sig := 26
abbrev cc1_sem9_1 : DmaSem sig := 27
abbrev cc1_sem10_0 : DmaSem sig := 28
abbrev cc1_sem10_1 : DmaSem sig := 29
abbrev cc1_sem11_0 : DmaSem sig := 30
abbrev cc1_sem11_1 : DmaSem sig := 31
abbrev cc1_sem12_0 : DmaSem sig := 32
abbrev cc1_sem12_1 : DmaSem sig := 33
abbrev cc1_sem13_0 : DmaSem sig := 34
abbrev cc1_sem13_1 : DmaSem sig := 35
abbrev cc1_sem14_0 : DmaSem sig := 36
abbrev cc1_sem14_1 : DmaSem sig := 37
abbrev cc1_sem15_0 : DmaSem sig := 38
abbrev cc1_sem15_1 : DmaSem sig := 39
abbrev cc1_sem16_0 : DmaSem sig := 40
abbrev cc1_sem16_1 : DmaSem sig := 41
abbrev cc1_sem17_0 : DmaSem sig := 42
abbrev cc1_sem17_1 : DmaSem sig := 43
abbrev cc1_sem18_0 : DmaSem sig := 44
abbrev cc1_sem18_1 : DmaSem sig := 45
abbrev cc1_sem19_0 : DmaSem sig := 46
abbrev cc1_sem19_1 : DmaSem sig := 47
abbrev cc1_sem20_0 : DmaSem sig := 48
abbrev cc1_sem20_1 : DmaSem sig := 49

abbrev nD : Nat := 1
abbrev τ : Topo := Topo.v7x

variable {F : FTy → Type} [FloatOps F]

abbrev grid0 : Pipeline.Grid := ⟨2, ![2, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1x1x15x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x5120 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3x1x256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x5120 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![8, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let c5_i32 : BitVec 32 := 5#32
  let v1 : BitVec 32 := Scalar.maxsi c0_i32 v0
  let v2 : BitVec 32 := Scalar.minsi c5_i32 v1
  let c0_i32_0 : BitVec 32 := 0#32
  let v3 : BitVec 32 := Scalar.addi v2 c0_i32_0
  let c1_i32_1 : BitVec 32 := 1#32
  let c0_i32_2 : BitVec 32 := 0#32
  ![arg1.toNat, v3.toNat, c1_i32_1.toNat]

def cc1_transform_2 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let c5_i32 : BitVec 32 := 5#32
  let v1 : BitVec 32 := Scalar.maxsi c0_i32 v0
  let v2 : BitVec 32 := Scalar.minsi c5_i32 v1
  let c1_i32_0 : BitVec 32 := 1#32
  let v3 : BitVec 32 := Scalar.addi v2 c1_i32_0
  let c1_i32_1 : BitVec 32 := 1#32
  let c0_i32_2 : BitVec 32 := 0#32
  ![arg1.toNat, v3.toNat, c1_i32_1.toNat]

def cc1_transform_3 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let c5_i32 : BitVec 32 := 5#32
  let v1 : BitVec 32 := Scalar.maxsi c0_i32 v0
  let v2 : BitVec 32 := Scalar.minsi c5_i32 v1
  let c2_i32 : BitVec 32 := 2#32
  let v3 : BitVec 32 := Scalar.addi v2 c2_i32
  let c1_i32_0 : BitVec 32 := 1#32
  let c0_i32_1 : BitVec 32 := 0#32
  ![arg1.toNat, v3.toNat, c1_i32_0.toNat]

def cc1_transform_4 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let c5_i32 : BitVec 32 := 5#32
  let v1 : BitVec 32 := Scalar.maxsi c0_i32 v0
  let v2 : BitVec 32 := Scalar.minsi c5_i32 v1
  let c0_i32_0 : BitVec 32 := 0#32
  let v3 : BitVec 32 := Scalar.addi v2 c0_i32_0
  let c2_i32 : BitVec 32 := 2#32
  let c0_i32_1 : BitVec 32 := 0#32
  ![arg1.toNat, v3.toNat, c2_i32.toNat]

def cc1_transform_5 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let c5_i32 : BitVec 32 := 5#32
  let v1 : BitVec 32 := Scalar.maxsi c0_i32 v0
  let v2 : BitVec 32 := Scalar.minsi c5_i32 v1
  let c1_i32_0 : BitVec 32 := 1#32
  let v3 : BitVec 32 := Scalar.addi v2 c1_i32_0
  let c2_i32 : BitVec 32 := 2#32
  let c0_i32_1 : BitVec 32 := 0#32
  ![arg1.toNat, v3.toNat, c2_i32.toNat]

def cc1_transform_6 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let c5_i32 : BitVec 32 := 5#32
  let v1 : BitVec 32 := Scalar.maxsi c0_i32 v0
  let v2 : BitVec 32 := Scalar.minsi c5_i32 v1
  let c2_i32 : BitVec 32 := 2#32
  let v3 : BitVec 32 := Scalar.addi v2 c2_i32
  let c2_i32_0 : BitVec 32 := 2#32
  let c0_i32_1 : BitVec 32 := 0#32
  ![arg1.toNat, v3.toNat, c2_i32_0.toNat]

def cc1_transform_7 (i : grid1.Coords) : Fin 5 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let v1 : BitVec 32 := Scalar.extui v0
  let c7_i32 : BitVec 32 := 7#32
  let v2 : BitVec 1 := Scalar.cmpi .eq arg0 c7_i32
  let v3 : BitVec 32 := Scalar.extui v2
  let v4 : BitVec 32 := Scalar.addi v1 v3
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32_0.toNat, v4.toNat, c0_i32_1.toNat, c0_i32_2.toNat, c0_i32_3.toNat]

def cc1_transform_8 (i : grid1.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  let c0_i32_2 : BitVec 32 := 0#32
  ![v2.toNat, c0_i32_0.toNat, c0_i32_1.toNat]

def cc1_transform_9 (i : grid1.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  let c0_i32_2 : BitVec 32 := 0#32
  ![v2.toNat, c0_i32_0.toNat, c0_i32_1.toNat]

def cc1_transform_10 (i : grid1.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  let c0_i32_2 : BitVec 32 := 0#32
  ![v2.toNat, c0_i32_0.toNat, c0_i32_1.toNat]

def cc1_transform_11 (i : grid1.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  let c0_i32_2 : BitVec 32 := 0#32
  ![v2.toNat, c0_i32_0.toNat, c0_i32_1.toNat]

def cc1_transform_12 (i : grid1.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  let c0_i32_2 : BitVec 32 := 0#32
  ![v2.toNat, c0_i32_0.toNat, c0_i32_1.toNat]

def cc1_transform_13 (i : grid1.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c16_i32 : BitVec 32 := 16#32
  let v1 : BitVec 32 := Scalar.addi c16_i32 v0
  let v2 : BitVec 32 := Scalar.addi v1 arg1
  let c0_i32 : BitVec 32 := 0#32
  let c0_i32_0 : BitVec 32 := 0#32
  let c0_i32_1 : BitVec 32 := 0#32
  ![v2.toNat, c0_i32.toNat, c0_i32_0.toNat]

def cc1_transform_14 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_15 (i : grid1.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc1_transform_16 (i : grid1.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc1_transform_17 (i : grid1.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc1_transform_18 (i : grid1.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc1_transform_19 (i : grid1.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc1_transform_20 (i : grid1.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage1_0 : Fin 2 → Memref sig .tc .vmem S4x256x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S4x256x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S4x256x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S4x256x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S4x256x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S4x256x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S4x256x512 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x1x8x256x768 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S1x32x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S1x32x1024 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S1x64x1024 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S1x64x4096 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]

abbrev stage1_12 : Fin 2 → Memref sig .tc .vmem S1x256x1024 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true]

abbrev stage1_13 : Fin 2 → Memref sig .tc .vmem S1x64x5120 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true, true]

abbrev stage1_14 : Fin 2 → Memref sig .tc .vmem S4x256x512 .bf16 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true, true]

abbrev stage1_15 : Fin 2 → Memref sig .tc .vmem S1x32x1024 .bf16 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true, true]

abbrev stage1_16 : Fin 2 → Memref sig .tc .vmem S1x32x1024 .bf16 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true, true]

abbrev stage1_17 : Fin 2 → Memref sig .tc .vmem S1x64x1024 .bf16 := fun | 0 => Memref.whole cc1_stg17_0 | 1 => Memref.whole cc1_stg17_1 | ⟨_ + 2, h⟩ => absurd h (Nat.not_lt.2 (Nat.le_add_left _ _))
abbrev sem1_17 : Fin 2 → DmaSem sig := fun | 0 => cc1_sem17_0 | 1 => cc1_sem17_1 | ⟨_ + 2, h⟩ => absurd h (Nat.not_lt.2 (Nat.le_add_left _ _))
abbrev reads1_17 : Fin grid1.rank → Bool := ![true, true]

abbrev stage1_18 : Fin 2 → Memref sig .tc .vmem S1x64x4096 .bf16 := fun | 0 => Memref.whole cc1_stg18_0 | 1 => Memref.whole cc1_stg18_1 | ⟨_ + 2, h⟩ => absurd h (Nat.not_lt.2 (Nat.le_add_left _ _))
abbrev sem1_18 : Fin 2 → DmaSem sig := fun | 0 => cc1_sem18_0 | 1 => cc1_sem18_1 | ⟨_ + 2, h⟩ => absurd h (Nat.not_lt.2 (Nat.le_add_left _ _))
abbrev reads1_18 : Fin grid1.rank → Bool := ![true, true]

abbrev stage1_19 : Fin 2 → Memref sig .tc .vmem S1x256x1024 .bf16 := fun | 0 => Memref.whole cc1_stg19_0 | 1 => Memref.whole cc1_stg19_1 | ⟨_ + 2, h⟩ => absurd h (Nat.not_lt.2 (Nat.le_add_left _ _))
abbrev sem1_19 : Fin 2 → DmaSem sig := fun | 0 => cc1_sem19_0 | 1 => cc1_sem19_1 | ⟨_ + 2, h⟩ => absurd h (Nat.not_lt.2 (Nat.le_add_left _ _))
abbrev reads1_19 : Fin grid1.rank → Bool := ![true, true]

abbrev stage1_20 : Fin 2 → Memref sig .tc .vmem S1x64x5120 .bf16 := fun | 0 => Memref.whole cc1_stg20_0 | 1 => Memref.whole cc1_stg20_1 | ⟨_ + 2, h⟩ => absurd h (Nat.not_lt.2 (Nat.le_add_left _ _))
abbrev sem1_20 : Fin 2 → DmaSem sig := fun | 0 => cc1_sem20_0 | 1 => cc1_sem20_1 | ⟨_ + 2, h⟩ => absurd h (Nat.not_lt.2 (Nat.le_add_left _ _))
abbrev reads1_20 : Fin grid1.rank → Bool := ![true, true]
-- ==== KernelIdeal.lean ====
variable {F : FTy → Type} [FloatOps F] [Named F]
def κ : String → Option EReal := fun
  | "mask" => some ⊥
  | _ => none
-- ==== ReferenceIdeal.lean ====
abbrev S8x2048x3072 : Shape := ⟨3, ![8, 2048, 3072]⟩
abbrev S2x8x15x31 : Shape := ⟨4, ![2, 8, 15, 31]⟩
abbrev S2x1024x5120 : Shape := ⟨3, ![2, 1024, 5120]⟩
abbrev S2x512x1024 : Shape := ⟨3, ![2, 512, 1024]⟩
abbrev S2x1024x1024 : Shape := ⟨3, ![2, 1024, 1024]⟩
abbrev S2x1024x4096 : Shape := ⟨3, ![2, 1024, 4096]⟩
abbrev S2x4096x1024 : Shape := ⟨3, ![2, 4096, 1024]⟩
abbrev S8x2048x1536 : Shape := ⟨3, ![8, 2048, 1536]⟩
abbrev S8x2048x512 : Shape := ⟨3, ![8, 2048, 512]⟩
abbrev S8x2048x8x64 : Shape := ⟨4, ![8, 2048, 8, 64]⟩
abbrev S1x8x15x31 : Shape := ⟨4, ![1, 8, 15, 31]⟩
abbrev S8x15x31 : Shape := ⟨3, ![8, 15, 31]⟩
abbrev S8x32x64x8x64 : Shape := ⟨5, ![8, 32, 64, 8, 64]⟩
abbrev S32 : Shape := ⟨1, ![32]⟩
abbrev S_ : Shape := ⟨0, ![]⟩
abbrev S32x1 : Shape := ⟨2, ![32, 1]⟩
abbrev S8 : Shape := ⟨1, ![8]⟩
abbrev S1x8 : Shape := ⟨2, ![1, 8]⟩
abbrev S32x8 : Shape := ⟨2, ![32, 8]⟩
abbrev S32x8x1 : Shape := ⟨3, ![32, 8, 1]⟩
abbrev S8x32x8x64x8x64 : Shape := ⟨6, ![8, 32, 8, 64, 8, 64]⟩
abbrev S8x32x512x8x64 : Shape := ⟨5, ![8, 32, 512, 8, 64]⟩
abbrev S64 : Shape := ⟨1, ![64]⟩
abbrev S1x64 : Shape := ⟨2, ![1, 64]⟩
abbrev S64x1 : Shape := ⟨2, ![64, 1]⟩
abbrev S64x64 : Shape := ⟨2, ![64, 64]⟩
abbrev S1x64x1x64 : Shape := ⟨4, ![1, 64, 1, 64]⟩
abbrev S1x64x8x64 : Shape := ⟨4, ![1, 64, 8, 64]⟩
abbrev S64x512 : Shape := ⟨2, ![64, 512]⟩
abbrev S32x8x1x1 : Shape := ⟨4, ![32, 8, 1, 1]⟩
abbrev S1x1x64x64 : Shape := ⟨4, ![1, 1, 64, 64]⟩
abbrev S32x8x64x64 : Shape := ⟨4, ![32, 8, 64, 64]⟩
abbrev S32x8x64x64x1 : Shape := ⟨5, ![32, 8, 64, 64, 1]⟩
abbrev S32x8x64x64x2 : Shape := ⟨5, ![32, 8, 64, 64, 2]⟩
abbrev S8x32x8x64x64 : Shape := ⟨5, ![8, 32, 8, 64, 64]⟩
abbrev S8x32x64x512 : Shape := ⟨4, ![8, 32, 64, 512]⟩
abbrev S8x8x32x64x512 : Shape := ⟨5, ![8, 8, 32, 64, 512]⟩
abbrev S1x8x32x64x512 : Shape := ⟨5, ![1, 8, 32, 64, 512]⟩
abbrev S8x8x32x64 : Shape := ⟨4, ![8, 8, 32, 64]⟩
abbrev S8x8x32x64x1 : Shape := ⟨5, ![8, 8, 32, 64, 1]⟩
abbrev S1x1024x5120 : Shape := ⟨3, ![1, 1024, 5120]⟩
abbrev S1024x5120 : Shape := ⟨2, ![1024, 5120]⟩
abbrev S1x512x1024 : Shape := ⟨3, ![1, 512, 1024]⟩
abbrev S512x1024 : Shape := ⟨2, ![512, 1024]⟩
abbrev S1x1024x1024 : Shape := ⟨3, ![1, 1024, 1024]⟩
abbrev S1024x1024 : Shape := ⟨2, ![1024, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩

abbrev nBuf : Space → Nat
  | .hbm => 189
  | .vmem => 0
  | .smem => 0
  | _ => 0

abbrev hbmTy0_0 (i : Nat) : BufTy := match i % 128 with
  | 0 => ⟨S8x2048x3072, .bf16⟩
  | 1 => ⟨S2x8x15x31, .f32⟩
  | 2 => ⟨S2x1024x5120, .f32⟩
  | 3 => ⟨S2x512x1024, .f32⟩
  | 4 => ⟨S2x512x1024, .f32⟩
  | 5 => ⟨S2x1024x1024, .f32⟩
  | 6 => ⟨S2x1024x4096, .f32⟩
  | 7 => ⟨S2x4096x1024, .f32⟩
  | 8 => ⟨S8x2048x1536, .bf16⟩
  | 9 => ⟨S8x2048x1536, .f32⟩
  | 10 => ⟨S8x2048x512, .f32⟩
  | 11 => ⟨S8x2048x512, .f32⟩
  | 12 => ⟨S8x2048x512, .f32⟩
  | 13 => ⟨S8x2048x8x64, .f32⟩
  | 14 => ⟨S8x2048x8x64, .f32⟩
  | 15 => ⟨S8x2048x8x64, .f32⟩
  | 16 => ⟨S1x8x15x31, .f32⟩
  | 17 => ⟨S8x15x31, .f32⟩
  | 18 => ⟨S8x32x64x8x64, .f32⟩
  | 19 => ⟨S8x32x64x8x64, .f32⟩
  | 20 => ⟨S8x32x64x8x64, .f32⟩
  | 21 => ⟨S32, .i32⟩
  | 22 => ⟨S_, .i32⟩
  | 23 => ⟨S32, .i32⟩
  | 24 => ⟨S32, .i32⟩
  | 25 => ⟨S_, .i32⟩
  | 26 => ⟨S_, .i32⟩
  | 27 => ⟨S_, .i32⟩
  | 28 => ⟨S32, .i32⟩
  | 29 => ⟨S32, .i32⟩
  | 30 => ⟨S_, .i32⟩
  | 31 => ⟨S32, .i32⟩
  | 32 => ⟨S32, .i32⟩
  | 33 => ⟨S32x1, .i32⟩
  | 34 => ⟨S8, .i32⟩
  | 35 => ⟨S1x8, .i32⟩
  | 36 => ⟨S32x8, .i32⟩
  | 37 => ⟨S32x8, .i32⟩
  | 38 => ⟨S32x8, .i32⟩
  | 39 => ⟨S_, .i32⟩
  | 40 => ⟨S32x8, .i32⟩
  | 41 => ⟨S32x8, .i1⟩
  | 42 => ⟨S_, .i32⟩
  | 43 => ⟨S32x8, .i32⟩
  | 44 => ⟨S32x8, .i32⟩
  | 45 => ⟨S32x8, .i32⟩
  | 46 => ⟨S32x8x1, .i32⟩
  | 47 => ⟨S8x32x8x64x8x64, .f32⟩
  | 48 => ⟨S8x32x512x8x64, .f32⟩
  | 49 => ⟨S_, .i32⟩
  | 50 => ⟨S32x8, .i32⟩
  | 51 => ⟨S32x8, .i1⟩
  | 52 => ⟨S_, .i32⟩
  | 53 => ⟨S32x8, .i32⟩
  | 54 => ⟨S32x8, .i32⟩
  | 55 => ⟨S32x8, .i32⟩
  | 56 => ⟨S32x8x1, .i32⟩
  | 57 => ⟨S8x32x8x64x8x64, .f32⟩
  | 58 => ⟨S8x32x512x8x64, .f32⟩
  | 59 => ⟨S64, .i32⟩
  | 60 => ⟨S_, .i32⟩
  | 61 => ⟨S64, .i32⟩
  | 62 => ⟨S64, .i32⟩
  | 63 => ⟨S_, .i32⟩
  | 64 => ⟨S_, .i32⟩
  | 65 => ⟨S_, .i32⟩
  | 66 => ⟨S64, .i32⟩
  | 67 => ⟨S64, .i32⟩
  | 68 => ⟨S_, .i32⟩
  | 69 => ⟨S64, .i32⟩
  | 70 => ⟨S64, .i32⟩
  | 71 => ⟨S1x64, .i32⟩
  | 72 => ⟨S64x1, .i32⟩
  | 73 => ⟨S64x64, .i32⟩
  | 74 => ⟨S64x64, .i32⟩
  | 75 => ⟨S64x64, .i1⟩
  | 76 => ⟨S64x1, .i32⟩
  | 77 => ⟨S_, .i32⟩
  | 78 => ⟨S64x1, .i32⟩
  | 79 => ⟨S64x1, .i32⟩
  | 80 => ⟨S64x64, .i32⟩
  | 81 => ⟨S64x64, .i32⟩
  | 82 => ⟨S64x64, .i1⟩
  | 83 => ⟨S64x64, .i1⟩
  | 84 => ⟨S1x64x1x64, .i1⟩
  | 85 => ⟨S1x64x8x64, .i1⟩
  | 86 => ⟨S64x512, .i1⟩
  | 87 => ⟨S32x1, .i32⟩
  | 88 => ⟨S32x8, .i32⟩
  | 89 => ⟨S32x8, .i32⟩
  | 90 => ⟨S64x1, .i32⟩
  | 91 => ⟨S64x64, .i32⟩
  | 92 => ⟨S64x64, .i32⟩
  | 93 => ⟨S64x64, .i32⟩
  | 94 => ⟨S_, .i32⟩
  | 95 => ⟨S_, .i32⟩
  | 96 => ⟨S_, .i32⟩
  | 97 => ⟨S64x64, .i32⟩
  | 98 => ⟨S64x64, .i32⟩
  | 99 => ⟨S_, .i32⟩
  | 100 => ⟨S64x64, .i32⟩
  | 101 => ⟨S64x64, .i32⟩
  | 102 => ⟨S_, .i32⟩
  | 103 => ⟨S32x8, .i32⟩
  | 104 => ⟨S32x8, .i32⟩
  | 105 => ⟨S_, .i32⟩
  | 106 => ⟨S32x8, .i32⟩
  | 107 => ⟨S32x8, .i32⟩
  | 108 => ⟨S32x8x1x1, .i32⟩
  | 109 => ⟨S_, .i32⟩
  | 110 => ⟨S64x64, .i32⟩
  | 111 => ⟨S64x64, .i32⟩
  | 112 => ⟨S_, .i32⟩
  | 113 => ⟨S64x64, .i32⟩
  | 114 => ⟨S64x64, .i32⟩
  | 115 => ⟨S1x1x64x64, .i32⟩
  | 116 => ⟨S_, .i32⟩
  | 117 => ⟨S32x8x1x1, .i32⟩
  | 118 => ⟨S32x8x1x1, .i1⟩
  | 119 => ⟨S_, .i32⟩
  | 120 => ⟨S32x8x1x1, .i32⟩
  | 121 => ⟨S32x8x1x1, .i32⟩
  | 122 => ⟨S32x8x1x1, .i32⟩
  | 123 => ⟨S_, .i32⟩
  | 124 => ⟨S1x1x64x64, .i32⟩
  | 125 => ⟨S1x1x64x64, .i1⟩
  | 126 => ⟨S_, .i32⟩
  | 127 => ⟨S1x1x64x64, .i32⟩
  | _ => ⟨S8x2048x3072, .bf16⟩

abbrev hbmTy0_1 (i : Nat) : BufTy := match i % 128 with
  | 0 => ⟨S1x1x64x64, .i32⟩
  | 1 => ⟨S1x1x64x64, .i32⟩
  | 2 => ⟨S32x8x64x64, .i32⟩
  | 3 => ⟨S32x8x64x64, .i32⟩
  | 4 => ⟨S32x8x64x64x1, .i32⟩
  | 5 => ⟨S32x8x64x64x1, .i32⟩
  | 6 => ⟨S32x8x64x64x2, .i32⟩
  | 7 => ⟨S8x32x8x64x64, .f32⟩
  | 8 => ⟨S8x32x64x8x64, .f32⟩
  | 9 => ⟨S8x32x64x512, .f32⟩
  | 10 => ⟨S8x8x32x64x512, .f32⟩
  | 11 => ⟨S_, .f32⟩
  | 12 => ⟨S8x8x32x64x512, .f32⟩
  | 13 => ⟨S8x8x32x64x512, .f32⟩
  | 14 => ⟨S1x8x32x64x512, .f32⟩
  | 15 => ⟨S8x8x32x64x512, .f32⟩
  | 16 => ⟨S8x8x32x64x512, .f32⟩
  | 17 => ⟨S_, .f32⟩
  | 18 => ⟨S_, .f32⟩
  | 19 => ⟨S8x8x32x64x512, .i1⟩
  | 20 => ⟨S8x8x32x64x512, .f32⟩
  | 21 => ⟨S8x8x32x64x512, .f32⟩
  | 22 => ⟨S_, .f32⟩
  | 23 => ⟨S8x8x32x64, .f32⟩
  | 24 => ⟨S_, .f32⟩
  | 25 => ⟨S8x8x32x64, .f32⟩
  | 26 => ⟨S8x8x32x64, .f32⟩
  | 27 => ⟨S8x8x32x64x1, .f32⟩
  | 28 => ⟨S8x8x32x64x512, .f32⟩
  | 29 => ⟨S8x8x32x64x512, .f32⟩
  | 30 => ⟨S8x8x32x64x512, .f32⟩
  | 31 => ⟨S_, .f32⟩
  | 32 => ⟨S8x8x32x64, .f32⟩
  | 33 => ⟨S8x8x32x64x1, .f32⟩
  | 34 => ⟨S8x8x32x64x512, .f32⟩
  | 35 => ⟨S8x8x32x64x512, .f32⟩
  | 36 => ⟨S8x32x8x64x64, .f32⟩
  | 37 => ⟨S8x32x64x8x64, .f32⟩
  | 38 => ⟨S8x2048x512, .f32⟩
  | 39 => ⟨S8x2048x512, .bf16⟩
  | 40 => ⟨S1x1024x5120, .f32⟩
  | 41 => ⟨S1024x5120, .f32⟩
  | 42 => ⟨S1024x5120, .bf16⟩
  | 43 => ⟨S1x512x1024, .f32⟩
  | 44 => ⟨S512x1024, .f32⟩
  | 45 => ⟨S512x1024, .bf16⟩
  | 46 => ⟨S1x512x1024, .f32⟩
  | 47 => ⟨S512x1024, .f32⟩
  | 48 => ⟨S512x1024, .bf16⟩
  | 49 => ⟨S1x1024x1024, .f32⟩
  | 50 => ⟨S1024x1024, .f32⟩
  | 51 => ⟨S1024x1024, .bf16⟩
  | 52 => ⟨S1x1024x4096, .f32⟩
  | 53 => ⟨S1024x4096, .f32⟩
  | 54 => ⟨S1024x4096, .bf16⟩
  | 55 => ⟨S1x4096x1024, .f32⟩
  | 56 => ⟨S4096x1024, .f32⟩
  | 57 => ⟨S4096x1024, .bf16⟩
  | 58 => ⟨S1x1024x5120, .f32⟩
  | 59 => ⟨S1024x5120, .f32⟩
  | 60 => ⟨S1024x5120, .bf16⟩
  | _ => ⟨S8x2048x3072, .bf16⟩

abbrev hbmTy (i : Nat) : BufTy := match i / 128 with
  | 0 => hbmTy0_0 i
  | 1 => hbmTy0_1 i
  | _ => ⟨S8x2048x3072, .bf16⟩

abbrev bufTy : (tb : Table) → Fin (tcTables nBuf tb) → BufTy
  | .hbm, ⟨i, _⟩ => hbmTy i
  | _, _ => ⟨S8x2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c : Ref sig .tc := ⟨.hbm, 22, rfl⟩
abbrev main_v14 : Ref sig .tc := ⟨.hbm, 23, rfl⟩
abbrev main_v15 : Ref sig .tc := ⟨.hbm, 24, rfl⟩
abbrev main_c_0 : Ref sig .tc := ⟨.hbm, 25, rfl⟩
abbrev main_c_1 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_2 : Ref sig .tc := ⟨.hbm, 39, rfl⟩
abbrev main_v23 : Ref sig .tc := ⟨.hbm, 40, rfl⟩
abbrev main_v24 : Ref sig .tc := ⟨.hbm, 41, rfl⟩
abbrev main_c_3 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_4 : Ref sig .tc := ⟨.hbm, 49, rfl⟩
abbrev main_v31 : Ref sig .tc := ⟨.hbm, 50, rfl⟩
abbrev main_v32 : Ref sig .tc := ⟨.hbm, 51, rfl⟩
abbrev main_c_5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_c_6 : Ref sig .tc := ⟨.hbm, 60, rfl⟩
abbrev main_v40 : Ref sig .tc := ⟨.hbm, 61, rfl⟩
abbrev main_v41 : Ref sig .tc := ⟨.hbm, 62, rfl⟩
abbrev main_c_7 : Ref sig .tc := ⟨.hbm, 63, rfl⟩
abbrev main_c_8 : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_call1_v3 : Ref sig .tc := ⟨.hbm, 68, rfl⟩
abbrev main_call1_v4 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_c_9 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_c_10 : Ref sig .tc := ⟨.hbm, 94, rfl⟩
abbrev main_c_11 : Ref sig .tc := ⟨.hbm, 95, rfl⟩
abbrev main_call2_v0 : Ref sig .tc := ⟨.hbm, 96, rfl⟩
abbrev main_call2_v1 : Ref sig .tc := ⟨.hbm, 97, rfl⟩
abbrev main_call2_v2 : Ref sig .tc := ⟨.hbm, 98, rfl⟩
abbrev main_call2_v3 : Ref sig .tc := ⟨.hbm, 99, rfl⟩
abbrev main_call2_v4 : Ref sig .tc := ⟨.hbm, 100, rfl⟩
abbrev main_v65 : Ref sig .tc := ⟨.hbm, 101, rfl⟩
abbrev main_c_12 : Ref sig .tc := ⟨.hbm, 102, rfl⟩
abbrev main_v66 : Ref sig .tc := ⟨.hbm, 103, rfl⟩
abbrev main_v67 : Ref sig .tc := ⟨.hbm, 104, rfl⟩
abbrev main_c_13 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_c_14 : Ref sig .tc := ⟨.hbm, 109, rfl⟩
abbrev main_v71 : Ref sig .tc := ⟨.hbm, 110, rfl⟩
abbrev main_v72 : Ref sig .tc := ⟨.hbm, 111, rfl⟩
abbrev main_c_15 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_c_16 : Ref sig .tc := ⟨.hbm, 116, rfl⟩
abbrev main_v76 : Ref sig .tc := ⟨.hbm, 117, rfl⟩
abbrev main_v77 : Ref sig .tc := ⟨.hbm, 118, rfl⟩
abbrev main_c_17 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_c_18 : Ref sig .tc := ⟨.hbm, 123, rfl⟩
abbrev main_v81 : Ref sig .tc := ⟨.hbm, 124, rfl⟩
abbrev main_v82 : Ref sig .tc := ⟨.hbm, 125, rfl⟩
abbrev main_c_19 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_cst : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_cst_20 : Ref sig .tc := ⟨.hbm, 145, rfl⟩
abbrev main_call3_v0 : Ref sig .tc := ⟨.hbm, 146, rfl⟩
abbrev main_call3_v1 : Ref sig .tc := ⟨.hbm, 147, rfl⟩
abbrev main_call3_v2 : Ref sig .tc := ⟨.hbm, 148, rfl⟩
abbrev main_v100 : Ref sig .tc := ⟨.hbm, 149, rfl⟩
abbrev main_cst_21 : Ref sig .tc := ⟨.hbm, 150, rfl⟩
abbrev main_v101 : Ref sig .tc := ⟨.hbm, 151, rfl⟩
abbrev main_cst_22 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_cst_23 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩

abbrev nD : Nat := 1
abbrev τ : Topo := Topo.v7x

variable {F : FTy → Type} [FloatOps F]
-- ==== Kernel2.lean ====
abbrev S8x2048x1024 : Shape := ⟨3, ![8, 2048, 1024]⟩
abbrev S8x2048x512 : Shape := ⟨3, ![8, 2048, 512]⟩
abbrev S8x2048x2048 : Shape := ⟨3, ![8, 2048, 2048]⟩
abbrev S512x1024 : Shape := ⟨2, ![512, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S16384x1024 : Shape := ⟨2, ![16384, 1024]⟩
abbrev S16384x512 : Shape := ⟨2, ![16384, 512]⟩
abbrev S16384x2048 : Shape := ⟨2, ![16384, 2048]⟩
abbrev S1x1024 : Shape := ⟨2, ![1, 1024]⟩
abbrev S512x512 : Shape := ⟨2, ![512, 512]⟩
abbrev S512x2048 : Shape := ⟨2, ![512, 2048]⟩
abbrev S512 : Shape := ⟨1, ![512]⟩
abbrev S512x1 : Shape := ⟨2, ![512, 1]⟩

abbrev nBuf : Space → Nat
  | .hbm => 18
  | .vmem => 17
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .bf16⟩
  | .hbm, ⟨2, _⟩ => ⟨S8x2048x512, .bf16⟩
  | .hbm, ⟨3, _⟩ => ⟨S8x2048x2048, .f32⟩
  | .hbm, ⟨4, _⟩ => ⟨S512x1024, .bf16⟩
  | .hbm, ⟨5, _⟩ => ⟨S512x1024, .bf16⟩
  | .hbm, ⟨6, _⟩ => ⟨S1024x1024, .bf16⟩
  | .hbm, ⟨7, _⟩ => ⟨S1024, .f32⟩
  | .hbm, ⟨8, _⟩ => ⟨S1024x4096, .bf16⟩
  | .hbm, ⟨9, _⟩ => ⟨S4096x1024, .bf16⟩
  | .hbm, ⟨10, _⟩ => ⟨S1024, .f32⟩
  | .hbm, ⟨11, _⟩ => ⟨S16384x1024, .f32⟩
  | .hbm, ⟨12, _⟩ => ⟨S16384x512, .bf16⟩
  | .hbm, ⟨13, _⟩ => ⟨S16384x512, .bf16⟩
  | .hbm, ⟨14, _⟩ => ⟨S16384x2048, .f32⟩
  | .hbm, ⟨15, _⟩ => ⟨S1x1024, .f32⟩
  | .hbm, ⟨16, _⟩ => ⟨S1x1024, .f32⟩
  | .hbm, ⟨17, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x2048, .f32⟩
  | .local _ .vmem, ⟨7, _⟩ => ⟨S512x2048, .f32⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1x1024, .f32⟩
  | .local _ .vmem, ⟨12, _⟩ => ⟨S1024x4096, .bf16⟩
  | .local _ .vmem, ⟨13, _⟩ => ⟨S4096x1024, .bf16⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4096x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference2Ideal.lean ====
abbrev S8x2048x1024 : Shape := ⟨3, ![8, 2048, 1024]⟩
abbrev S8x2048x512 : Shape := ⟨3, ![8, 2048, 512]⟩
abbrev S8x2048x2048 : Shape := ⟨3, ![8, 2048, 2048]⟩
abbrev S512x1024 : Shape := ⟨2, ![512, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x4096 : Shape := ⟨3, ![8, 2048, 4096]⟩
abbrev S16384x1024 : Shape := ⟨2, ![16384, 1024]⟩

abbrev nBuf : Space → Nat
  | .hbm => 83
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .bf16⟩
  | .hbm, ⟨2, _⟩ => ⟨S8x2048x512, .bf16⟩
  | .hbm, ⟨3, _⟩ => ⟨S8x2048x2048, .f32⟩
  | .hbm, ⟨4, _⟩ => ⟨S512x1024, .bf16⟩
  | .hbm, ⟨5, _⟩ => ⟨S512x1024, .bf16⟩
  | .hbm, ⟨6, _⟩ => ⟨S1024x1024, .bf16⟩
  | .hbm, ⟨7, _⟩ => ⟨S1024, .f32⟩
  | .hbm, ⟨8, _⟩ => ⟨S1024x4096, .bf16⟩
  | .hbm, ⟨9, _⟩ => ⟨S4096x1024, .bf16⟩
  | .hbm, ⟨10, _⟩ => ⟨S1024, .f32⟩
  | .hbm, ⟨11, _⟩ => ⟨S8x2048x1024, .f32⟩
  | .hbm, ⟨12, _⟩ => ⟨S8x2048x1024, .f32⟩
  | .hbm, ⟨13, _⟩ => ⟨S8x2048x512, .f32⟩
  | .hbm, ⟨14, _⟩ => ⟨S512x1024, .f32⟩
  | .hbm, ⟨15, _⟩ => ⟨S8x2048x1024, .f32⟩
  | .hbm, ⟨16, _⟩ => ⟨S8x2048x512, .f32⟩
  | .hbm, ⟨17, _⟩ => ⟨S512x1024, .f32⟩
  | .hbm, ⟨18, _⟩ => ⟨S8x2048x1024, .f32⟩
  | .hbm, ⟨19, _⟩ => ⟨S8x2048x1024, .f32⟩
  | .hbm, ⟨20, _⟩ => ⟨S8x2048x1024, .f32⟩
  | .hbm, ⟨21, _⟩ => ⟨S_, .f32⟩
  | .hbm, ⟨22, _⟩ => ⟨S8x2048x1024, .f32⟩
  | .hbm, ⟨23, _⟩ => ⟨S8x2048x1024, .f32⟩
  | .hbm, ⟨24, _⟩ => ⟨S_, .f32⟩
  | .hbm, ⟨25, _⟩ => ⟨S8x2048x1024, .f32⟩
  | .hbm, ⟨26, _⟩ => ⟨S8x2048x1024, .f32⟩
  | .hbm, ⟨27, _⟩ => ⟨S8x2048x1024, .f32⟩
  | .hbm, ⟨28, _⟩ => ⟨S8x2048x1024, .f32⟩
  | .hbm, ⟨29, _⟩ => ⟨S8x2048x1024, .f32⟩
  | .hbm, ⟨30, _⟩ => ⟨S_, .f32⟩
  | .hbm, ⟨31, _⟩ => ⟨S8x2048x1024, .f32⟩
  | .hbm, ⟨32, _⟩ => ⟨S8x2048x1024, .f32⟩
  | .hbm, ⟨33, _⟩ => ⟨S_, .f32⟩
  | .hbm, ⟨34, _⟩ => ⟨S8x2048x1024, .f32⟩
  | .hbm, ⟨35, _⟩ => ⟨S8x2048x1024, .f32⟩
  | .hbm, ⟨36, _⟩ => ⟨S8x2048x1024, .f32⟩
  | .hbm, ⟨37, _⟩ => ⟨S8x2048x1024, .f32⟩
  | .hbm, ⟨38, _⟩ => ⟨S1024x1024, .f32⟩
  | .hbm, ⟨39, _⟩ => ⟨S8x2048x1024, .f32⟩
  | .hbm, ⟨40, _⟩ => ⟨S8x2048x1024, .f32⟩
  | .hbm, ⟨41, _⟩ => ⟨S8x2048x1024, .f32⟩
  | .hbm, ⟨42, _⟩ => ⟨S_, .f32⟩
  | .hbm, ⟨43, _⟩ => ⟨S8x2048, .f32⟩
  | .hbm, ⟨44, _⟩ => ⟨S8x2048x1, .f32⟩
  | .hbm, ⟨45, _⟩ => ⟨S_, .f32⟩
  | .hbm, ⟨46, _⟩ => ⟨S8x2048x1, .f32⟩
  | .hbm, ⟨47, _⟩ => ⟨S8x2048x1, .f32⟩
  | .hbm, ⟨48, _⟩ => ⟨S_, .f32⟩
  | .hbm, ⟨49, _⟩ => ⟨S8x2048x1, .f32⟩
  | .hbm, ⟨50, _⟩ => ⟨S8x2048x1, .f32⟩
  | .hbm, ⟨51, _⟩ => ⟨S8x2048x1, .f32⟩
  | .hbm, ⟨52, _⟩ => ⟨S8x2048x1024, .f32⟩
  | .hbm, ⟨53, _⟩ => ⟨S8x2048x1024, .f32⟩
  | .hbm, ⟨54, _⟩ => ⟨S1x1x1024, .f32⟩
  | .hbm, ⟨55, _⟩ => ⟨S8x2048x1024, .f32⟩
  | .hbm, ⟨56, _⟩ => ⟨S8x2048x1024, .f32⟩
  | .hbm, ⟨57, _⟩ => ⟨S1024x4096, .f32⟩
  | .hbm, ⟨58, _⟩ => ⟨S8x2048x4096, .f32⟩
  | .hbm, ⟨59, _⟩ => ⟨S_, .f32⟩
  | .hbm, ⟨60, _⟩ => ⟨S8x2048x4096, .f32⟩
  | .hbm, ⟨61, _⟩ => ⟨S8x2048x4096, .f32⟩
  | .hbm, ⟨62, _⟩ => ⟨S8x2048x4096, .f32⟩
  | .hbm, ⟨63, _⟩ => ⟨S4096x1024, .f32⟩
  | .hbm, ⟨64, _⟩ => ⟨S8x2048x1024, .f32⟩
  | .hbm, ⟨65, _⟩ => ⟨S8x2048x1024, .f32⟩
  | .hbm, ⟨66, _⟩ => ⟨S8x2048x1024, .f32⟩
  | .hbm, ⟨67, _⟩ => ⟨S_, .f32⟩
  | .hbm, ⟨68, _⟩ => ⟨S8x2048, .f32⟩
  | .hbm, ⟨69, _⟩ => ⟨S8x2048x1, .f32⟩
  | .hbm, ⟨70, _⟩ => ⟨S_, .f32⟩
  | .hbm, ⟨71, _⟩ => ⟨S8x2048x1, .f32⟩
  | .hbm, ⟨72, _⟩ => ⟨S8x2048x1, .f32⟩
  | .hbm, ⟨73, _⟩ => ⟨S_, .f32⟩
  | .hbm, ⟨74, _⟩ => ⟨S8x2048x1, .f32⟩
  | .hbm, ⟨75, _⟩ => ⟨S8x2048x1, .f32⟩
  | .hbm, ⟨76, _⟩ => ⟨S8x2048x1, .f32⟩
  | .hbm, ⟨77, _⟩ => ⟨S8x2048x1024, .f32⟩
  | .hbm, ⟨78, _⟩ => ⟨S8x2048x1024, .f32⟩
  | .hbm, ⟨79, _⟩ => ⟨S1x1x1024, .f32⟩
  | .hbm, ⟨80, _⟩ => ⟨S8x2048x1024, .f32⟩
  | .hbm, ⟨81, _⟩ => ⟨S8x2048x1024, .f32⟩
  | .hbm, ⟨82, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_v30 : Ref sig .tc := ⟨.hbm, 47, rfl⟩
abbrev main_cst_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_call0_cst : Ref sig .tc := ⟨.hbm, 59, rfl⟩
abbrev main_call0_v0 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_6 : Ref sig .tc := ⟨.hbm, 67, rfl⟩
abbrev main_v47 : Ref sig .tc := ⟨.hbm, 68, rfl⟩
abbrev main_v48 : Ref sig .tc := ⟨.hbm, 69, rfl⟩
abbrev main_cst_7 : Ref sig .tc := ⟨.hbm, 70, rfl⟩
abbrev main_v49 : Ref sig .tc := ⟨.hbm, 71, rfl⟩
abbrev main_v50 : Ref sig .tc := ⟨.hbm, 72, rfl⟩
abbrev main_cst_8 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩

abbrev nD : Nat := 1
abbrev τ : Topo := Topo.v7x

variable {F : FTy → Type} [FloatOps F]
-- ==== Kernel3.lean ====
abbrev S8x2048x1024 : Shape := ⟨3, ![8, 2048, 1024]⟩
abbrev S1024 : Shape := ⟨1, ![1024]⟩
abbrev S1024x5120 : Shape := ⟨2, ![1024, 5120]⟩
abbrev S16384x1024 : Shape := ⟨2, ![16384, 1024]⟩
abbrev S1x1024 : Shape := ⟨2, ![1, 1024]⟩
abbrev S16384x3072 : Shape := ⟨2, ![16384, 3072]⟩
abbrev S16384x2048 : Shape := ⟨2, ![16384, 2048]⟩
abbrev S1024x1024 : Shape := ⟨2, ![1024, 1024]⟩
abbrev S1024x3072 : Shape := ⟨2, ![1024, 3072]⟩
abbrev S1024x2048 : Shape := ⟨2, ![1024, 2048]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 8
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x5120, .bf16⟩
  | .hbm, ⟨3, _⟩ => ⟨S16384x1024, .f32⟩
  | .hbm, ⟨4, _⟩ => ⟨S1x1024, .f32⟩
  | .hbm, ⟨5, _⟩ => ⟨S16384x3072, .bf16⟩
  | .hbm, ⟨6, _⟩ => ⟨S16384x2048, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x5120, .bf16⟩
  | .local _ .vmem, ⟨4, _⟩ => ⟨S1024x3072, .bf16⟩
  | .local _ .vmem, ⟨5, _⟩ => ⟨S1024x3072, .bf16⟩
  | .local _ .vmem, ⟨6, _⟩ => ⟨S1024x2048, .f32⟩
  | .local _ .vmem, ⟨7, _⟩ => ⟨S1024x2048, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5120 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S8x2048x1024 : Shape := ⟨3, ![8, 2048, 1024]⟩
abbrev S1024 : Shape := ⟨1, ![1024]⟩
abbrev S1024x5120 : Shape := ⟨2, ![1024, 5120]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x5120 : Shape := ⟨3, ![8, 2048, 5120]⟩
abbrev S16384x5120 : Shape := ⟨2, ![16384, 5120]⟩
abbrev S16384x3072 : Shape := ⟨2, ![16384, 3072]⟩
abbrev S16384x2048 : Shape := ⟨2, ![16384, 2048]⟩

abbrev nBuf : Space → Nat
  | .hbm => 25
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x5120, .bf16⟩
  | .hbm, ⟨3, _⟩ => ⟨S8x2048x1024, .f32⟩
  | .hbm, ⟨4, _⟩ => ⟨S_, .f32⟩
  | .hbm, ⟨5, _⟩ => ⟨S8x2048, .f32⟩
  | .hbm, ⟨6, _⟩ => ⟨S8x2048x1, .f32⟩
  | .hbm, ⟨7, _⟩ => ⟨S_, .f32⟩
  | .hbm, ⟨8, _⟩ => ⟨S8x2048x1, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S8x2048x1, .f32⟩
  | .hbm, ⟨14, _⟩ => ⟨S8x2048x1024, .f32⟩
  | .hbm, ⟨15, _⟩ => ⟨S8x2048x1024, .f32⟩
  | .hbm, ⟨16, _⟩ => ⟨S1x1x1024, .f32⟩
  | .hbm, ⟨17, _⟩ => ⟨S8x2048x1024, .f32⟩
  | .hbm, ⟨18, _⟩ => ⟨S8x2048x1024, .f32⟩
  | .hbm, ⟨19, _⟩ => ⟨S1024x5120, .f32⟩
  | .hbm, ⟨20, _⟩ => ⟨S8x2048x5120, .f32⟩
  | .hbm, ⟨21, _⟩ => ⟨S16384x5120, .f32⟩
  | .hbm, ⟨22, _⟩ => ⟨S16384x3072, .f32⟩
  | .hbm, ⟨23, _⟩ => ⟨S16384x3072, .bf16⟩
  | .hbm, ⟨24, _⟩ => ⟨S16384x2048, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Kernel4.lean ====
abbrev S8x2048x1024 : Shape := ⟨3, ![8, 2048, 1024]⟩
abbrev S8x2048x512 : Shape := ⟨3, ![8, 2048, 512]⟩
abbrev S8x2048x2048 : Shape := ⟨3, ![8, 2048, 2048]⟩
abbrev S512x1024 : Shape := ⟨2, ![512, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S16384x1024 : Shape := ⟨2, ![16384, 1024]⟩
abbrev S16384x512 : Shape := ⟨2, ![16384, 512]⟩
abbrev S16384x2048 : Shape := ⟨2, ![16384, 2048]⟩
abbrev S1x1024 : Shape := ⟨2, ![1, 1024]⟩
abbrev S512x512 : Shape := ⟨2, ![512, 512]⟩
abbrev S512x2048 : Shape := ⟨2, ![512, 2048]⟩
abbrev S512 : Shape := ⟨1, ![512]⟩
abbrev S512x1 : Shape := ⟨2, ![512, 1]⟩

abbrev nBuf : Space → Nat
  | .hbm => 18
  | .vmem => 17
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .bf16⟩
  | .hbm, ⟨2, _⟩ => ⟨S8x2048x512, .bf16⟩
  | .hbm, ⟨3, _⟩ => ⟨S8x2048x2048, .f32⟩
  | .hbm, ⟨4, _⟩ => ⟨S512x1024, .bf16⟩
  | .hbm, ⟨5, _⟩ => ⟨S512x1024, .bf16⟩
  | .hbm, ⟨6, _⟩ => ⟨S1024x1024, .bf16⟩
  | .hbm, ⟨7, _⟩ => ⟨S1024, .f32⟩
  | .hbm, ⟨8, _⟩ => ⟨S1024x4096, .bf16⟩
  | .hbm, ⟨9, _⟩ => ⟨S4096x1024, .bf16⟩
  | .hbm, ⟨10, _⟩ => ⟨S1024, .f32⟩
  | .hbm, ⟨11, _⟩ => ⟨S16384x1024, .f32⟩
  | .hbm, ⟨12, _⟩ => ⟨S16384x512, .bf16⟩
  | .hbm, ⟨13, _⟩ => ⟨S16384x512, .bf16⟩
  | .hbm, ⟨14, _⟩ => ⟨S16384x2048, .f32⟩
  | .hbm, ⟨15, _⟩ => ⟨S1x1024, .f32⟩
  | .hbm, ⟨16, _⟩ => ⟨S1x1024, .f32⟩
  | .hbm, ⟨17, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x2048, .f32⟩
  | .local _ .vmem, ⟨7, _⟩ => ⟨S512x2048, .f32⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1x1024, .f32⟩
  | .local _ .vmem, ⟨12, _⟩ => ⟨S1024x4096, .bf16⟩
  | .local _ .vmem, ⟨13, _⟩ => ⟨S4096x1024, .bf16⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4096x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference4Ideal.lean ====
abbrev S8x2048x1024 : Shape := ⟨3, ![8, 2048, 1024]⟩
abbrev S8x2048x512 : Shape := ⟨3, ![8, 2048, 512]⟩
abbrev S8x2048x2048 : Shape := ⟨3, ![8, 2048, 2048]⟩
abbrev S512x1024 : Shape := ⟨2, ![512, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x4096 : Shape := ⟨3, ![8, 2048, 4096]⟩
abbrev S16384x1024 : Shape := ⟨2, ![16384, 1024]⟩

abbrev nBuf : Space → Nat
  | .hbm => 67
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .bf16⟩
  | .hbm, ⟨2, _⟩ => ⟨S8x2048x512, .bf16⟩
  | .hbm, ⟨3, _⟩ => ⟨S8x2048x2048, .f32⟩
  | .hbm, ⟨4, _⟩ => ⟨S512x1024, .bf16⟩
  | .hbm, ⟨5, _⟩ => ⟨S512x1024, .bf16⟩
  | .hbm, ⟨6, _⟩ => ⟨S1024x1024, .bf16⟩
  | .hbm, ⟨7, _⟩ => ⟨S1024, .f32⟩
  | .hbm, ⟨8, _⟩ => ⟨S1024x4096, .bf16⟩
  | .hbm, ⟨9, _⟩ => ⟨S4096x1024, .bf16⟩
  | .hbm, ⟨10, _⟩ => ⟨S1024, .f32⟩
  | .hbm, ⟨11, _⟩ => ⟨S8x2048x1024, .f32⟩
  | .hbm, ⟨12, _⟩ => ⟨S8x2048x1024, .f32⟩
  | .hbm, ⟨13, _⟩ => ⟨S8x2048x512, .f32⟩
  | .hbm, ⟨14, _⟩ => ⟨S512x1024, .f32⟩
  | .hbm, ⟨15, _⟩ => ⟨S8x2048x1024, .f32⟩
  | .hbm, ⟨16, _⟩ => ⟨S8x2048x512, .f32⟩
  | .hbm, ⟨17, _⟩ => ⟨S512x1024, .f32⟩
  | .hbm, ⟨18, _⟩ => ⟨S8x2048x1024, .f32⟩
  | .hbm, ⟨19, _⟩ => ⟨S8x2048x1024, .f32⟩
  | .hbm, ⟨20, _⟩ => ⟨S8x2048x1024, .f32⟩
  | .hbm, ⟨21, _⟩ => ⟨S_, .f32⟩
  | .hbm, ⟨22, _⟩ => ⟨S8x2048x1024, .f32⟩
  | .hbm, ⟨23, _⟩ => ⟨S8x2048x1024, .f32⟩
  | .hbm, ⟨24, _⟩ => ⟨S_, .f32⟩
  | .hbm, ⟨25, _⟩ => ⟨S8x2048x1024, .f32⟩
  | .hbm, ⟨26, _⟩ => ⟨S8x2048x1024, .f32⟩
  | .hbm, ⟨27, _⟩ => ⟨S8x2048x1024, .f32⟩
  | .hbm, ⟨28, _⟩ => ⟨S8x2048x1024, .f32⟩
  | .hbm, ⟨29, _⟩ => ⟨S8x2048x1024, .f32⟩
  | .hbm, ⟨30, _⟩ => ⟨S_, .f32⟩
  | .hbm, ⟨31, _⟩ => ⟨S8x2048x1024, .f32⟩
  | .hbm, ⟨32, _⟩ => ⟨S8x2048x1024, .f32⟩
  | .hbm, ⟨33, _⟩ => ⟨S_, .f32⟩
  | .hbm, ⟨34, _⟩ => ⟨S8x2048x1024, .f32⟩
  | .hbm, ⟨35, _⟩ => ⟨S8x2048x1024, .f32⟩
  | .hbm, ⟨36, _⟩ => ⟨S8x2048x1024, .f32⟩
  | .hbm, ⟨37, _⟩ => ⟨S8x2048x1024, .f32⟩
  | .hbm, ⟨38, _⟩ => ⟨S1024x1024, .f32⟩
  | .hbm, ⟨39, _⟩ => ⟨S8x2048x1024, .f32⟩
  | .hbm, ⟨40, _⟩ => ⟨S8x2048x1024, .f32⟩
  | .hbm, ⟨41, _⟩ => ⟨S8x2048x1024, .f32⟩
  | .hbm, ⟨42, _⟩ => ⟨S_, .f32⟩
  | .hbm, ⟨43, _⟩ => ⟨S8x2048, .f32⟩
  | .hbm, ⟨44, _⟩ => ⟨S8x2048x1, .f32⟩
  | .hbm, ⟨45, _⟩ => ⟨S_, .f32⟩
  | .hbm, ⟨46, _⟩ => ⟨S8x2048x1, .f32⟩
  | .hbm, ⟨47, _⟩ => ⟨S8x2048x1, .f32⟩
  | .hbm, ⟨48, _⟩ => ⟨S_, .f32⟩
  | .hbm, ⟨49, _⟩ => ⟨S8x2048x1, .f32⟩
  | .hbm, ⟨50, _⟩ => ⟨S8x2048x1, .f32⟩
  | .hbm, ⟨51, _⟩ => ⟨S8x2048x1, .f32⟩
  | .hbm, ⟨52, _⟩ => ⟨S8x2048x1024, .f32⟩
  | .hbm, ⟨53, _⟩ => ⟨S8x2048x1024, .f32⟩
  | .hbm, ⟨54, _⟩ => ⟨S1x1x1024, .f32⟩
  | .hbm, ⟨55, _⟩ => ⟨S8x2048x1024, .f32⟩
  | .hbm, ⟨56, _⟩ => ⟨S8x2048x1024, .f32⟩
  | .hbm, ⟨57, _⟩ => ⟨S1024x4096, .f32⟩
  | .hbm, ⟨58, _⟩ => ⟨S8x2048x4096, .f32⟩
  | .hbm, ⟨59, _⟩ => ⟨S_, .f32⟩
  | .hbm, ⟨60, _⟩ => ⟨S8x2048x4096, .f32⟩
  | .hbm, ⟨61, _⟩ => ⟨S8x2048x4096, .f32⟩
  | .hbm, ⟨62, _⟩ => ⟨S8x2048x4096, .f32⟩
  | .hbm, ⟨63, _⟩ => ⟨S4096x1024, .f32⟩
  | .hbm, ⟨64, _⟩ => ⟨S8x2048x1024, .f32⟩
  | .hbm, ⟨65, _⟩ => ⟨S8x2048x1024, .f32⟩
  | .hbm, ⟨66, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_v30 : Ref sig .tc := ⟨.hbm, 47, rfl⟩
abbrev main_cst_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_call0_cst : Ref sig .tc := ⟨.hbm, 59, rfl⟩
abbrev main_call0_v0 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩

abbrev nD : Nat := 1
abbrev τ : Topo := Topo.v7x

variable {F : FTy → Type} [FloatOps F]
-- ==== Kernel5.lean ====
abbrev S8x2048x3072 : Shape := ⟨3, ![8, 2048, 3072]⟩
abbrev S2x8x15x31 : Shape := ⟨4, ![2, 8, 15, 31]⟩
abbrev S2x1024x5120 : Shape := ⟨3, ![2, 1024, 5120]⟩
abbrev S2x512x1024 : Shape := ⟨3, ![2, 512, 1024]⟩
abbrev S2x1024x1024 : Shape := ⟨3, ![2, 1024, 1024]⟩
abbrev S2x1024x4096 : Shape := ⟨3, ![2, 1024, 4096]⟩
abbrev S2x4096x1024 : Shape := ⟨3, ![2, 4096, 1024]⟩
abbrev S_ : Shape := ⟨0, ![]⟩
abbrev S2x8x15x128 : Shape := ⟨4, ![2, 8, 15, 128]⟩
abbrev S2x8x15x113 : Shape := ⟨4, ![2, 8, 15, 113]⟩
abbrev S2x8x15x15 : Shape := ⟨4, ![2, 8, 15, 15]⟩
abbrev S32x64x5120 : Shape := ⟨3, ![32, 64, 5120]⟩
abbrev S2x3x8x256x768 : Shape := ⟨5, ![2, 3, 8, 256, 768]⟩
abbrev S16x64x5120 : Shape := ⟨3, ![16, 64, 5120]⟩
abbrev S1x1x15x128 : Shape := ⟨4, ![1, 1, 15, 128]⟩
abbrev S1x64x5120 : Shape := ⟨3, ![1, 64, 5120]⟩
abbrev S1x3x1x256x768 : Shape := ⟨5, ![1, 3, 1, 256, 768]⟩
abbrev S64x128 : Shape := ⟨2, ![64, 128]⟩
abbrev S1x1x1x128 : Shape := ⟨4, ![1, 1, 1, 128]⟩
abbrev S1x128 : Shape := ⟨2, ![1, 128]⟩
abbrev S1x1x1x64x128 : Shape := ⟨5, ![1, 1, 1, 64, 128]⟩
abbrev S64x5120 : Shape := ⟨2, ![64, 5120]⟩
abbrev S1024x5120 : Shape := ⟨2, ![1024, 5120]⟩
abbrev S32x32x1024 : Shape := ⟨3, ![32, 32, 1024]⟩
abbrev S32x64x1024 : Shape := ⟨3, ![32, 64, 1024]⟩
abbrev S32x64x4096 : Shape := ⟨3, ![32, 64, 4096]⟩
abbrev S32x256x1024 : Shape := ⟨3, ![32, 256, 1024]⟩
abbrev S8x2048x512 : Shape := ⟨3, ![8, 2048, 512]⟩
abbrev S16x32x1024 : Shape := ⟨3, ![16, 32, 1024]⟩
abbrev S16x64x1024 : Shape := ⟨3, ![16, 64, 1024]⟩
abbrev S16x64x4096 : Shape := ⟨3, ![16, 64, 4096]⟩
abbrev S16x256x1024 : Shape := ⟨3, ![16, 256, 1024]⟩
abbrev S4x256x512 : Shape := ⟨3, ![4, 256, 512]⟩
abbrev S1x1x8x256x768 : Shape := ⟨5, ![1, 1, 8, 256, 768]⟩
abbrev S1x32x1024 : Shape := ⟨3, ![1, 32, 1024]⟩
abbrev S1x64x1024 : Shape := ⟨3, ![1, 64, 1024]⟩
abbrev S1x64x4096 : Shape := ⟨3, ![1, 64, 4096]⟩
abbrev S1x256x1024 : Shape := ⟨3, ![1, 256, 1024]⟩
abbrev S32x1024 : Shape := ⟨2, ![32, 1024]⟩
abbrev S64x1024 : Shape := ⟨2, ![64, 1024]⟩
abbrev S64x4096 : Shape := ⟨2, ![64, 4096]⟩
abbrev S256x1024 : Shape := ⟨2, ![256, 1024]⟩
abbrev S256x128 : Shape := ⟨2, ![256, 128]⟩
abbrev S1x256x128 : Shape := ⟨3, ![1, 256, 128]⟩
abbrev S768x128 : Shape := ⟨2, ![768, 128]⟩
abbrev S768x256 : Shape := ⟨2, ![768, 256]⟩
abbrev S256x768 : Shape := ⟨2, ![256, 768]⟩
abbrev S1x1x1x256x768 : Shape := ⟨5, ![1, 1, 1, 256, 768]⟩
abbrev S256 : Shape := ⟨1, ![256]⟩
abbrev S256x1 : Shape := ⟨2, ![256, 1]⟩
abbrev S256x256 : Shape := ⟨2, ![256, 256]⟩
abbrev S512x1024 : Shape := ⟨2, ![512, 1024]⟩
abbrev S1024x1024 : Shape := ⟨2, ![1024, 1024]⟩
abbrev S1024x4096 : Shape := ⟨2, ![1024, 4096]⟩
abbrev S4096x1024 : Shape := ⟨2, ![4096, 1024]⟩

abbrev nBuf : Space → Nat
  | .hbm => 34
  | .vmem => 46
  | .smem => 0
  | _ => 0

abbrev bufTy : (tb : Table) → Fin (tcTables nBuf tb) → BufTy
  | .hbm, ⟨0, _⟩ => ⟨S8x2048x3072, .bf16⟩
  | .hbm, ⟨1, _⟩ => ⟨S2x8x15x31, .f32⟩
  | .hbm, ⟨2, _⟩ => ⟨S2x1024x5120, .f32⟩
  | .hbm, ⟨3, _⟩ => ⟨S2x512x1024, .f32⟩
  | .hbm, ⟨4, _⟩ => ⟨S2x512x1024, .f32⟩
  | .hbm, ⟨5, _⟩ => ⟨S2x1024x1024, .f32⟩
  | .hbm, ⟨6, _⟩ => ⟨S2x1024x4096, .f32⟩
  | .hbm, ⟨7, _⟩ => ⟨S2x4096x1024, .f32⟩
  | .hbm, ⟨8, _⟩ => ⟨S_, .f32⟩
  | .hbm, ⟨9, _⟩ => ⟨S_, .f32⟩
  | .hbm, ⟨10, _⟩ => ⟨S2x8x15x128, .f32⟩
  | .hbm, ⟨11, _⟩ => ⟨S2x8x15x113, .f32⟩
  | .hbm, ⟨12, _⟩ => ⟨S2x8x15x15, .f32⟩
  | .hbm, ⟨13, _⟩ => ⟨S2x8x15x128, .f32⟩
  | .hbm, ⟨14, _⟩ => ⟨S32x64x5120, .f32⟩
  | .hbm, ⟨15, _⟩ => ⟨S2x3x8x256x768, .f32⟩
  | .hbm, ⟨16, _⟩ => ⟨S16x64x5120, .bf16⟩
  | .hbm, ⟨17, _⟩ => ⟨S1024x5120, .bf16⟩
  | .hbm, ⟨18, _⟩ => ⟨S32x32x1024, .f32⟩
  | .hbm, ⟨19, _⟩ => ⟨S32x32x1024, .f32⟩
  | .hbm, ⟨20, _⟩ => ⟨S32x64x1024, .f32⟩
  | .hbm, ⟨21, _⟩ => ⟨S32x64x4096, .f32⟩
  | .hbm, ⟨22, _⟩ => ⟨S32x256x1024, .f32⟩
  | .hbm, ⟨23, _⟩ => ⟨S8x2048x512, .bf16⟩
  | .hbm, ⟨24, _⟩ => ⟨S16x32x1024, .bf16⟩
  | .hbm, ⟨25, _⟩ => ⟨S16x32x1024, .bf16⟩
  | .hbm, ⟨26, _⟩ => ⟨S16x64x1024, .bf16⟩
  | .hbm, ⟨27, _⟩ => ⟨S16x64x4096, .bf16⟩
  | .hbm, ⟨28, _⟩ => ⟨S16x256x1024, .bf16⟩
  | .hbm, ⟨29, _⟩ => ⟨S512x1024, .bf16⟩
  | .hbm, ⟨30, _⟩ => ⟨S512x1024, .bf16⟩
  | .hbm, ⟨31, _⟩ => ⟨S1024x1024, .bf16⟩
  | .hbm, ⟨32, _⟩ => ⟨S1024x4096, .bf16⟩
  | .hbm, ⟨33, _⟩ => ⟨S4096x1024, .bf16⟩
  | .local _ .vmem, ⟨0, _⟩ => ⟨S1x1x15x128, .f32⟩
  | .local _ .vmem, ⟨1, _⟩ => ⟨S1x1x15x128, .f32⟩
  | .local _ .vmem, ⟨2, _⟩ => ⟨S1x64x5120, .f32⟩
  | .local _ .vmem, ⟨3, _⟩ => ⟨S1x64x5120, .f32⟩
  | .local _ .vmem, ⟨4, _⟩ => ⟨S1x3x1x256x768, .f32⟩
  | .local _ .vmem, ⟨5, _⟩ => ⟨S1x3x1x256x768, .f32⟩
  | .local _ .vmem, ⟨6, _⟩ => ⟨S1x64x5120, .bf16⟩
  | .local _ .vmem, ⟨7, _⟩ => ⟨S1x64x5120, .bf16⟩
  | .local _ .vmem, ⟨8, _⟩ => ⟨S4x256x512, .bf16⟩
  | .local _ .vmem, ⟨9, _⟩ => ⟨S4x256x512, .bf16⟩
  | .local _ .vmem, ⟨10, _⟩ => ⟨S4x256x512, .bf16⟩
  | .local _ .vmem, ⟨11, _⟩ => ⟨S4x256x512, .bf16⟩
  | .local _ .vmem, ⟨12, _⟩ => ⟨S4x256x512, .bf16⟩
  | .local _ .vmem, ⟨13, _⟩ => ⟨S4x256x512, .bf16⟩
  | .local _ .vmem, ⟨14, _⟩ => ⟨S4x256x512, .bf16⟩
  | .local _ .vmem, ⟨15, _⟩ => ⟨S4x256x512, .bf16⟩
  | .local _ .vmem, ⟨16, _⟩ => ⟨S4x256x512, .bf16⟩
  | .local _ .vmem, ⟨17, _⟩ => ⟨S4x256x512, .bf16⟩
  | .local _ .vmem, ⟨18, _⟩ => ⟨S4x256x512, .bf16⟩
  | .local _ .vmem, ⟨19, _⟩ => ⟨S4x256x512, .bf16⟩
  | .local _ .vmem, ⟨20, _⟩ => ⟨S4x256x512, .bf16⟩
  | .local _ .vmem, ⟨21, _⟩ => ⟨S4x256x512, .bf16⟩
  | .local _ .vmem, ⟨22, _⟩ => ⟨S1x1x8x256x768, .f32⟩
  | .local _ .vmem, ⟨23, _⟩ => ⟨S1x1x8x256x768, .f32⟩
  | .local _ .vmem, ⟨24, _⟩ => ⟨S1x32x1024, .f32⟩
  | .local _ .vmem, ⟨25, _⟩ => ⟨S1x32x1024, .f32⟩
  | .local _ .vmem, ⟨26, _⟩ => ⟨S1x32x1024, .f32⟩
  | .local _ .vmem, ⟨27, _⟩ => ⟨S1x32x1024, .f32⟩
  | .local _ .vmem, ⟨28, _⟩ => ⟨S1x64x1024, .f32⟩
  | .local _ .vmem, ⟨29, _⟩ => ⟨S1x64x1024, .f32⟩
  | .local _ .vmem, ⟨30, _⟩ => ⟨S1x64x4096, .f32⟩
  | .local _ .vmem, ⟨31, _⟩ => ⟨S1x64x4096, .f32⟩
  | .local _ .vmem, ⟨32, _⟩ => ⟨S1x256x1024, .f32⟩
  | .local _ .vmem, ⟨33, _⟩ => ⟨S1x256x1024, .f32⟩
  | .local _ .vmem, ⟨34, _⟩ => ⟨S4x256x512, .bf16⟩
  | .local _ .vmem, ⟨35, _⟩ => ⟨S4x256x512, .bf16⟩
  | .local _ .vmem, ⟨36, _⟩ => ⟨S1x32x1024, .bf16⟩
  | .local _ .vmem, ⟨37, _⟩ => ⟨S1x32x1024, .bf16⟩
  | .local _ .vmem, ⟨38, _⟩ => ⟨S1x32x1024, .bf16⟩
  | .local _ .vmem, ⟨39, _⟩ => ⟨S1x32x1024, .bf16⟩
  | .local _ .vmem, ⟨40, _⟩ => ⟨S1x64x1024, .bf16⟩
  | .local _ .vmem, ⟨41, _⟩ => ⟨S1x64x1024, .bf16⟩
  | .local _ .vmem, ⟨42, _⟩ => ⟨S1x64x4096, .bf16⟩
  | .local _ .vmem, ⟨43, _⟩ => ⟨S1x64x4096, .bf16⟩
  | .local _ .vmem, ⟨44, _⟩ => ⟨S1x256x1024, .bf16⟩
  | .local _ .vmem, ⟨45, _⟩ => ⟨S1x256x1024, .bf16⟩
  | _, _ => ⟨S8x2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_call0_v0 : Ref sig .tc := ⟨.hbm, 9, rfl⟩
abbrev main_v0 : Ref sig .tc := ⟨.hbm, 10, rfl⟩
abbrev main_call1_v0 : Ref sig .tc := ⟨.hbm, 11, rfl⟩
abbrev main_call1_v1 : Ref sig .tc := ⟨.hbm, 12, rfl⟩
abbrev main_v1 : Ref sig .tc := ⟨.hbm, 13, rfl⟩
abbrev main_v2 : Ref sig .tc := ⟨.hbm, 14, rfl⟩
abbrev main_v3_0 : Ref sig .tc := ⟨.hbm, 15, rfl⟩
abbrev main_v3_1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10_0 : Ref sig .tc := ⟨.hbm, 23, rfl⟩
abbrev main_v10_1 : Ref sig .tc := ⟨.hbm, 24, rfl⟩
abbrev main_v10_2 : Ref sig .tc := ⟨.hbm, 25, rfl⟩
abbrev main_v10_3 : Ref sig .tc := ⟨.hbm, 26, rfl⟩
abbrev main_v10_4 : Ref sig .tc := ⟨.hbm, 27, rfl⟩
abbrev main_v10_5 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc1_stg8_0 : Ref sig .tc := ⟨.vmem, 24, rfl⟩
abbrev cc1_stg8_1 : Ref sig .tc := ⟨.vmem, 25, rfl⟩
abbrev cc1_stg9_0 : Ref sig .tc := ⟨.vmem, 26, rfl⟩
abbrev cc1_stg9_1 : Ref sig .tc := ⟨.vmem, 27, rfl⟩
abbrev cc1_stg10_0 : Ref sig .tc := ⟨.vmem, 28, rfl⟩
abbrev cc1_stg10_1 : Ref sig .tc := ⟨.vmem, 29, rfl⟩
abbrev cc1_stg11_0 : Ref sig .tc := ⟨.vmem, 30, rfl⟩
abbrev cc1_stg11_1 : Ref sig .tc := ⟨.vmem, 31, rfl⟩
abbrev cc1_stg12_0 : Ref sig .tc := ⟨.vmem, 32, rfl⟩
abbrev cc1_stg12_1 : Ref sig .tc := ⟨.vmem, 33, rfl⟩
abbrev cc1_stg13_0 : Ref sig .tc := ⟨.vmem, 34, rfl⟩
abbrev cc1_stg13_1 : Ref sig .tc := ⟨.vmem, 35, rfl⟩
abbrev cc1_stg14_0 : Ref sig .tc := ⟨.vmem, 36, rfl⟩
abbrev cc1_stg14_1 : Ref sig .tc := ⟨.vmem, 37, rfl⟩
abbrev cc1_stg15_0 : Ref sig .tc := ⟨.vmem, 38, rfl⟩
abbrev cc1_stg15_1 : Ref sig .tc := ⟨.vmem, 39, rfl⟩
abbrev cc1_stg16_0 : Ref sig .tc := ⟨.vmem, 40, rfl⟩
abbrev cc1_stg16_1 : Ref sig .tc := ⟨.vmem, 41, rfl⟩
abbrev cc1_stg17_0 : Ref sig .tc := ⟨.vmem, 42, rfl⟩
abbrev cc1_stg17_1 : Ref sig .tc := ⟨.vmem, 43, rfl⟩
abbrev cc1_stg18_0 : Ref sig .tc := ⟨.vmem, 44, rfl⟩
abbrev cc1_stg18_1 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem6_1 : DmaSem sig := 21
abbrev cc1_sem7_0 : DmaSem sig := 22
abbrev cc1_sem7_1 : DmaSem sig := 23
abbrev cc1_sem8_0 : DmaSem sig := 24
abbrev cc1_sem8_1 : DmaSem sig := 25
abbrev cc1_sem9_0 : DmaSem sig := 26
abbrev cc1_sem9_1 : DmaSem sig := 27
abbrev cc1_sem10_0 : DmaSem sig := 28
abbrev cc1_sem10_1 : DmaSem sig := 29
abbrev cc1_sem11_0 : DmaSem sig := 30
abbrev cc1_sem11_1 : DmaSem sig := 31
abbrev cc1_sem12_0 : DmaSem sig := 32
abbrev cc1_sem12_1 : DmaSem sig := 33
abbrev cc1_sem13_0 : DmaSem sig := 34
abbrev cc1_sem13_1 : DmaSem sig := 35
abbrev cc1_sem14_0 : DmaSem sig := 36
abbrev cc1_sem14_1 : DmaSem sig := 37
abbrev cc1_sem15_0 : DmaSem sig := 38
abbrev cc1_sem15_1 : DmaSem sig := 39
abbrev cc1_sem16_0 : DmaSem sig := 40
abbrev cc1_sem16_1 : DmaSem sig := 41
abbrev cc1_sem17_0 : DmaSem sig := 42
abbrev cc1_sem17_1 : DmaSem sig := 43
abbrev cc1_sem18_0 : DmaSem sig := 44
abbrev cc1_sem18_1 : DmaSem sig := 45

abbrev nD : Nat := 1
abbrev τ : Topo := Topo.v7x

variable {F : FTy → Type} [FloatOps F]

abbrev grid0 : Pipeline.Grid := ⟨2, ![2, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1x1x15x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x5120 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3x1x256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x5120 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![8, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let c5_i32 : BitVec 32 := 5#32
  let v1 : BitVec 32 := Scalar.maxsi c0_i32 v0
  let v2 : BitVec 32 := Scalar.minsi c5_i32 v1
  let c0_i32_0 : BitVec 32 := 0#32
  let v3 : BitVec 32 := Scalar.addi v2 c0_i32_0
  let c1_i32_1 : BitVec 32 := 1#32
  let c0_i32_2 : BitVec 32 := 0#32
  ![arg1.toNat, v3.toNat, c1_i32_1.toNat]

def cc1_transform_2 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let c5_i32 : BitVec 32 := 5#32
  let v1 : BitVec 32 := Scalar.maxsi c0_i32 v0
  let v2 : BitVec 32 := Scalar.minsi c5_i32 v1
  let c1_i32_0 : BitVec 32 := 1#32
  let v3 : BitVec 32 := Scalar.addi v2 c1_i32_0
  let c1_i32_1 : BitVec 32 := 1#32
  let c0_i32_2 : BitVec 32 := 0#32
  ![arg1.toNat, v3.toNat, c1_i32_1.toNat]

def cc1_transform_3 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let c5_i32 : BitVec 32 := 5#32
  let v1 : BitVec 32 := Scalar.maxsi c0_i32 v0
  let v2 : BitVec 32 := Scalar.minsi c5_i32 v1
  let c2_i32 : BitVec 32 := 2#32
  let v3 : BitVec 32 := Scalar.addi v2 c2_i32
  let c1_i32_0 : BitVec 32 := 1#32
  let c0_i32_1 : BitVec 32 := 0#32
  ![arg1.toNat, v3.toNat, c1_i32_0.toNat]

def cc1_transform_4 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let c5_i32 : BitVec 32 := 5#32
  let v1 : BitVec 32 := Scalar.maxsi c0_i32 v0
  let v2 : BitVec 32 := Scalar.minsi c5_i32 v1
  let c0_i32_0 : BitVec 32 := 0#32
  let v3 : BitVec 32 := Scalar.addi v2 c0_i32_0
  let c2_i32 : BitVec 32 := 2#32
  let c0_i32_1 : BitVec 32 := 0#32
  ![arg1.toNat, v3.toNat, c2_i32.toNat]

def cc1_transform_5 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let c5_i32 : BitVec 32 := 5#32
  let v1 : BitVec 32 := Scalar.maxsi c0_i32 v0
  let v2 : BitVec 32 := Scalar.minsi c5_i32 v1
  let c1_i32_0 : BitVec 32 := 1#32
  let v3 : BitVec 32 := Scalar.addi v2 c1_i32_0
  let c2_i32 : BitVec 32 := 2#32
  let c0_i32_1 : BitVec 32 := 0#32
  ![arg1.toNat, v3.toNat, c2_i32.toNat]

def cc1_transform_6 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let c5_i32 : BitVec 32 := 5#32
  let v1 : BitVec 32 := Scalar.maxsi c0_i32 v0
  let v2 : BitVec 32 := Scalar.minsi c5_i32 v1
  let c2_i32 : BitVec 32 := 2#32
  let v3 : BitVec 32 := Scalar.addi v2 c2_i32
  let c2_i32_0 : BitVec 32 := 2#32
  let c0_i32_1 : BitVec 32 := 0#32
  ![arg1.toNat, v3.toNat, c2_i32_0.toNat]

def cc1_transform_7 (i : grid1.Coords) : Fin 5 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let v1 : BitVec 32 := Scalar.extui v0
  let c7_i32 : BitVec 32 := 7#32
  let v2 : BitVec 1 := Scalar.cmpi .eq arg0 c7_i32
  let v3 : BitVec 32 := Scalar.extui v2
  let v4 : BitVec 32 := Scalar.addi v1 v3
  let c1_i32 : BitVec 32 := 1#32
  let c0_i32_0 : BitVec 32 := 0#32
  let c0_i32_1 : BitVec 32 := 0#32
  let c0_i32_2 : BitVec 32 := 0#32
  let c0_i32_3 : BitVec 32 := 0#32
  ![c1_i32.toNat, v4.toNat, c0_i32_0.toNat, c0_i32_1.toNat, c0_i32_2.toNat]

def cc1_transform_8 (i : grid1.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c16_i32 : BitVec 32 := 16#32
  let v1 : BitVec 32 := Scalar.addi c16_i32 v0
  let v2 : BitVec 32 := Scalar.addi v1 arg1
  let c0_i32 : BitVec 32 := 0#32
  let c0_i32_0 : BitVec 32 := 0#32
  let c0_i32_1 : BitVec 32 := 0#32
  ![v2.toNat, c0_i32.toNat, c0_i32_0.toNat]

def cc1_transform_9 (i : grid1.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c16_i32 : BitVec 32 := 16#32
  let v1 : BitVec 32 := Scalar.addi c16_i32 v0
  let v2 : BitVec 32 := Scalar.addi v1 arg1
  let c0_i32 : BitVec 32 := 0#32
  let c0_i32_0 : BitVec 32 := 0#32
  let c0_i32_1 : BitVec 32 := 0#32
  ![v2.toNat, c0_i32.toNat, c0_i32_0.toNat]

def cc1_transform_10 (i : grid1.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c16_i32 : BitVec 32 := 16#32
  let v1 : BitVec 32 := Scalar.addi c16_i32 v0
  let v2 : BitVec 32 := Scalar.addi v1 arg1
  let c0_i32 : BitVec 32 := 0#32
  let c0_i32_0 : BitVec 32 := 0#32
  let c0_i32_1 : BitVec 32 := 0#32
  ![v2.toNat, c0_i32.toNat, c0_i32_0.toNat]

def cc1_transform_11 (i : grid1.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c16_i32 : BitVec 32 := 16#32
  let v1 : BitVec 32 := Scalar.addi c16_i32 v0
  let v2 : BitVec 32 := Scalar.addi v1 arg1
  let c0_i32 : BitVec 32 := 0#32
  let c0_i32_0 : BitVec 32 := 0#32
  let c0_i32_1 : BitVec 32 := 0#32
  ![v2.toNat, c0_i32.toNat, c0_i32_0.toNat]

def cc1_transform_12 (i : grid1.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c16_i32 : BitVec 32 := 16#32
  let v1 : BitVec 32 := Scalar.addi c16_i32 v0
  let v2 : BitVec 32 := Scalar.addi v1 arg1
  let c0_i32 : BitVec 32 := 0#32
  let c0_i32_0 : BitVec 32 := 0#32
  let c0_i32_1 : BitVec 32 := 0#32
  ![v2.toNat, c0_i32.toNat, c0_i32_0.toNat]

def cc1_transform_13 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc1_transform_14 (i : grid1.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc1_transform_15 (i : grid1.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc1_transform_16 (i : grid1.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc1_transform_17 (i : grid1.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc1_transform_18 (i : grid1.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage1_0 : Fin 2 → Memref sig .tc .vmem S4x256x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S4x256x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S4x256x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S4x256x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S4x256x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S4x256x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S4x256x512 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x1x8x256x768 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S1x32x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S1x32x1024 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S1x64x1024 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S1x64x4096 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]

abbrev stage1_12 : Fin 2 → Memref sig .tc .vmem S1x256x1024 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true]

abbrev stage1_13 : Fin 2 → Memref sig .tc .vmem S4x256x512 .bf16 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true, true]

abbrev stage1_14 : Fin 2 → Memref sig .tc .vmem S1x32x1024 .bf16 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true, true]

abbrev stage1_15 : Fin 2 → Memref sig .tc .vmem S1x32x1024 .bf16 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true, true]

abbrev stage1_16 : Fin 2 → Memref sig .tc .vmem S1x64x1024 .bf16 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true, true]

abbrev stage1_17 : Fin 2 → Memref sig .tc .vmem S1x64x4096 .bf16 := fun | 0 => Memref.whole cc1_stg17_0 | 1 => Memref.whole cc1_stg17_1 | ⟨_ + 2, h⟩ => absurd h (Nat.not_lt.2 (Nat.le_add_left _ _))
abbrev sem1_17 : Fin 2 → DmaSem sig := fun | 0 => cc1_sem17_0 | 1 => cc1_sem17_1 | ⟨_ + 2, h⟩ => absurd h (Nat.not_lt.2 (Nat.le_add_left _ _))
abbrev reads1_17 : Fin grid1.rank → Bool := ![true, true]

abbrev stage1_18 : Fin 2 → Memref sig .tc .vmem S1x256x1024 .bf16 := fun | 0 => Memref.whole cc1_stg18_0 | 1 => Memref.whole cc1_stg18_1 | ⟨_ + 2, h⟩ => absurd h (Nat.not_lt.2 (Nat.le_add_left _ _))
abbrev sem1_18 : Fin 2 → DmaSem sig := fun | 0 => cc1_sem18_0 | 1 => cc1_sem18_1 | ⟨_ + 2, h⟩ => absurd h (Nat.not_lt.2 (Nat.le_add_left _ _))
abbrev reads1_18 : Fin grid1.rank → Bool := ![true, true]
-- ==== Kernel5Ideal.lean ====
variable {F : FTy → Type} [FloatOps F] [Named F]
def κ : String → Option EReal := fun
  | "mask" => some ⊥
  | _ => none
-- ==== Reference5Ideal.lean ====
abbrev S8x2048x3072 : Shape := ⟨3, ![8, 2048, 3072]⟩
abbrev S2x8x15x31 : Shape := ⟨4, ![2, 8, 15, 31]⟩
abbrev S2x1024x5120 : Shape := ⟨3, ![2, 1024, 5120]⟩
abbrev S2x512x1024 : Shape := ⟨3, ![2, 512, 1024]⟩
abbrev S2x1024x1024 : Shape := ⟨3, ![2, 1024, 1024]⟩
abbrev S2x1024x4096 : Shape := ⟨3, ![2, 1024, 4096]⟩
abbrev S2x4096x1024 : Shape := ⟨3, ![2, 4096, 1024]⟩
abbrev S8x2048x1536 : Shape := ⟨3, ![8, 2048, 1536]⟩
abbrev S8x2048x512 : Shape := ⟨3, ![8, 2048, 512]⟩
abbrev S8x2048x8x64 : Shape := ⟨4, ![8, 2048, 8, 64]⟩
abbrev S1x8x15x31 : Shape := ⟨4, ![1, 8, 15, 31]⟩
abbrev S8x15x31 : Shape := ⟨3, ![8, 15, 31]⟩
abbrev S8x32x64x8x64 : Shape := ⟨5, ![8, 32, 64, 8, 64]⟩
abbrev S32 : Shape := ⟨1, ![32]⟩
abbrev S_ : Shape := ⟨0, ![]⟩
abbrev S32x1 : Shape := ⟨2, ![32, 1]⟩
abbrev S8 : Shape := ⟨1, ![8]⟩
abbrev S1x8 : Shape := ⟨2, ![1, 8]⟩
abbrev S32x8 : Shape := ⟨2, ![32, 8]⟩
abbrev S32x8x1 : Shape := ⟨3, ![32, 8, 1]⟩
abbrev S8x32x8x64x8x64 : Shape := ⟨6, ![8, 32, 8, 64, 8, 64]⟩
abbrev S8x32x512x8x64 : Shape := ⟨5, ![8, 32, 512, 8, 64]⟩
abbrev S64 : Shape := ⟨1, ![64]⟩
abbrev S1x64 : Shape := ⟨2, ![1, 64]⟩
abbrev S64x1 : Shape := ⟨2, ![64, 1]⟩
abbrev S64x64 : Shape := ⟨2, ![64, 64]⟩
abbrev S1x64x1x64 : Shape := ⟨4, ![1, 64, 1, 64]⟩
abbrev S1x64x8x64 : Shape := ⟨4, ![1, 64, 8, 64]⟩
abbrev S64x512 : Shape := ⟨2, ![64, 512]⟩
abbrev S32x8x1x1 : Shape := ⟨4, ![32, 8, 1, 1]⟩
abbrev S1x1x64x64 : Shape := ⟨4, ![1, 1, 64, 64]⟩
abbrev S32x8x64x64 : Shape := ⟨4, ![32, 8, 64, 64]⟩
abbrev S32x8x64x64x1 : Shape := ⟨5, ![32, 8, 64, 64, 1]⟩
abbrev S32x8x64x64x2 : Shape := ⟨5, ![32, 8, 64, 64, 2]⟩
abbrev S8x32x8x64x64 : Shape := ⟨5, ![8, 32, 8, 64, 64]⟩
abbrev S8x32x64x512 : Shape := ⟨4, ![8, 32, 64, 512]⟩
abbrev S8x8x32x64x512 : Shape := ⟨5, ![8, 8, 32, 64, 512]⟩
abbrev S1x8x32x64x512 : Shape := ⟨5, ![1, 8, 32, 64, 512]⟩
abbrev S8x8x32x64 : Shape := ⟨4, ![8, 8, 32, 64]⟩
abbrev S8x8x32x64x1 : Shape := ⟨5, ![8, 8, 32, 64, 1]⟩
abbrev S1x1024x5120 : Shape := ⟨3, ![1, 1024, 5120]⟩
abbrev S1024x5120 : Shape := ⟨2, ![1024, 5120]⟩
abbrev S1x512x1024 : Shape := ⟨3, ![1, 512, 1024]⟩
abbrev S512x1024 : Shape := ⟨2, ![512, 1024]⟩
abbrev S1x1024x1024 : Shape := ⟨3, ![1, 1024, 1024]⟩
abbrev S1024x1024 : Shape := ⟨2, ![1024, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩

abbrev nBuf : Space → Nat
  | .hbm => 186
  | .vmem => 0
  | .smem => 0
  | _ => 0

abbrev hbmTy0_0 (i : Nat) : BufTy := match i % 128 with
  | 0 => ⟨S8x2048x3072, .bf16⟩
  | 1 => ⟨S2x8x15x31, .f32⟩
  | 2 => ⟨S2x1024x5120, .f32⟩
  | 3 => ⟨S2x512x1024, .f32⟩
  | 4 => ⟨S2x512x1024, .f32⟩
  | 5 => ⟨S2x1024x1024, .f32⟩
  | 6 => ⟨S2x1024x4096, .f32⟩
  | 7 => ⟨S2x4096x1024, .f32⟩
  | 8 => ⟨S8x2048x1536, .bf16⟩
  | 9 => ⟨S8x2048x1536, .f32⟩
  | 10 => ⟨S8x2048x512, .f32⟩
  | 11 => ⟨S8x2048x512, .f32⟩
  | 12 => ⟨S8x2048x512, .f32⟩
  | 13 => ⟨S8x2048x8x64, .f32⟩
  | 14 => ⟨S8x2048x8x64, .f32⟩
  | 15 => ⟨S8x2048x8x64, .f32⟩
  | 16 => ⟨S1x8x15x31, .f32⟩
  | 17 => ⟨S8x15x31, .f32⟩
  | 18 => ⟨S8x32x64x8x64, .f32⟩
  | 19 => ⟨S8x32x64x8x64, .f32⟩
  | 20 => ⟨S8x32x64x8x64, .f32⟩
  | 21 => ⟨S32, .i32⟩
  | 22 => ⟨S_, .i32⟩
  | 23 => ⟨S32, .i32⟩
  | 24 => ⟨S32, .i32⟩
  | 25 => ⟨S_, .i32⟩
  | 26 => ⟨S_, .i32⟩
  | 27 => ⟨S_, .i32⟩
  | 28 => ⟨S32, .i32⟩
  | 29 => ⟨S32, .i32⟩
  | 30 => ⟨S_, .i32⟩
  | 31 => ⟨S32, .i32⟩
  | 32 => ⟨S32, .i32⟩
  | 33 => ⟨S32x1, .i32⟩
  | 34 => ⟨S8, .i32⟩
  | 35 => ⟨S1x8, .i32⟩
  | 36 => ⟨S32x8, .i32⟩
  | 37 => ⟨S32x8, .i32⟩
  | 38 => ⟨S32x8, .i32⟩
  | 39 => ⟨S_, .i32⟩
  | 40 => ⟨S32x8, .i32⟩
  | 41 => ⟨S32x8, .i1⟩
  | 42 => ⟨S_, .i32⟩
  | 43 => ⟨S32x8, .i32⟩
  | 44 => ⟨S32x8, .i32⟩
  | 45 => ⟨S32x8, .i32⟩
  | 46 => ⟨S32x8x1, .i32⟩
  | 47 => ⟨S8x32x8x64x8x64, .f32⟩
  | 48 => ⟨S8x32x512x8x64, .f32⟩
  | 49 => ⟨S_, .i32⟩
  | 50 => ⟨S32x8, .i32⟩
  | 51 => ⟨S32x8, .i1⟩
  | 52 => ⟨S_, .i32⟩
  | 53 => ⟨S32x8, .i32⟩
  | 54 => ⟨S32x8, .i32⟩
  | 55 => ⟨S32x8, .i32⟩
  | 56 => ⟨S32x8x1, .i32⟩
  | 57 => ⟨S8x32x8x64x8x64, .f32⟩
  | 58 => ⟨S8x32x512x8x64, .f32⟩
  | 59 => ⟨S64, .i32⟩
  | 60 => ⟨S_, .i32⟩
  | 61 => ⟨S64, .i32⟩
  | 62 => ⟨S64, .i32⟩
  | 63 => ⟨S_, .i32⟩
  | 64 => ⟨S_, .i32⟩
  | 65 => ⟨S_, .i32⟩
  | 66 => ⟨S64, .i32⟩
  | 67 => ⟨S64, .i32⟩
  | 68 => ⟨S_, .i32⟩
  | 69 => ⟨S64, .i32⟩
  | 70 => ⟨S64, .i32⟩
  | 71 => ⟨S1x64, .i32⟩
  | 72 => ⟨S64x1, .i32⟩
  | 73 => ⟨S64x64, .i32⟩
  | 74 => ⟨S64x64, .i32⟩
  | 75 => ⟨S64x64, .i1⟩
  | 76 => ⟨S64x1, .i32⟩
  | 77 => ⟨S_, .i32⟩
  | 78 => ⟨S64x1, .i32⟩
  | 79 => ⟨S64x1, .i32⟩
  | 80 => ⟨S64x64, .i32⟩
  | 81 => ⟨S64x64, .i32⟩
  | 82 => ⟨S64x64, .i1⟩
  | 83 => ⟨S64x64, .i1⟩
  | 84 => ⟨S1x64x1x64, .i1⟩
  | 85 => ⟨S1x64x8x64, .i1⟩
  | 86 => ⟨S64x512, .i1⟩
  | 87 => ⟨S32x1, .i32⟩
  | 88 => ⟨S32x8, .i32⟩
  | 89 => ⟨S32x8, .i32⟩
  | 90 => ⟨S64x1, .i32⟩
  | 91 => ⟨S64x64, .i32⟩
  | 92 => ⟨S64x64, .i32⟩
  | 93 => ⟨S64x64, .i32⟩
  | 94 => ⟨S_, .i32⟩
  | 95 => ⟨S_, .i32⟩
  | 96 => ⟨S_, .i32⟩
  | 97 => ⟨S64x64, .i32⟩
  | 98 => ⟨S64x64, .i32⟩
  | 99 => ⟨S_, .i32⟩
  | 100 => ⟨S64x64, .i32⟩
  | 101 => ⟨S64x64, .i32⟩
  | 102 => ⟨S_, .i32⟩
  | 103 => ⟨S32x8, .i32⟩
  | 104 => ⟨S32x8, .i32⟩
  | 105 => ⟨S_, .i32⟩
  | 106 => ⟨S32x8, .i32⟩
  | 107 => ⟨S32x8, .i32⟩
  | 108 => ⟨S32x8x1x1, .i32⟩
  | 109 => ⟨S_, .i32⟩
  | 110 => ⟨S64x64, .i32⟩
  | 111 => ⟨S64x64, .i32⟩
  | 112 => ⟨S_, .i32⟩
  | 113 => ⟨S64x64, .i32⟩
  | 114 => ⟨S64x64, .i32⟩
  | 115 => ⟨S1x1x64x64, .i32⟩
  | 116 => ⟨S_, .i32⟩
  | 117 => ⟨S32x8x1x1, .i32⟩
  | 118 => ⟨S32x8x1x1, .i1⟩
  | 119 => ⟨S_, .i32⟩
  | 120 => ⟨S32x8x1x1, .i32⟩
  | 121 => ⟨S32x8x1x1, .i32⟩
  | 122 => ⟨S32x8x1x1, .i32⟩
  | 123 => ⟨S_, .i32⟩
  | 124 => ⟨S1x1x64x64, .i32⟩
  | 125 => ⟨S1x1x64x64, .i1⟩
  | 126 => ⟨S_, .i32⟩
  | 127 => ⟨S1x1x64x64, .i32⟩
  | _ => ⟨S8x2048x3072, .bf16⟩

abbrev hbmTy0_1 (i : Nat) : BufTy := match i % 128 with
  | 0 => ⟨S1x1x64x64, .i32⟩
  | 1 => ⟨S1x1x64x64, .i32⟩
  | 2 => ⟨S32x8x64x64, .i32⟩
  | 3 => ⟨S32x8x64x64, .i32⟩
  | 4 => ⟨S32x8x64x64x1, .i32⟩
  | 5 => ⟨S32x8x64x64x1, .i32⟩
  | 6 => ⟨S32x8x64x64x2, .i32⟩
  | 7 => ⟨S8x32x8x64x64, .f32⟩
  | 8 => ⟨S8x32x64x8x64, .f32⟩
  | 9 => ⟨S8x32x64x512, .f32⟩
  | 10 => ⟨S8x8x32x64x512, .f32⟩
  | 11 => ⟨S_, .f32⟩
  | 12 => ⟨S8x8x32x64x512, .f32⟩
  | 13 => ⟨S8x8x32x64x512, .f32⟩
  | 14 => ⟨S1x8x32x64x512, .f32⟩
  | 15 => ⟨S8x8x32x64x512, .f32⟩
  | 16 => ⟨S8x8x32x64x512, .f32⟩
  | 17 => ⟨S_, .f32⟩
  | 18 => ⟨S_, .f32⟩
  | 19 => ⟨S8x8x32x64x512, .i1⟩
  | 20 => ⟨S8x8x32x64x512, .f32⟩
  | 21 => ⟨S8x8x32x64x512, .f32⟩
  | 22 => ⟨S_, .f32⟩
  | 23 => ⟨S8x8x32x64, .f32⟩
  | 24 => ⟨S_, .f32⟩
  | 25 => ⟨S8x8x32x64, .f32⟩
  | 26 => ⟨S8x8x32x64, .f32⟩
  | 27 => ⟨S8x8x32x64x1, .f32⟩
  | 28 => ⟨S8x8x32x64x512, .f32⟩
  | 29 => ⟨S8x8x32x64x512, .f32⟩
  | 30 => ⟨S8x8x32x64x512, .f32⟩
  | 31 => ⟨S_, .f32⟩
  | 32 => ⟨S8x8x32x64, .f32⟩
  | 33 => ⟨S8x8x32x64x1, .f32⟩
  | 34 => ⟨S8x8x32x64x512, .f32⟩
  | 35 => ⟨S8x8x32x64x512, .f32⟩
  | 36 => ⟨S8x32x8x64x64, .f32⟩
  | 37 => ⟨S8x32x64x8x64, .f32⟩
  | 38 => ⟨S8x2048x512, .f32⟩
  | 39 => ⟨S8x2048x512, .bf16⟩
  | 40 => ⟨S1x1024x5120, .f32⟩
  | 41 => ⟨S1024x5120, .f32⟩
  | 42 => ⟨S1024x5120, .bf16⟩
  | 43 => ⟨S1x512x1024, .f32⟩
  | 44 => ⟨S512x1024, .f32⟩
  | 45 => ⟨S512x1024, .bf16⟩
  | 46 => ⟨S1x512x1024, .f32⟩
  | 47 => ⟨S512x1024, .f32⟩
  | 48 => ⟨S512x1024, .bf16⟩
  | 49 => ⟨S1x1024x1024, .f32⟩
  | 50 => ⟨S1024x1024, .f32⟩
  | 51 => ⟨S1024x1024, .bf16⟩
  | 52 => ⟨S1x1024x4096, .f32⟩
  | 53 => ⟨S1024x4096, .f32⟩
  | 54 => ⟨S1024x4096, .bf16⟩
  | 55 => ⟨S1x4096x1024, .f32⟩
  | 56 => ⟨S4096x1024, .f32⟩
  | 57 => ⟨S4096x1024, .bf16⟩
  | _ => ⟨S8x2048x3072, .bf16⟩

abbrev hbmTy (i : Nat) : BufTy := match i / 128 with
  | 0 => hbmTy0_0 i
  | 1 => hbmTy0_1 i
  | _ => ⟨S8x2048x3072, .bf16⟩

abbrev bufTy : (tb : Table) → Fin (tcTables nBuf tb) → BufTy
  | .hbm, ⟨i, _⟩ => hbmTy i
  | _, _ => ⟨S8x2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c : Ref sig .tc := ⟨.hbm, 22, rfl⟩
abbrev main_v14 : Ref sig .tc := ⟨.hbm, 23, rfl⟩
abbrev main_v15 : Ref sig .tc := ⟨.hbm, 24, rfl⟩
abbrev main_c_0 : Ref sig .tc := ⟨.hbm, 25, rfl⟩
abbrev main_c_1 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_2 : Ref sig .tc := ⟨.hbm, 39, rfl⟩
abbrev main_v23 : Ref sig .tc := ⟨.hbm, 40, rfl⟩
abbrev main_v24 : Ref sig .tc := ⟨.hbm, 41, rfl⟩
abbrev main_c_3 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_4 : Ref sig .tc := ⟨.hbm, 49, rfl⟩
abbrev main_v31 : Ref sig .tc := ⟨.hbm, 50, rfl⟩
abbrev main_v32 : Ref sig .tc := ⟨.hbm, 51, rfl⟩
abbrev main_c_5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_c_6 : Ref sig .tc := ⟨.hbm, 60, rfl⟩
abbrev main_v40 : Ref sig .tc := ⟨.hbm, 61, rfl⟩
abbrev main_v41 : Ref sig .tc := ⟨.hbm, 62, rfl⟩
abbrev main_c_7 : Ref sig .tc := ⟨.hbm, 63, rfl⟩
abbrev main_c_8 : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_call1_v3 : Ref sig .tc := ⟨.hbm, 68, rfl⟩
abbrev main_call1_v4 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_c_9 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_c_10 : Ref sig .tc := ⟨.hbm, 94, rfl⟩
abbrev main_c_11 : Ref sig .tc := ⟨.hbm, 95, rfl⟩
abbrev main_call2_v0 : Ref sig .tc := ⟨.hbm, 96, rfl⟩
abbrev main_call2_v1 : Ref sig .tc := ⟨.hbm, 97, rfl⟩
abbrev main_call2_v2 : Ref sig .tc := ⟨.hbm, 98, rfl⟩
abbrev main_call2_v3 : Ref sig .tc := ⟨.hbm, 99, rfl⟩
abbrev main_call2_v4 : Ref sig .tc := ⟨.hbm, 100, rfl⟩
abbrev main_v65 : Ref sig .tc := ⟨.hbm, 101, rfl⟩
abbrev main_c_12 : Ref sig .tc := ⟨.hbm, 102, rfl⟩
abbrev main_v66 : Ref sig .tc := ⟨.hbm, 103, rfl⟩
abbrev main_v67 : Ref sig .tc := ⟨.hbm, 104, rfl⟩
abbrev main_c_13 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_c_14 : Ref sig .tc := ⟨.hbm, 109, rfl⟩
abbrev main_v71 : Ref sig .tc := ⟨.hbm, 110, rfl⟩
abbrev main_v72 : Ref sig .tc := ⟨.hbm, 111, rfl⟩
abbrev main_c_15 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_c_16 : Ref sig .tc := ⟨.hbm, 116, rfl⟩
abbrev main_v76 : Ref sig .tc := ⟨.hbm, 117, rfl⟩
abbrev main_v77 : Ref sig .tc := ⟨.hbm, 118, rfl⟩
abbrev main_c_17 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_c_18 : Ref sig .tc := ⟨.hbm, 123, rfl⟩
abbrev main_v81 : Ref sig .tc := ⟨.hbm, 124, rfl⟩
abbrev main_v82 : Ref sig .tc := ⟨.hbm, 125, rfl⟩
abbrev main_c_19 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_cst : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_cst_20 : Ref sig .tc := ⟨.hbm, 145, rfl⟩
abbrev main_call3_v0 : Ref sig .tc := ⟨.hbm, 146, rfl⟩
abbrev main_call3_v1 : Ref sig .tc := ⟨.hbm, 147, rfl⟩
abbrev main_call3_v2 : Ref sig .tc := ⟨.hbm, 148, rfl⟩
abbrev main_v100 : Ref sig .tc := ⟨.hbm, 149, rfl⟩
abbrev main_cst_21 : Ref sig .tc := ⟨.hbm, 150, rfl⟩
abbrev main_v101 : Ref sig .tc := ⟨.hbm, 151, rfl⟩
abbrev main_cst_22 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_cst_23 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩

abbrev nD : Nat := 1
abbrev τ : Topo := Topo.v7x

variable {F : FTy → Type} [FloatOps F]
-- ==== Proof.Frames.lean ====
/- The frames of every program, and the kernels kept by idealization. -/
module

public import proofs.«01_k».proof.Defs
public import proofs.«01_k».proof.Proof.Gen.Kernel.Frame
public import proofs.«01_k».proof.Proof.Gen.KernelIdeal.Frame
public import proofs.«01_k».proof.Proof.Gen.Kernel2.Frame
public import proofs.«01_k».proof.Proof.Gen.Kernel2Ideal.Frame
public import proofs.«01_k».proof.Proof.Gen.Kernel3.Frame
public import proofs.«01_k».proof.Proof.Gen.Kernel3Ideal.Frame
public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Reference5Ideal.Run
public import Idealize.ShloMosaic.Init

@[expose] public section
noncomputable section

namespace Cert.Frames
open Idealize.ShloMosaic Idealize.SL.Sem

/- The kernels: their generated frames. -/
theorem k : Cert.quiescent_Kernel := fun m g _ => Cert.Kernel.Gen.frame m g
theorem ki : Cert.quiescent_KernelIdeal := fun m g _ => Cert.KernelIdeal.Gen.frame m g
theorem k2 : Cert.quiescent_Kernel2 := fun m g _ => Cert.Kernel2.Gen.frame m g
theorem k2i : Cert.quiescent_Kernel2Ideal := fun m g _ => Cert.Kernel2Ideal.Gen.frame m g
theorem k3 : Cert.quiescent_Kernel3 := fun m g _ => Cert.Kernel3.Gen.frame m g
theorem k3i : Cert.quiescent_Kernel3Ideal := fun m g _ => Cert.Kernel3Ideal.Gen.frame m g
theorem k4 : Cert.quiescent_Kernel4 := fun m g _ => Cert.Kernel4.Gen.frame m g
theorem k4i : Cert.quiescent_Kernel4Ideal := fun m g _ => Cert.Kernel4Ideal.Gen.frame m g
theorem k5 : Cert.quiescent_Kernel5 := fun m g _ => Cert.Kernel5.Gen.frame m g
theorem k5i : Cert.quiescent_Kernel5Ideal := fun m g _ => Cert.Kernel5Ideal.Gen.frame m g

/- The references: their runs keep the arguments, and they declare no semaphore. -/
theorem ri : Cert.quiescent_ReferenceIdeal := fun m g _ =>
  (θ_run Cert.ReferenceIdeal.defs _ _).mono (fun r h => ⟨fun c => (h c).2.2.2.2.2.2.2.2, sem_eq_zero_of_no_sems (by decide) r.2⟩)
    (Cert.ReferenceIdeal.Value.run (F := Ideal) m g)
theorem r2i : Cert.quiescent_Reference2Ideal := fun m g _ =>
  (θ_run Cert.Reference2Ideal.defs _ _).mono (fun r h => ⟨fun c => (h c).2, sem_eq_zero_of_no_sems (by decide) r.2⟩)
    (Cert.Reference2Ideal.Value.run (F := Ideal) m g)
theorem r3i : Cert.quiescent_Reference3Ideal := fun m g _ =>
  (θ_run Cert.Reference3Ideal.defs _ _).mono (fun r h => ⟨fun c => (h c).2.2, sem_eq_zero_of_no_sems (by decide) r.2⟩)
    (Cert.Reference3Ideal.Value.run (F := Ideal) m g)
theorem r4i : Cert.quiescent_Reference4Ideal := fun m g _ =>
  (θ_run Cert.Reference4Ideal.defs _ _).mono (fun r h => ⟨fun c => (h c).2, sem_eq_zero_of_no_sems (by decide) r.2⟩)
    (Cert.Reference4Ideal.Value.run (F := Ideal) m g)
theorem r5i : Cert.quiescent_Reference5Ideal := fun m g _ =>
  (θ_run Cert.Reference5Ideal.defs _ _).mono (fun r h => ⟨fun c => (h c).2.2.2.2.2.2.2, sem_eq_zero_of_no_sems (by decide) r.2⟩)
    (Cert.Reference5Ideal.Value.run (F := Ideal) m g)

/- Where the precondition holds, as everywhere. -/
theorem kiFinite [Cert.Pre_finite.Facts] : Cert.quiescent_KernelIdeal_pre_finite := fun m g _ => ki m g trivial
theorem riFinite [Cert.Pre_finite.Facts] : Cert.quiescent_ReferenceIdeal_pre_finite := fun m g _ => ri m g trivial
theorem k5iFinite [Cert.Pre_finite5.Facts] : Cert.quiescent_Kernel5Ideal_pre_finite5 := fun m g _ => k5i m g trivial
theorem r5iFinite [Cert.Pre_finite5.Facts] : Cert.quiescent_Reference5Ideal_pre_finite5 := fun m g _ => r5i m g trivial

/-- The mask's number becomes minus infinity; nothing else changes. -/
theorem kept : Cert.preserves_Kernel_KernelIdeal :=
  IdealRules.named_const.statement Cert.KernelIdeal.κ "mask" .f32 0xF149F2CA#32 ⊥ rfl
theorem kept5 : Cert.preserves_Kernel5_Kernel5Ideal :=
  IdealRules.named_const.statement Cert.Kernel5Ideal.κ "mask" .f32 0xF149F2CA#32 ⊥ rfl
end Cert.Frames
-- ==== Proof.NaPay.lean ====
/- What the bias table's and the attention's bodies store, each store written with one uniform function. -/
module

public import proofs.«01_k».proof.Proof.Gen.KernelIdeal.Frame

@[expose] public section
set_option maxRecDepth 16384
noncomputable section

namespace Cert.KernelIdeal.Na
open Idealize.ShloMosaic Idealize.ShloMosaic.TcCoe Idealize.SL.Sem
open Cert.KernelIdeal Cert.KernelIdeal.Gen
open Idealize.ShloMosaic.Pipeline

variable {F : FTy → Type} [FloatOps F] [Named F]

/-- One stored pair of bias tiles: each half is a rotated table row inside the column band, or the mask throughout. -/
def pair (a b : Option (Vec F S1x1x1x128 .f32)) : FVec F S1x1x1x64x128 .f32 :=
  shapeCast S1x1x1x64x128 (select k0_pay2 (a.elim (k0_pay4 (F := F)) k0_pay5) (b.elim (k0_pay4 (F := F)) k0_pay6)) shapeCasts_S64x128_S1x1x1x64x128

/-- The bias table's block as its stored pairs. -/
def table (x0 : Vec F S1x1x15x128 .f32) : Vec F S1x3x1x256x768 .f32 :=
  View.canon [⟨r0_86, pair (some (View.ld x0 r0_14)) (some (View.ld x0 r0_0))⟩,
    ⟨r0_85, pair (some (View.ld x0 r0_28)) (some (View.ld x0 r0_21))⟩,
    ⟨r0_84, pair (some (View.ld x0 r0_68)) (some (View.ld x0 r0_35))⟩,
    ⟨r0_83, pair (some (View.ld x0 r0_82)) (some (View.ld x0 r0_75))⟩,
    ⟨r0_81, pair none none⟩,
    ⟨r0_80, pair none none⟩,
    ⟨r0_79, pair (some (View.ld x0 r0_0)) (some (View.ld x0 r0_1))⟩,
    ⟨r0_78, pair (some (View.ld x0 r0_21)) (some (View.ld x0 r0_14))⟩,
    ⟨r0_77, pair (some (View.ld x0 r0_35)) (some (View.ld x0 r0_28))⟩,
    ⟨r0_76, pair (some (View.ld x0 r0_75)) (some (View.ld x0 r0_68))⟩,
    ⟨r0_74, pair none none⟩,
    ⟨r0_73, pair none none⟩,
    ⟨r0_72, pair (some (View.ld x0 r0_1)) (some (View.ld x0 r0_3))⟩,
    ⟨r0_71, pair (some (View.ld x0 r0_14)) (some (View.ld x0 r0_0))⟩,
    ⟨r0_70, pair (some (View.ld x0 r0_28)) (some (View.ld x0 r0_21))⟩,
    ⟨r0_69, pair (some (View.ld x0 r0_68)) (some (View.ld x0 r0_35))⟩,
    ⟨r0_67, pair none none⟩,
    ⟨r0_66, pair none none⟩,
    ⟨r0_65, pair (some (View.ld x0 r0_3)) (some (View.ld x0 r0_4))⟩,
    ⟨r0_64, pair (some (View.ld x0 r0_0)) (some (View.ld x0 r0_1))⟩,
    ⟨r0_63, pair (some (View.ld x0 r0_21)) (some (View.ld x0 r0_14))⟩,
    ⟨r0_62, pair (some (View.ld x0 r0_35)) (some (View.ld x0 r0_28))⟩,
    ⟨r0_61, pair none none⟩,
    ⟨r0_60, pair none none⟩,
    ⟨r0_59, pair (some (View.ld x0 r0_4)) none⟩,
    ⟨r0_58, pair (some (View.ld x0 r0_1)) (some (View.ld x0 r0_3))⟩,
    ⟨r0_57, pair (some (View.ld x0 r0_14)) (some (View.ld x0 r0_0))⟩,
    ⟨r0_56, pair (some (View.ld x0 r0_28)) (some (View.ld x0 r0_21))⟩,
    ⟨r0_55, pair none (some (View.ld x0 r0_35))⟩,
    ⟨r0_54, pair none none⟩,
    ⟨r0_53, pair none none⟩,
    ⟨r0_52, pair (some (View.ld x0 r0_3)) (some (View.ld x0 r0_4))⟩,
    ⟨r0_51, pair (some (View.ld x0 r0_0)) (some (View.ld x0 r0_1))⟩,
    ⟨r0_50, pair (some (View.ld x0 r0_21)) (some (View.ld x0 r0_14))⟩,
    ⟨r0_49, pair (some (View.ld x0 r0_35)) (some (View.ld x0 r0_28))⟩,
    ⟨r0_48, pair none none⟩,
    ⟨r0_47, pair none none⟩,
    ⟨r0_46, pair (some (View.ld x0 r0_4)) none⟩,
    ⟨r0_45, pair (some (View.ld x0 r0_1)) (some (View.ld x0 r0_3))⟩,
    ⟨r0_44, pair (some (View.ld x0 r0_14)) (some (View.ld x0 r0_0))⟩,
    ⟨r0_43, pair (some (View.ld x0 r0_28)) (some (View.ld x0 r0_21))⟩,
    ⟨r0_42, pair none (some (View.ld x0 r0_35))⟩,
    ⟨r0_41, pair none none⟩,
    ⟨r0_40, pair none none⟩,
    ⟨r0_39, pair (some (View.ld x0 r0_3)) (some (View.ld x0 r0_4))⟩,
    ⟨r0_38, pair (some (View.ld x0 r0_0)) (some (View.ld x0 r0_1))⟩,
    ⟨r0_37, pair (some (View.ld x0 r0_21)) (some (View.ld x0 r0_14))⟩,
    ⟨r0_36, pair (some (View.ld x0 r0_35)) (some (View.ld x0 r0_28))⟩,
    ⟨r0_34, pair none none⟩,
    ⟨r0_33, pair none none⟩,
    ⟨r0_32, pair (some (View.ld x0 r0_4)) (some (View.ld x0 r0_6))⟩,
    ⟨r0_31, pair (some (View.ld x0 r0_1)) (some (View.ld x0 r0_3))⟩,
    ⟨r0_30, pair (some (View.ld x0 r0_14)) (some (View.ld x0 r0_0))⟩,
    ⟨r0_29, pair (some (View.ld x0 r0_28)) (some (View.ld x0 r0_21))⟩,
    ⟨r0_27, pair none none⟩,
    ⟨r0_26, pair none none⟩,
    ⟨r0_25, pair (some (View.ld x0 r0_6)) (some (View.ld x0 r0_7))⟩,
    ⟨r0_24, pair (some (View.ld x0 r0_3)) (some (View.ld x0 r0_4))⟩,
    ⟨r0_23, pair (some (View.ld x0 r0_0)) (some (View.ld x0 r0_1))⟩,
    ⟨r0_22, pair (some (View.ld x0 r0_21)) (some (View.ld x0 r0_14))⟩,
    ⟨r0_20, pair none none⟩,
    ⟨r0_19, pair none none⟩,
    ⟨r0_18, pair (some (View.ld x0 r0_7)) (some (View.ld x0 r0_9))⟩,
    ⟨r0_17, pair (some (View.ld x0 r0_4)) (some (View.ld x0 r0_6))⟩,
    ⟨r0_16, pair (some (View.ld x0 r0_1)) (some (View.ld x0 r0_3))⟩,
    ⟨r0_15, pair (some (View.ld x0 r0_14)) (some (View.ld x0 r0_0))⟩,
    ⟨r0_13, pair none none⟩,
    ⟨r0_12, pair none none⟩,
    ⟨r0_11, pair (some (View.ld x0 r0_9)) (some (View.ld x0 r0_10))⟩,
    ⟨r0_8, pair (some (View.ld x0 r0_6)) (some (View.ld x0 r0_7))⟩,
    ⟨r0_5, pair (some (View.ld x0 r0_3)) (some (View.ld x0 r0_4))⟩,
    ⟨r0_2, pair (some (View.ld x0 r0_0)) (some (View.ld x0 r0_1))⟩]

theorem out0_2_eq (x0 : Vec F S1x1x15x128 .f32) (x1 : Vec F S1x64x5120 .f32) : out0_2 x0 x1 = table x0 := rfl

/-- The scores of one query tile against its key window under a lane mask. -/
def score (g : IVec S256x128 1) (q k0 k1 k2 : Vec F S1x256x128 .bf16) (b : Vec F S1x1x1x256x768 .f32) : FVec F S256x768 .f32 :=
  addf (matmul dot_S256x128_S768x128_S256x768_1_1_0_0_n_n none
      (select g (mulf (shapeCast S256x128 q shapeCasts_S1x256x128_S256x128) (broadcast S256x128 (Scalar.ofBits .bf16 0x3E00#16 : F .bf16)))
        (broadcast S256x128 (Scalar.ofBits .bf16 0x0000#16 : F .bf16)))
      (concatenate S768x128 0 [⟨S256x128, shapeCast S256x128 k0 shapeCasts_S1x256x128_S256x128⟩, ⟨S256x128, shapeCast S256x128 k1 shapeCasts_S1x256x128_S256x128⟩, ⟨S256x128, shapeCast S256x128 k2 shapeCasts_S1x256x128_S256x128⟩] concatenates_S256x128_S256x128_S256x128_S768x128_d0)
      (constant S256x768 .f32 0x00000000#32))
    (shapeCast S256x768 b shapeCasts_S1x1x1x256x768_S256x768)

/-- The weights of a row of scores: exponentials after the row's maximum is taken off. -/
def weight (s : FVec F S256x768 .f32) : FVec F S256x768 .bf16 :=
  exp (truncf .bf16 (subf s (broadcastTo S256x768 (shapeCast S256x1 (multiReduction .maximumf [1] S256 s 0xFF800000#32 reduces_S256x768_S256 (.inl rfl) rfl) shapeCasts_S256_S256x1) broadcasts_S256x1_S256x768)) bitsLt_bf16_f32)

/-- The value window beside a block of ones. -/
def vones (v0 v1 v2 : Vec F S1x256x128 .bf16) : FVec F S768x256 .bf16 :=
  concatenate S768x256 1 [⟨S768x128, concatenate S768x128 0 [⟨S256x128, shapeCast S256x128 v0 shapeCasts_S1x256x128_S256x128⟩, ⟨S256x128, shapeCast S256x128 v1 shapeCasts_S1x256x128_S256x128⟩, ⟨S256x128, shapeCast S256x128 v2 shapeCasts_S1x256x128_S256x128⟩] concatenates_S256x128_S256x128_S256x128_S768x128_d0⟩,
    ⟨S768x128, broadcast S768x128 (Scalar.ofBits .bf16 0x3F80#16 : F .bf16)⟩] concatenates_S768x128_S768x128_S768x256_d1

/-- The weighted sums of the values and of the ones, side by side. -/
def sums (s : FVec F S256x768 .f32) (w : FVec F S768x256 .bf16) : FVec F S256x256 .f32 :=
  matmul dot_S256x768_S768x256_S256x256_1_0_0_1_n_n none (weight s) w (constant S256x256 .f32 0x00000000#32)

/-- Their quotient. -/
def quot (x : FVec F S256x256 .f32) : FVec F S256x128 .f32 :=
  divf (extractStridedSlice S256x128 ![0, 0] x slices_S256x256_o0_0_S256x128) (extractStridedSlice S256x128 ![0, 128] x slices_S256x256_o0_128_S256x128)

/-- One stored tile: two heads of one query block. -/
def tile (q k0 k1 k2 v0 v1 v2 : Vec F S1x256x128 .bf16) (b0 b1 : Vec F S1x1x1x256x768 .f32) : FVec F S1x256x128 .bf16 :=
  shapeCast S1x256x128 (truncf .bf16 (select k1_pay9
      (quot (sums (score k1_pay9 q k0 k1 k2 b0) (vones v0 v1 v2)))
      (quot (sums (score (xori k1_pay9 (constantI S256x128 1 1#1)) q k0 k1 k2 b1) (vones v0 v1 v2)))) bitsLt_bf16_f32) shapeCasts_S256x128_S1x256x128

/-- The attention's block as its stored tiles. -/
def heads (x0 x1 x2 x3 x4 x5 x6 : Vec F S4x256x512 .bf16) (x7 : Vec F S1x1x8x256x768 .f32) : Vec F S4x256x512 .bf16 :=
  View.canon [⟨r1_28, tile (View.ld x0 r1_28) (View.ld x1 r1_28) (View.ld x2 r1_28) (View.ld x3 r1_28) (View.ld x4 r1_28) (View.ld x5 r1_28) (View.ld x6 r1_28) (View.ld x7 r1_15) (View.ld x7 r1_16)⟩,
    ⟨r1_27, tile (View.ld x0 r1_27) (View.ld x1 r1_27) (View.ld x2 r1_27) (View.ld x3 r1_27) (View.ld x4 r1_27) (View.ld x5 r1_27) (View.ld x6 r1_27) (View.ld x7 r1_12) (View.ld x7 r1_13)⟩,
    ⟨r1_26, tile (View.ld x0 r1_26) (View.ld x1 r1_26) (View.ld x2 r1_26) (View.ld x3 r1_26) (View.ld x4 r1_26) (View.ld x5 r1_26) (View.ld x6 r1_26) (View.ld x7 r1_9) (View.ld x7 r1_10)⟩,
    ⟨r1_25, tile (View.ld x0 r1_25) (View.ld x1 r1_25) (View.ld x2 r1_25) (View.ld x3 r1_25) (View.ld x4 r1_25) (View.ld x5 r1_25) (View.ld x6 r1_25) (View.ld x7 r1_6) (View.ld x7 r1_7)⟩,
    ⟨r1_24, tile (View.ld x0 r1_24) (View.ld x1 r1_24) (View.ld x2 r1_24) (View.ld x3 r1_24) (View.ld x4 r1_24) (View.ld x5 r1_24) (View.ld x6 r1_24) (View.ld x7 r1_15) (View.ld x7 r1_16)⟩,
    ⟨r1_23, tile (View.ld x0 r1_23) (View.ld x1 r1_23) (View.ld x2 r1_23) (View.ld x3 r1_23) (View.ld x4 r1_23) (View.ld x5 r1_23) (View.ld x6 r1_23) (View.ld x7 r1_12) (View.ld x7 r1_13)⟩,
    ⟨r1_22, tile (View.ld x0 r1_22) (View.ld x1 r1_22) (View.ld x2 r1_22) (View.ld x3 r1_22) (View.ld x4 r1_22) (View.ld x5 r1_22) (View.ld x6 r1_22) (View.ld x7 r1_9) (View.ld x7 r1_10)⟩,
    ⟨r1_21, tile (View.ld x0 r1_21) (View.ld x1 r1_21) (View.ld x2 r1_21) (View.ld x3 r1_21) (View.ld x4 r1_21) (View.ld x5 r1_21) (View.ld x6 r1_21) (View.ld x7 r1_6) (View.ld x7 r1_7)⟩,
    ⟨r1_20, tile (View.ld x0 r1_20) (View.ld x1 r1_20) (View.ld x2 r1_20) (View.ld x3 r1_20) (View.ld x4 r1_20) (View.ld x5 r1_20) (View.ld x6 r1_20) (View.ld x7 r1_15) (View.ld x7 r1_16)⟩,
    ⟨r1_19, tile (View.ld x0 r1_19) (View.ld x1 r1_19) (View.ld x2 r1_19) (View.ld x3 r1_19) (View.ld x4 r1_19) (View.ld x5 r1_19) (View.ld x6 r1_19) (View.ld x7 r1_12) (View.ld x7 r1_13)⟩,
    ⟨r1_18, tile (View.ld x0 r1_18) (View.ld x1 r1_18) (View.ld x2 r1_18) (View.ld x3 r1_18) (View.ld x4 r1_18) (View.ld x5 r1_18) (View.ld x6 r1_18) (View.ld x7 r1_9) (View.ld x7 r1_10)⟩,
    ⟨r1_17, tile (View.ld x0 r1_17) (View.ld x1 r1_17) (View.ld x2 r1_17) (View.ld x3 r1_17) (View.ld x4 r1_17) (View.ld x5 r1_17) (View.ld x6 r1_17) (View.ld x7 r1_6) (View.ld x7 r1_7)⟩,
    ⟨r1_14, tile (View.ld x0 r1_14) (View.ld x1 r1_14) (View.ld x2 r1_14) (View.ld x3 r1_14) (View.ld x4 r1_14) (View.ld x5 r1_14) (View.ld x6 r1_14) (View.ld x7 r1_15) (View.ld x7 r1_16)⟩,
    ⟨r1_11, tile (View.ld x0 r1_11) (View.ld x1 r1_11) (View.ld x2 r1_11) (View.ld x3 r1_11) (View.ld x4 r1_11) (View.ld x5 r1_11) (View.ld x6 r1_11) (View.ld x7 r1_12) (View.ld x7 r1_13)⟩,
    ⟨r1_8, tile (View.ld x0 r1_8) (View.ld x1 r1_8) (View.ld x2 r1_8) (View.ld x3 r1_8) (View.ld x4 r1_8) (View.ld x5 r1_8) (View.ld x6 r1_8) (View.ld x7 r1_9) (View.ld x7 r1_10)⟩,
    ⟨r1_5, tile (View.ld x0 r1_5) (View.ld x1 r1_5) (View.ld x2 r1_5) (View.ld x3 r1_5) (View.ld x4 r1_5) (View.ld x5 r1_5) (View.ld x6 r1_5) (View.ld x7 r1_6) (View.ld x7 r1_7)⟩]

theorem out1_14_eq (x0 x1 x2 x3 x4 x5 x6 : Vec F S4x256x512 .bf16) (x7 : Vec F S1x1x8x256x768 .f32) (x8 x9 x10 x11 x12 x13) :
    out1_14 x0 x1 x2 x3 x4 x5 x6 x7 x8 x9 x10 x11 x12 x13 = heads x0 x1 x2 x3 x4 x5 x6 x7 := rfl

end Cert.KernelIdeal.Na

end
-- ==== Proof.NaRow.lean ====
/- Neighbourhood attention on rows of numbers: the windows, the bias and the weighted average. -/
module

public import Idealize.ShloMosaic.Lib.Pointwise
public import Idealize.ShloMosaic.Lib.IdealHost

@[expose] public section
noncomputable section

namespace Cert.NaRow
open Idealize.ShloMosaic

/-- Key column `k` lies in the clamped band of 16 columns of query column `c`. -/
def band (c k : ℕ) : Prop := min 48 (c - 8) ≤ k ∧ k < min 48 (c - 8) + 16

instance (c k : ℕ) : Decidable (band c k) := by unfold band; infer_instance

theorem eighth_bf16 : Ideal.ofBits .bf16 0x3E00#16 = (((1 : ℝ) / 8 : ℝ) : EReal) := by
  simp [Ideal.ofBits, Ideal.ieee, -EReal.coe_mul]; norm_num

theorem eighth_f32 : Ideal.ofBits .f32 0x3E000000#32 = (((1 : ℝ) / 8 : ℝ) : EReal) := by
  simp [Ideal.ofBits, Ideal.ieee, -EReal.coe_mul]; norm_num

theorem neg_inf_f32 : Ideal.ofBits .f32 0xFF800000#32 = ⊥ := by
  simp [Ideal.ofBits, Ideal.ieee]

/-- The largest entry of a row. -/
def peak {n : ℕ} (s : Fin n → EReal) : EReal := Finset.univ.fold max ⊥ s

/-- The weighted average of `v` with the weights `exp (s - peak s)`, divided once by their sum. -/
def att {n : ℕ} (s v : Fin n → EReal) : EReal :=
  Ideal.div (∑ j, Ideal.exp (s j - peak s) * v j) (∑ j, Ideal.exp (s j - peak s))

/-- The same average with every weight divided by the sum. -/
def soft {n : ℕ} (s v : Fin n → EReal) : EReal :=
  ∑ j, v j * Ideal.div (Ideal.exp (s j - peak s)) (∑ i, Ideal.exp (s i - peak s))

theorem peak_sup {n : ℕ} (s : Fin n → EReal) : peak s = Finset.univ.sup s := rfl

theorem le_peak {n : ℕ} (s : Fin n → EReal) (j : Fin n) : s j ≤ peak s := Finset.le_sup (f := s) (Finset.mem_univ j)

theorem peak_ne_top {n : ℕ} (s : Fin n → EReal) (h : ∀ j, s j ≠ ⊤) : peak s ≠ ⊤ := by
  have : peak s < ⊤ := (Finset.sup_lt_iff (bot_lt_top)).2 fun j _ => lt_top_iff_ne_top.2 (h j)
  exact this.ne

/-- A product with a real number that is not negative passes through a sum. -/
theorem sum_mul_real {ι : Type} (t : Finset ι) (g : ι → EReal) (c : ℝ) (hc : 0 ≤ c) :
    (∑ i ∈ t, g i) * (c : EReal) = ∑ i ∈ t, g i * (c : EReal) := by
  classical
  induction t using Finset.induction_on with
  | empty => simp
  | insert a t ha ih =>
    rw [Finset.sum_insert ha, Finset.sum_insert ha, EReal.right_distrib_of_nonneg_of_ne_top (by exact_mod_cast hc) (EReal.coe_ne_top c), ih]

theorem coe_sum {ι : Type} (t : Finset ι) (g : ι → ℝ) : ((∑ i ∈ t, g i : ℝ) : EReal) = ∑ i ∈ t, (g i : EReal) := by
  classical
  induction t using Finset.induction_on with
  | empty => simp
  | insert a t ha ih => rw [Finset.sum_insert ha, Finset.sum_insert ha, EReal.coe_add, ih]

/-- A masked window: where the scores outside the gathered positions are minus infinity, the window's average is the
    gathered positions' average. -/
theorem att_eq_soft {n m : ℕ} (f : Fin m → Fin n) (hf : Function.Injective f) (s v : Fin n → EReal)
    (hout : ∀ j, j ∉ Set.range f → s j = ⊥) (htop : ∀ j, s j ≠ ⊤) (hreal : ∃ i, s (f i) ≠ ⊥) :
    att s v = soft (fun i => s (f i)) (fun i => v (f i)) := by
  have hp : peak (fun i => s (f i)) = peak s := by
    apply le_antisymm
    · exact Finset.sup_le fun i _ => le_peak s (f i)
    · refine Finset.sup_le fun j _ => ?_
      by_cases h : j ∈ Set.range f
      · obtain ⟨i, rfl⟩ := h
        exact le_peak (fun i => s (f i)) i
      · rw [hout j h]; exact bot_le
  have ht : peak s ≠ ⊤ := peak_ne_top s htop
  have hb : peak s ≠ ⊥ := by
    obtain ⟨i, hi⟩ := hreal
    intro h
    exact hi (le_bot_iff.1 (h ▸ le_peak s (f i)))
  obtain ⟨p, hpv⟩ : ∃ p : ℝ, peak s = p := ⟨(peak s).toReal, (EReal.coe_toReal ht hb).symm⟩
  have he : ∀ j, ∃ e : ℝ, 0 ≤ e ∧ Ideal.exp (s j - peak s) = (e : EReal) ∧ (s j ≠ ⊥ → 0 < e) := by
    intro j
    rw [hpv]
    by_cases h : s j = ⊥
    · exact ⟨0, le_rfl, by rw [h, EReal.bot_sub]; rfl, fun h' => absurd h h'⟩
    · have : s j = ((s j).toReal : EReal) := (EReal.coe_toReal (htop j) h).symm
      refine ⟨Real.exp ((s j).toReal - p), (Real.exp_pos _).le, ?_, fun _ => Real.exp_pos _⟩
      rw [this, ← EReal.coe_sub]; rfl
  choose e e0 ev epos using he
  have hL : ∑ i, Ideal.exp (s (f i) - peak s) = ((∑ i, e (f i) : ℝ) : EReal) := by
    simp only [ev, coe_sum]
  have hpos : 0 < ∑ i, e (f i) := by
    obtain ⟨i, hi⟩ := hreal
    exact Finset.sum_pos' (fun i _ => e0 _) ⟨i, Finset.mem_univ i, epos _ hi⟩
  have hsum (g : Fin n → EReal) (hg : ∀ j, j ∉ Set.range f → g j = 0) : ∑ j, g j = ∑ i, g (f i) := by
    refine (Finset.sum_of_injOn f hf.injOn (fun _ _ => Finset.mem_coe.2 (Finset.mem_univ _)) (fun j _ hj => hg j ?_) fun _ _ => rfl).symm
    simpa using hj
  have hz : ∀ j, j ∉ Set.range f → Ideal.exp (s j - peak s) = 0 := by
    intro j hj
    rw [hout j hj, EReal.bot_sub]; rfl
  unfold att soft
  simp only [hp]
  rw [hsum (fun j => Ideal.exp (s j - peak s) * v j) (fun j hj => by rw [hz j hj, zero_mul]),
    hsum (fun j => Ideal.exp (s j - peak s)) hz, hL, Ideal.div_coe hpos.ne', sum_mul_real _ _ _ (by positivity)]
  refine Finset.sum_congr rfl fun i _ => ?_
  rw [Ideal.div_coe hpos.ne', mul_comm (Ideal.exp _), mul_assoc]

/-- One head's score: a factor on the queries or on the whole sum makes no difference. -/
theorem scale_sum {n : ℕ} (q k : Fin n → EReal) (c : ℝ) (hc : 0 ≤ c) :
    ∑ a, q a * (c : EReal) * k a = (∑ a, q a * k a) * (c : EReal) := by
  rw [sum_mul_real _ _ _ hc]
  exact Finset.sum_congr rfl fun a _ => by rw [mul_assoc, mul_comm (c : EReal), ← mul_assoc]

end Cert.NaRow

end
-- ==== Proof.NaPoint.lean ====
/- The bias table's block and the attention's block, entry by entry. -/
module

public import proofs.«01_k».proof.Proof.NaPay
public import proofs.«01_k».proof.Proof.NaRow
public import Idealize.ShloMosaic.Lib.Pipeline.ValueKit
public import Idealize.ShloMosaic.Lib.Pointwise

@[expose] public section
set_option maxRecDepth 16384
noncomputable section

namespace Cert.KernelIdeal.Na
open Idealize.ShloMosaic Idealize.ShloMosaic.TcCoe Idealize.SL.Sem
open Cert.KernelIdeal Cert.KernelIdeal.Gen
open NaRow

/-- The column band as the body computes it from a tile's row `r` and the key column `k` of its left half. -/
theorem mask_left (r k : Fin 64) : k0_pay3 (ix2 r ⟨k.val, by omega⟩) = if band r k then 1#1 else 0#1 := by
  have h : ∀ (r k : Fin 64), (IntOp.andi
          (IntOp.cmpi CmpIPredicate.sge
            (Scalar.select (IntOp.cmpi CmpIPredicate.slt (BitVec.ofNat 32 k.val) 64#32) (BitVec.ofNat 32 k.val)
              (IntOp.subi (BitVec.ofNat 32 k.val) 64#32))
            (IntOp.minsi (48#32) (IntOp.maxsi (0#32) (IntOp.subi (BitVec.ofNat 32 r.val) 8#32))))
          (IntOp.cmpi CmpIPredicate.slt
            (Scalar.select (IntOp.cmpi CmpIPredicate.slt (BitVec.ofNat 32 k.val) 64#32) (BitVec.ofNat 32 k.val)
              (IntOp.subi (BitVec.ofNat 32 k.val) 64#32))
            (IntOp.addi (IntOp.minsi (48#32) (IntOp.maxsi (0#32) (IntOp.subi (BitVec.ofNat 32 r.val) 8#32))) 16#32)))
        = if band r k then 1#1 else 0#1 := by
    decide +kernel
  pointwise [k0_pay3, k0_pay2]
  exact h r k

/-- The same for the right half's key columns. -/
theorem mask_right (r k : Fin 64) : k0_pay3 (ix2 r ⟨64 + k.val, by omega⟩) = if band r k then 1#1 else 0#1 := by
  have h : ∀ (r k : Fin 64), (IntOp.andi
          (IntOp.cmpi CmpIPredicate.sge
            (Scalar.select (IntOp.cmpi CmpIPredicate.slt (BitVec.ofNat 32 (64 + k.val)) 64#32) (BitVec.ofNat 32 (64 + k.val))
              (IntOp.subi (BitVec.ofNat 32 (64 + k.val)) 64#32))
            (IntOp.minsi (48#32) (IntOp.maxsi (0#32) (IntOp.subi (BitVec.ofNat 32 r.val) 8#32))))
          (IntOp.cmpi CmpIPredicate.slt
            (Scalar.select (IntOp.cmpi CmpIPredicate.slt (BitVec.ofNat 32 (64 + k.val)) 64#32) (BitVec.ofNat 32 (64 + k.val))
              (IntOp.subi (BitVec.ofNat 32 (64 + k.val)) 64#32))
            (IntOp.addi (IntOp.minsi (48#32) (IntOp.maxsi (0#32) (IntOp.subi (BitVec.ofNat 32 r.val) 8#32))) 16#32)))
        = if band r k then 1#1 else 0#1 := by
    decide +kernel
  pointwise [k0_pay3, k0_pay2]
  exact h r k

theorem mask_val : (Named.named κ "mask" 0xF149F2CA#32 : Ideal .f32) = (⊥ : EReal) := rfl

theorem lane_left (k : Fin 64) : IntOp.cmpi CmpIPredicate.slt (BitVec.ofNat 32 k.val) 64#32 = 1#1 := by
  revert k; decide +kernel

theorem lane_right (k : Fin 64) : IntOp.cmpi CmpIPredicate.slt (BitVec.ofNat 32 (64 + k.val)) 64#32 = 0#1 := by
  revert k; decide +kernel

theorem sel_if (p : Prop) [Decidable p] (x y : EReal) : Scalar.select (if p then 1#1 else 0#1) x y = if p then x else y := by
  unfold Scalar.select; by_cases h : p <;> simp [h]

theorem sel_one (x y : EReal) : Scalar.select (1#1) x y = x := rfl

theorem sel_zero (x y : EReal) : Scalar.select (0#1) x y = y := rfl

/-- A half tile: the rotated row in the band, the mask elsewhere. -/
def strip (w : Option (Vec Ideal S1x1x1x128 .f32)) (r k : Fin 64) : EReal :=
  w.elim ⊥ fun w => if band r k then w (ix4 0 0 0 ⟨(k.val + 128 - r.val) % 128, by omega⟩) else ⊥

theorem pair_left (a b : Option (Vec Ideal S1x1x1x128 .f32)) (u v w : Fin 1) (r k : Fin 64) :
    pair (F := Ideal) a b (ix5 u v w r ⟨k.val, by omega⟩) = strip a r k := by
  have e : pair (F := Ideal) a b (ix5 u v w r ⟨k.val, by omega⟩)
      = (a.elim (k0_pay4 (F := Ideal)) k0_pay5) (ix2 r ⟨k.val, by omega⟩) := by
    pointwise [pair, k0_pay2]
    rw [lane_left]; rfl
  rw [e]
  cases a with
  | none => exact mask_val
  | some a =>
    show k0_pay5 (F := Ideal) a _ = _
    have m := mask_left r k
    unfold k0_pay5
    generalize k0_pay3 = g at m ⊢
    pointwise [m, k0_pay4, strip]
    rw [sel_if, mask_val]
    have hr : r.val % 128 = r.val := by omega
    simp only [hr]
    rfl

theorem pair_right (a b : Option (Vec Ideal S1x1x1x128 .f32)) (u v w : Fin 1) (r k : Fin 64) :
    pair (F := Ideal) a b (ix5 u v w r ⟨64 + k.val, by omega⟩) = strip b r k := by
  have e : pair (F := Ideal) a b (ix5 u v w r ⟨64 + k.val, by omega⟩)
      = (b.elim (k0_pay4 (F := Ideal)) k0_pay6) (ix2 r ⟨64 + k.val, by omega⟩) := by
    pointwise [pair, k0_pay2]
    rw [lane_right]; rfl
  rw [e]
  cases b with
  | none => exact mask_val
  | some b =>
    show k0_pay6 (F := Ideal) b _ = _
    have m := mask_right r k
    unfold k0_pay6
    generalize k0_pay3 = g at m ⊢
    pointwise [m, k0_pay4, strip]
    rw [sel_if, mask_val]
    have hr : (64 + k.val + 128 - (64 + r.val) % 128) % 128 = (k.val + 128 - r.val) % 128 := by omega
    simp only [hr]
    rfl

end Cert.KernelIdeal.Na

end
-- ==== Proof.NaHeads.lean ====
/- The attention's block, entry by entry. -/
module

public import proofs.«01_k».proof.Proof.NaPoint

@[expose] public section
set_option maxRecDepth 16384
noncomputable section

namespace Cert.KernelIdeal.Na
open Idealize.ShloMosaic Idealize.ShloMosaic.TcCoe Idealize.SL.Sem
open Cert.KernelIdeal Cert.KernelIdeal.Gen
open NaRow

theorem lane_mask (r : Fin 256) (l : Fin 128) : k1_pay9 (ix2 r l) = if l.val < 64 then 1#1 else 0#1 := by
  have h : ∀ l : Fin 128, IntOp.cmpi CmpIPredicate.slt (BitVec.ofNat 32 l.val) 64#32 = if l.val < 64 then 1#1 else 0#1 := by
    decide +kernel
  pointwise [k1_pay9]
  exact h l

theorem lane_mask_not (r : Fin 256) (l : Fin 128) :
    xori k1_pay9 (constantI S256x128 1 1#1) (ix2 r l) = if l.val < 64 then 0#1 else 1#1 := by
  show IntOp.xori (k1_pay9 (ix2 r l)) 1#1 = _
  rw [lane_mask]
  split <;> rfl

/-- Three consecutive blocks read as one window. -/
def win (k0 k1 k2 : Vec Ideal S1x256x128 .bf16) (j : Fin 768) (x : Fin 128) : EReal :=
  if h : j.val < 256 then k0 (ix3 0 ⟨j.val, h⟩ x)
  else if h : j.val - 256 < 256 then k1 (ix3 0 ⟨j.val - 256, h⟩ x) else k2 (ix3 0 ⟨j.val - 256 - 256, by omega⟩ x)

theorem score_at (g : IVec S256x128 1) (q k0 k1 k2 : Vec Ideal S1x256x128 .bf16) (b : Vec Ideal S1x1x1x256x768 .f32)
    (r : Fin 256) (j : Fin 768) : score (F := Ideal) g q k0 k1 k2 b (ix2 r j)
      = (∑ x : Fin 128, Scalar.select (g (ix2 r x)) (q (ix3 0 r x) * ((1 / 8 : ℝ) : EReal)) 0 * win k0 k1 k2 j x) + b (ix5 0 0 0 r j) := by
  rw [← eighth_bf16]
  pointwise [score]
  rfl

theorem score_left (q k0 k1 k2 : Vec Ideal S1x256x128 .bf16) (b : Vec Ideal S1x1x1x256x768 .f32) (r : Fin 256) (j : Fin 768) :
    score (F := Ideal) k1_pay9 q k0 k1 k2 b (ix2 r j)
      = (∑ a : Fin 64, q (ix3 0 r ⟨a.val, by omega⟩) * ((1 / 8 : ℝ) : EReal) * win k0 k1 k2 j ⟨a.val, by omega⟩) + b (ix5 0 0 0 r j) := by
  rw [score_at]
  congr 1
  rw [Fin.sum_univ_two_halves 64 64 rfl]
  refine (congrArg₂ (· + ·) (Finset.sum_congr rfl fun a _ => ?_) (Finset.sum_eq_zero fun a _ => ?_)).trans (add_zero _)
  · rw [lane_mask, if_pos (by simp)]; rfl
  · rw [lane_mask, if_neg (by simp), sel_zero, zero_mul]

theorem score_right (q k0 k1 k2 : Vec Ideal S1x256x128 .bf16) (b : Vec Ideal S1x1x1x256x768 .f32) (r : Fin 256) (j : Fin 768) :
    score (F := Ideal) (xori k1_pay9 (constantI S256x128 1 1#1)) q k0 k1 k2 b (ix2 r j)
      = (∑ a : Fin 64, q (ix3 0 r ⟨64 + a.val, by omega⟩) * ((1 / 8 : ℝ) : EReal) * win k0 k1 k2 j ⟨64 + a.val, by omega⟩) + b (ix5 0 0 0 r j) := by
  rw [score_at]
  congr 1
  rw [Fin.sum_univ_two_halves 64 64 rfl]
  refine (congrArg₂ (· + ·) (Finset.sum_eq_zero fun a _ => ?_) (Finset.sum_congr rfl fun a _ => ?_)).trans (zero_add _)
  · rw [lane_mask_not, if_pos (by simp), sel_zero, zero_mul]
  · rw [lane_mask_not, if_neg (by simp)]; rfl

theorem weight_at (s : FVec Ideal S256x768 .f32) (r : Fin 256) (j : Fin 768) :
    weight (F := Ideal) s (ix2 r j) = Ideal.exp (s (ix2 r j) - peak fun x => s (ix2 r x)) := by
  unfold peak
  rw [← neg_inf_f32]
  pointwise [weight]

/-- Three value blocks stacked. -/
def cat (v0 v1 v2 : Vec Ideal S1x256x128 .bf16) : FVec Ideal S768x128 .bf16 :=
  concatenate S768x128 0 [⟨S256x128, shapeCast S256x128 v0 shapeCasts_S1x256x128_S256x128⟩, ⟨S256x128, shapeCast S256x128 v1 shapeCasts_S1x256x128_S256x128⟩, ⟨S256x128, shapeCast S256x128 v2 shapeCasts_S1x256x128_S256x128⟩] concatenates_S256x128_S256x128_S256x128_S768x128_d0

theorem cat_at (v0 v1 v2 : Vec Ideal S1x256x128 .bf16) (j : Fin 768) (l : Fin 128) : cat v0 v1 v2 (ix2 j l) = win v0 v1 v2 j l := by
  pointwise [cat]
  rfl

theorem vones_left (v0 v1 v2 : Vec Ideal S1x256x128 .bf16) (x : Fin 768) (l : Fin 128) :
    vones (F := Ideal) v0 v1 v2 (ix2 x ⟨l.val, by omega⟩) = win v0 v1 v2 x l := by
  rw [← cat_at]
  show concatenate S768x256 1 [⟨S768x128, cat v0 v1 v2⟩, ⟨S768x128, broadcast S768x128 (Scalar.ofBits .bf16 0x3F80#16 : Ideal .bf16)⟩] _ _ = _
  generalize cat v0 v1 v2 = w
  pointwise []

theorem vones_right (v0 v1 v2 : Vec Ideal S1x256x128 .bf16) (x : Fin 768) (l : Fin 128) :
    vones (F := Ideal) v0 v1 v2 (ix2 x ⟨128 + l.val, by omega⟩) = (1 : EReal) := by
  have one : Ideal.ofBits .bf16 0x3F80#16 = 1 := by simp [Ideal.ofBits, Ideal.ieee, -EReal.coe_mul]; norm_num
  rw [← one]
  show concatenate S768x256 1 [⟨S768x128, cat v0 v1 v2⟩, ⟨S768x128, broadcast S768x128 (Scalar.ofBits .bf16 0x3F80#16 : Ideal .bf16)⟩] _ _ = _
  generalize cat v0 v1 v2 = w
  pointwise []

theorem sums_at (s : FVec Ideal S256x768 .f32) (v0 v1 v2 : Vec Ideal S1x256x128 .bf16) (r : Fin 256) (l : Fin 128) :
    quot (F := Ideal) (sums s (vones v0 v1 v2)) (ix2 r l) = att (fun j => s (ix2 r j)) (fun j => win v0 v1 v2 j l) := by
  have e1 (x : Fin 768) := vones_left v0 v1 v2 x l
  have e2 (x : Fin 768) := vones_right v0 v1 v2 x l
  have d1 : sums (F := Ideal) s (vones v0 v1 v2) (ix2 r ⟨l.val, by omega⟩)
      = ∑ j, Ideal.exp (s (ix2 r j) - peak fun x => s (ix2 r x)) * win v0 v1 v2 j l := by
    generalize hv : vones (F := Ideal) v0 v1 v2 = w at e1
    generalize hw : weight (F := Ideal) s = t
    have ht (j : Fin 768) : t (ix2 r j) = Ideal.exp (s (ix2 r j) - peak fun x => s (ix2 r x)) := by rw [← hw, weight_at]
    unfold sums
    rw [hw]
    pointwise []
    exact Finset.sum_congr rfl fun j _ => congrArg₂ (· * ·) (ht j) (e1 j)
  have d2 : sums (F := Ideal) s (vones v0 v1 v2) (ix2 r ⟨128 + l.val, by omega⟩)
      = ∑ j, Ideal.exp (s (ix2 r j) - peak fun x => s (ix2 r x)) := by
    generalize hv : vones (F := Ideal) v0 v1 v2 = w at e2
    generalize hw : weight (F := Ideal) s = t
    have ht (j : Fin 768) : t (ix2 r j) = Ideal.exp (s (ix2 r j) - peak fun x => s (ix2 r x)) := by rw [← hw, weight_at]
    unfold sums
    rw [hw]
    pointwise []
    exact Finset.sum_congr rfl fun j _ => (congrArg₂ (· * ·) (ht j) (e2 j)).trans (mul_one _)
  unfold att
  rw [← d1, ← d2]
  generalize sums (F := Ideal) s (vones v0 v1 v2) = w
  pointwise [quot]

/-- One entry of a stored tile: the entry's head attends over the window. -/
theorem tile_left (q k0 k1 k2 v0 v1 v2 : Vec Ideal S1x256x128 .bf16) (b0 b1 : Vec Ideal S1x1x1x256x768 .f32) (z : Fin 1) (r : Fin 256)
    (l : Fin 128) (h : l.val < 64) : tile (F := Ideal) q k0 k1 k2 v0 v1 v2 b0 b1 (ix3 z r l)
      = att (fun j => (∑ a : Fin 64, q (ix3 0 r ⟨a.val, by omega⟩) * ((1 / 8 : ℝ) : EReal) * win k0 k1 k2 j ⟨a.val, by omega⟩) + b0 (ix5 0 0 0 r j))
          (fun j => win v0 v1 v2 j l) := by
  rw [← funext fun j => score_left q k0 k1 k2 b0 r j, ← sums_at]
  have m := lane_mask r l
  rw [if_pos h] at m
  unfold tile
  generalize quot (F := Ideal) (sums (score k1_pay9 q k0 k1 k2 b0) (vones v0 v1 v2)) = t0
  generalize quot (F := Ideal) (sums (score (xori k1_pay9 (constantI S256x128 1 1#1)) q k0 k1 k2 b1) (vones v0 v1 v2)) = t1
  generalize k1_pay9 = g at m ⊢
  pointwise [m]

theorem tile_right (q k0 k1 k2 v0 v1 v2 : Vec Ideal S1x256x128 .bf16) (b0 b1 : Vec Ideal S1x1x1x256x768 .f32) (z : Fin 1) (r : Fin 256)
    (l : Fin 128) (h : ¬l.val < 64) : tile (F := Ideal) q k0 k1 k2 v0 v1 v2 b0 b1 (ix3 z r l)
      = att (fun j => (∑ a : Fin 64, q (ix3 0 r ⟨64 + a.val, by omega⟩) * ((1 / 8 : ℝ) : EReal) * win k0 k1 k2 j ⟨64 + a.val, by omega⟩) + b1 (ix5 0 0 0 r j))
          (fun j => win v0 v1 v2 j l) := by
  rw [← funext fun j => score_right q k0 k1 k2 b1 r j, ← sums_at]
  have m := lane_mask r l
  rw [if_neg h] at m
  unfold tile
  generalize quot (F := Ideal) (sums (score k1_pay9 q k0 k1 k2 b0) (vones v0 v1 v2)) = t0
  generalize quot (F := Ideal) (sums (score (xori k1_pay9 (constantI S256x128 1 1#1)) q k0 k1 k2 b1) (vones v0 v1 v2)) = t1
  generalize k1_pay9 = g at m ⊢
  pointwise [m]

/-- The window of three blocks at the attention's own block shape. -/
def win4 (k0 k1 k2 : Vec Ideal S4x256x512 .bf16) (bi : Fin 4) (j : Fin 768) (x : Fin 512) : EReal :=
  if h : j.val < 256 then k0 (ix3 bi ⟨j.val, h⟩ x)
  else if h : j.val - 256 < 256 then k1 (ix3 bi ⟨j.val - 256, h⟩ x) else k2 (ix3 bi ⟨j.val - 256 - 256, by omega⟩ x)

/-- An entry of the attention's block. -/
def headsAt (x0 x1 x2 x3 x4 x5 x6 : Vec Ideal S4x256x512 .bf16) (x7 : Vec Ideal S1x1x8x256x768 .f32) (bi : Fin 4) (r : Fin 256) (c : Fin 512) : EReal :=
  att (fun j => (∑ a : Fin 64, x0 (ix3 bi r ⟨64 * (c.val / 64) + a.val, by omega⟩) * ((1 / 8 : ℝ) : EReal)
        * win4 x1 x2 x3 bi j ⟨64 * (c.val / 64) + a.val, by omega⟩) + x7 (ix5 0 0 ⟨c.val / 64, by omega⟩ r j))
    (fun j => win4 x4 x5 x6 bi j c)

theorem win_of (x1 x2 x3 : Vec Ideal S4x256x512 .bf16) (bi : Fin 4) (hp : ℕ) (hhp : hp < 4) (k0 k1 k2 : Vec Ideal S1x256x128 .bf16)
    (h0 : ∀ r l, k0 (ix3 0 r l) = x1 (ix3 bi r ⟨128 * hp + l.val, by omega⟩))
    (h1 : ∀ r l, k1 (ix3 0 r l) = x2 (ix3 bi r ⟨128 * hp + l.val, by omega⟩))
    (h2 : ∀ r l, k2 (ix3 0 r l) = x3 (ix3 bi r ⟨128 * hp + l.val, by omega⟩)) (j : Fin 768) (x : Fin 128) :
    win k0 k1 k2 j x = win4 x1 x2 x3 bi j ⟨128 * hp + x.val, by omega⟩ := by
  unfold win win4
  simp only [h0, h1, h2]

theorem tile_piece (x0 x1 x2 x3 x4 x5 x6 : Vec Ideal S4x256x512 .bf16) (x7 : Vec Ideal S1x1x8x256x768 .f32) (bi : Fin 4) (hp : ℕ) (hhp : hp < 4)
    (q k0 k1 k2 v0 v1 v2 : Vec Ideal S1x256x128 .bf16) (b0 b1 : Vec Ideal S1x1x1x256x768 .f32)
    (hq : ∀ r l, q (ix3 0 r l) = x0 (ix3 bi r ⟨128 * hp + l.val, by omega⟩))
    (hk0 : ∀ r l, k0 (ix3 0 r l) = x1 (ix3 bi r ⟨128 * hp + l.val, by omega⟩))
    (hk1 : ∀ r l, k1 (ix3 0 r l) = x2 (ix3 bi r ⟨128 * hp + l.val, by omega⟩))
    (hk2 : ∀ r l, k2 (ix3 0 r l) = x3 (ix3 bi r ⟨128 * hp + l.val, by omega⟩))
    (hv0 : ∀ r l, v0 (ix3 0 r l) = x4 (ix3 bi r ⟨128 * hp + l.val, by omega⟩))
    (hv1 : ∀ r l, v1 (ix3 0 r l) = x5 (ix3 bi r ⟨128 * hp + l.val, by omega⟩))
    (hv2 : ∀ r l, v2 (ix3 0 r l) = x6 (ix3 bi r ⟨128 * hp + l.val, by omega⟩))
    (hb0 : ∀ r j, b0 (ix5 0 0 0 r j) = x7 (ix5 0 0 ⟨2 * hp, by omega⟩ r j))
    (hb1 : ∀ r j, b1 (ix5 0 0 0 r j) = x7 (ix5 0 0 ⟨2 * hp + 1, by omega⟩ r j))
    (x : S1x256x128.Idx) (y : S4x256x512.Idx) (e0 : (y 0).val = bi.val) (e1 : (y 1).val = (x 1).val)
    (e2 : (y 2).val = 128 * hp + (x 2).val) :
    tile (F := Ideal) q k0 k1 k2 v0 v1 v2 b0 b1 x = headsAt x0 x1 x2 x3 x4 x5 x6 x7 (y 0) (y 1) (y 2) := by
  obtain ⟨z, r, l, rfl⟩ : ∃ (z : Fin 1) (r : Fin 256) (l : Fin 128), x = ix3 z r l := ⟨x 0, x 1, x 2, eq_ix3 x⟩
  obtain ⟨b', r', c, rfl⟩ : ∃ (b' : Fin 4) (r' : Fin 256) (c : Fin 512), y = ix3 b' r' c := ⟨y 0, y 1, y 2, eq_ix3 y⟩
  obtain rfl : b' = bi := Fin.ext e0
  obtain rfl : r' = r := Fin.ext e1
  have ec : c.val = 128 * hp + l.val := e2
  show _ = headsAt x0 x1 x2 x3 x4 x5 x6 x7 b' r' c
  have c' : (⟨128 * hp + l.val, by omega⟩ : Fin 512) = c := Fin.ext ec.symm
  have wk := win_of x1 x2 x3 b' hp hhp k0 k1 k2 hk0 hk1 hk2
  have wv := win_of x4 x5 x6 b' hp hhp v0 v1 v2 hv0 hv1 hv2
  unfold headsAt
  by_cases h : l.val < 64
  · rw [tile_left _ _ _ _ _ _ _ _ _ _ _ _ h]
    have ech : c.val / 64 = 2 * hp := by omega
    simp only [wk, wv, hq, hb0, c', ech]
    have ea (a : Fin 64) : (⟨128 * hp + a.val, by omega⟩ : Fin 512) = ⟨64 * (2 * hp) + a.val, by omega⟩ := by apply Fin.ext; simp only []; omega
    simp only [ea]
  · rw [tile_right _ _ _ _ _ _ _ _ _ _ _ _ h]
    have ech : c.val / 64 = 2 * hp + 1 := by omega
    simp only [wk, wv, hq, hb1, c', ech]
    have ea (a : Fin 64) : (⟨128 * hp + (64 + a.val), by omega⟩ : Fin 512) = ⟨64 * (2 * hp + 1) + a.val, by omega⟩ := by apply Fin.ext; simp only []; omega
    simp only [ea]

theorem ld_r1_28 (x : Vec Ideal S4x256x512 .bf16) (r : Fin 256) (l : Fin 128) :
    View.ld x r1_28 (ix3 0 r l) = x (ix3 3 r ⟨128 * 3 + l.val, by omega⟩) := by
  pointwise []

theorem ld_r1_27 (x : Vec Ideal S4x256x512 .bf16) (r : Fin 256) (l : Fin 128) :
    View.ld x r1_27 (ix3 0 r l) = x (ix3 3 r ⟨128 * 2 + l.val, by omega⟩) := by
  pointwise []

theorem ld_r1_26 (x : Vec Ideal S4x256x512 .bf16) (r : Fin 256) (l : Fin 128) :
    View.ld x r1_26 (ix3 0 r l) = x (ix3 3 r ⟨128 * 1 + l.val, by omega⟩) := by
  pointwise []

theorem ld_r1_25 (x : Vec Ideal S4x256x512 .bf16) (r : Fin 256) (l : Fin 128) :
    View.ld x r1_25 (ix3 0 r l) = x (ix3 3 r ⟨128 * 0 + l.val, by omega⟩) := by
  pointwise []

theorem ld_r1_24 (x : Vec Ideal S4x256x512 .bf16) (r : Fin 256) (l : Fin 128) :
    View.ld x r1_24 (ix3 0 r l) = x (ix3 2 r ⟨128 * 3 + l.val, by omega⟩) := by
  pointwise []

theorem ld_r1_23 (x : Vec Ideal S4x256x512 .bf16) (r : Fin 256) (l : Fin 128) :
    View.ld x r1_23 (ix3 0 r l) = x (ix3 2 r ⟨128 * 2 + l.val, by omega⟩) := by
  pointwise []

theorem ld_r1_22 (x : Vec Ideal S4x256x512 .bf16) (r : Fin 256) (l : Fin 128) :
    View.ld x r1_22 (ix3 0 r l) = x (ix3 2 r ⟨128 * 1 + l.val, by omega⟩) := by
  pointwise []

theorem ld_r1_21 (x : Vec Ideal S4x256x512 .bf16) (r : Fin 256) (l : Fin 128) :
    View.ld x r1_21 (ix3 0 r l) = x (ix3 2 r ⟨128 * 0 + l.val, by omega⟩) := by
  pointwise []

theorem ld_r1_20 (x : Vec Ideal S4x256x512 .bf16) (r : Fin 256) (l : Fin 128) :
    View.ld x r1_20 (ix3 0 r l) = x (ix3 1 r ⟨128 * 3 + l.val, by omega⟩) := by
  pointwise []

theorem ld_r1_19 (x : Vec Ideal S4x256x512 .bf16) (r : Fin 256) (l : Fin 128) :
    View.ld x r1_19 (ix3 0 r l) = x (ix3 1 r ⟨128 * 2 + l.val, by omega⟩) := by
  pointwise []

theorem ld_r1_18 (x : Vec Ideal S4x256x512 .bf16) (r : Fin 256) (l : Fin 128) :
    View.ld x r1_18 (ix3 0 r l) = x (ix3 1 r ⟨128 * 1 + l.val, by omega⟩) := by
  pointwise []

theorem ld_r1_17 (x : Vec Ideal S4x256x512 .bf16) (r : Fin 256) (l : Fin 128) :
    View.ld x r1_17 (ix3 0 r l) = x (ix3 1 r ⟨128 * 0 + l.val, by omega⟩) := by
  pointwise []

theorem ld_r1_14 (x : Vec Ideal S4x256x512 .bf16) (r : Fin 256) (l : Fin 128) :
    View.ld x r1_14 (ix3 0 r l) = x (ix3 0 r ⟨128 * 3 + l.val, by omega⟩) := by
  pointwise []

theorem ld_r1_11 (x : Vec Ideal S4x256x512 .bf16) (r : Fin 256) (l : Fin 128) :
    View.ld x r1_11 (ix3 0 r l) = x (ix3 0 r ⟨128 * 2 + l.val, by omega⟩) := by
  pointwise []

theorem ld_r1_8 (x : Vec Ideal S4x256x512 .bf16) (r : Fin 256) (l : Fin 128) :
    View.ld x r1_8 (ix3 0 r l) = x (ix3 0 r ⟨128 * 1 + l.val, by omega⟩) := by
  pointwise []

theorem ld_r1_5 (x : Vec Ideal S4x256x512 .bf16) (r : Fin 256) (l : Fin 128) :
    View.ld x r1_5 (ix3 0 r l) = x (ix3 0 r ⟨128 * 0 + l.val, by omega⟩) := by
  pointwise []

theorem ld_r1_6 (x : Vec Ideal S1x1x8x256x768 .f32) (r : Fin 256) (j : Fin 768) :
    View.ld x r1_6 (ix5 0 0 0 r j) = x (ix5 0 0 0 r j) := by
  pointwise []

theorem ld_r1_7 (x : Vec Ideal S1x1x8x256x768 .f32) (r : Fin 256) (j : Fin 768) :
    View.ld x r1_7 (ix5 0 0 0 r j) = x (ix5 0 0 1 r j) := by
  pointwise []

theorem ld_r1_9 (x : Vec Ideal S1x1x8x256x768 .f32) (r : Fin 256) (j : Fin 768) :
    View.ld x r1_9 (ix5 0 0 0 r j) = x (ix5 0 0 2 r j) := by
  pointwise []

theorem ld_r1_10 (x : Vec Ideal S1x1x8x256x768 .f32) (r : Fin 256) (j : Fin 768) :
    View.ld x r1_10 (ix5 0 0 0 r j) = x (ix5 0 0 3 r j) := by
  pointwise []

theorem ld_r1_12 (x : Vec Ideal S1x1x8x256x768 .f32) (r : Fin 256) (j : Fin 768) :
    View.ld x r1_12 (ix5 0 0 0 r j) = x (ix5 0 0 4 r j) := by
  pointwise []

theorem ld_r1_13 (x : Vec Ideal S1x1x8x256x768 .f32) (r : Fin 256) (j : Fin 768) :
    View.ld x r1_13 (ix5 0 0 0 r j) = x (ix5 0 0 5 r j) := by
  pointwise []

theorem ld_r1_15 (x : Vec Ideal S1x1x8x256x768 .f32) (r : Fin 256) (j : Fin 768) :
    View.ld x r1_15 (ix5 0 0 0 r j) = x (ix5 0 0 6 r j) := by
  pointwise []

theorem ld_r1_16 (x : Vec Ideal S1x1x8x256x768 .f32) (r : Fin 256) (j : Fin 768) :
    View.ld x r1_16 (ix5 0 0 0 r j) = x (ix5 0 0 7 r j) := by
  pointwise []

theorem heads_at (x0 x1 x2 x3 x4 x5 x6 : Vec Ideal S4x256x512 .bf16) (x7 : Vec Ideal S1x1x8x256x768 .f32) :
    heads x0 x1 x2 x3 x4 x5 x6 x7 = fun y => headsAt x0 x1 x2 x3 x4 x5 x6 x7 (y 0) (y 1) (y 2) := by
  funext y
  unfold heads
  canon_tiles x h
  · exact tile_piece x0 x1 x2 x3 x4 x5 x6 x7 3 3 (by omega) _ _ _ _ _ _ _ _ _ (ld_r1_28 x0) (ld_r1_28 x1) (ld_r1_28 x2) (ld_r1_28 x3) (ld_r1_28 x4) (ld_r1_28 x5) (ld_r1_28 x6) (ld_r1_15 x7) (ld_r1_16 x7) x y (by omega) (by omega) (by omega)
  · exact tile_piece x0 x1 x2 x3 x4 x5 x6 x7 3 2 (by omega) _ _ _ _ _ _ _ _ _ (ld_r1_27 x0) (ld_r1_27 x1) (ld_r1_27 x2) (ld_r1_27 x3) (ld_r1_27 x4) (ld_r1_27 x5) (ld_r1_27 x6) (ld_r1_12 x7) (ld_r1_13 x7) x y (by omega) (by omega) (by omega)
  · exact tile_piece x0 x1 x2 x3 x4 x5 x6 x7 3 1 (by omega) _ _ _ _ _ _ _ _ _ (ld_r1_26 x0) (ld_r1_26 x1) (ld_r1_26 x2) (ld_r1_26 x3) (ld_r1_26 x4) (ld_r1_26 x5) (ld_r1_26 x6) (ld_r1_9 x7) (ld_r1_10 x7) x y (by omega) (by omega) (by omega)
  · exact tile_piece x0 x1 x2 x3 x4 x5 x6 x7 3 0 (by omega) _ _ _ _ _ _ _ _ _ (ld_r1_25 x0) (ld_r1_25 x1) (ld_r1_25 x2) (ld_r1_25 x3) (ld_r1_25 x4) (ld_r1_25 x5) (ld_r1_25 x6) (ld_r1_6 x7) (ld_r1_7 x7) x y (by omega) (by omega) (by omega)
  · exact tile_piece x0 x1 x2 x3 x4 x5 x6 x7 2 3 (by omega) _ _ _ _ _ _ _ _ _ (ld_r1_24 x0) (ld_r1_24 x1) (ld_r1_24 x2) (ld_r1_24 x3) (ld_r1_24 x4) (ld_r1_24 x5) (ld_r1_24 x6) (ld_r1_15 x7) (ld_r1_16 x7) x y (by omega) (by omega) (by omega)
  · exact tile_piece x0 x1 x2 x3 x4 x5 x6 x7 2 2 (by omega) _ _ _ _ _ _ _ _ _ (ld_r1_23 x0) (ld_r1_23 x1) (ld_r1_23 x2) (ld_r1_23 x3) (ld_r1_23 x4) (ld_r1_23 x5) (ld_r1_23 x6) (ld_r1_12 x7) (ld_r1_13 x7) x y (by omega) (by omega) (by omega)
  · exact tile_piece x0 x1 x2 x3 x4 x5 x6 x7 2 1 (by omega) _ _ _ _ _ _ _ _ _ (ld_r1_22 x0) (ld_r1_22 x1) (ld_r1_22 x2) (ld_r1_22 x3) (ld_r1_22 x4) (ld_r1_22 x5) (ld_r1_22 x6) (ld_r1_9 x7) (ld_r1_10 x7) x y (by omega) (by omega) (by omega)
  · exact tile_piece x0 x1 x2 x3 x4 x5 x6 x7 2 0 (by omega) _ _ _ _ _ _ _ _ _ (ld_r1_21 x0) (ld_r1_21 x1) (ld_r1_21 x2) (ld_r1_21 x3) (ld_r1_21 x4) (ld_r1_21 x5) (ld_r1_21 x6) (ld_r1_6 x7) (ld_r1_7 x7) x y (by omega) (by omega) (by omega)
  · exact tile_piece x0 x1 x2 x3 x4 x5 x6 x7 1 3 (by omega) _ _ _ _ _ _ _ _ _ (ld_r1_20 x0) (ld_r1_20 x1) (ld_r1_20 x2) (ld_r1_20 x3) (ld_r1_20 x4) (ld_r1_20 x5) (ld_r1_20 x6) (ld_r1_15 x7) (ld_r1_16 x7) x y (by omega) (by omega) (by omega)
  · exact tile_piece x0 x1 x2 x3 x4 x5 x6 x7 1 2 (by omega) _ _ _ _ _ _ _ _ _ (ld_r1_19 x0) (ld_r1_19 x1) (ld_r1_19 x2) (ld_r1_19 x3) (ld_r1_19 x4) (ld_r1_19 x5) (ld_r1_19 x6) (ld_r1_12 x7) (ld_r1_13 x7) x y (by omega) (by omega) (by omega)
  · exact tile_piece x0 x1 x2 x3 x4 x5 x6 x7 1 1 (by omega) _ _ _ _ _ _ _ _ _ (ld_r1_18 x0) (ld_r1_18 x1) (ld_r1_18 x2) (ld_r1_18 x3) (ld_r1_18 x4) (ld_r1_18 x5) (ld_r1_18 x6) (ld_r1_9 x7) (ld_r1_10 x7) x y (by omega) (by omega) (by omega)
  · exact tile_piece x0 x1 x2 x3 x4 x5 x6 x7 1 0 (by omega) _ _ _ _ _ _ _ _ _ (ld_r1_17 x0) (ld_r1_17 x1) (ld_r1_17 x2) (ld_r1_17 x3) (ld_r1_17 x4) (ld_r1_17 x5) (ld_r1_17 x6) (ld_r1_6 x7) (ld_r1_7 x7) x y (by omega) (by omega) (by omega)
  · exact tile_piece x0 x1 x2 x3 x4 x5 x6 x7 0 3 (by omega) _ _ _ _ _ _ _ _ _ (ld_r1_14 x0) (ld_r1_14 x1) (ld_r1_14 x2) (ld_r1_14 x3) (ld_r1_14 x4) (ld_r1_14 x5) (ld_r1_14 x6) (ld_r1_15 x7) (ld_r1_16 x7) x y (by omega) (by omega) (by omega)
  · exact tile_piece x0 x1 x2 x3 x4 x5 x6 x7 0 2 (by omega) _ _ _ _ _ _ _ _ _ (ld_r1_11 x0) (ld_r1_11 x1) (ld_r1_11 x2) (ld_r1_11 x3) (ld_r1_11 x4) (ld_r1_11 x5) (ld_r1_11 x6) (ld_r1_12 x7) (ld_r1_13 x7) x y (by omega) (by omega) (by omega)
  · exact tile_piece x0 x1 x2 x3 x4 x5 x6 x7 0 1 (by omega) _ _ _ _ _ _ _ _ _ (ld_r1_8 x0) (ld_r1_8 x1) (ld_r1_8 x2) (ld_r1_8 x3) (ld_r1_8 x4) (ld_r1_8 x5) (ld_r1_8 x6) (ld_r1_9 x7) (ld_r1_10 x7) x y (by omega) (by omega) (by omega)
  · exact tile_piece x0 x1 x2 x3 x4 x5 x6 x7 0 0 (by omega) _ _ _ _ _ _ _ _ _ (ld_r1_5 x0) (ld_r1_5 x1) (ld_r1_5 x2) (ld_r1_5 x3) (ld_r1_5 x4) (ld_r1_5 x5) (ld_r1_5 x6) (ld_r1_6 x7) (ld_r1_7 x7) x y (by omega) (by omega) (by omega)

end Cert.KernelIdeal.Na

end
-- ==== Proof.NaBias.lean ====
/- The bias table, entry by entry. -/
module

public import proofs.«01_k».proof.Proof.NaPoint

@[expose] public section
set_option maxRecDepth 16384
noncomputable section

namespace Cert.NaRow

/-- The row of the bias table that window row `wj` uses for row `ri` of a block of query rows of class `cls` (the first
    block, an inner block, the last block); none where the window row is not among the query row's eight key rows. -/
def geom (cls ri wj : ℕ) : Option (Fin 15) :=
  let rb := if cls = 0 then 0 else if cls = 1 then 1 else 7
  let r := 4 * rb + ri
  let k := 4 * min 5 (rb - 1) + wj
  if min 24 (r - 4) ≤ k ∧ k < min 24 (r - 4) + 8 then some (Fin.ofNat 15 (k + 7 - r)) else none

end Cert.NaRow

namespace Cert.KernelIdeal.Na
open Idealize.ShloMosaic Idealize.ShloMosaic.TcCoe Idealize.SL.Sem
open Cert.KernelIdeal Cert.KernelIdeal.Gen
open NaRow

/-- One row of a head's rotated bias rows. -/
def row (x0 : Vec Ideal S1x1x15x128 .f32) (d : Fin 15) : Vec Ideal S1x1x1x128 .f32 := fun i => x0 (ix4 0 0 d (i 3))

theorem ld_row_0 (x0 : Vec Ideal S1x1x15x128 .f32) : View.ld x0 r0_82 = row x0 0 := by
  funext i
  idx_vars i
  pointwise [row]

theorem ld_row_1 (x0 : Vec Ideal S1x1x15x128 .f32) : View.ld x0 r0_75 = row x0 1 := by
  funext i
  idx_vars i
  pointwise [row]

theorem ld_row_2 (x0 : Vec Ideal S1x1x15x128 .f32) : View.ld x0 r0_68 = row x0 2 := by
  funext i
  idx_vars i
  pointwise [row]

theorem ld_row_3 (x0 : Vec Ideal S1x1x15x128 .f32) : View.ld x0 r0_35 = row x0 3 := by
  funext i
  idx_vars i
  pointwise [row]

theorem ld_row_4 (x0 : Vec Ideal S1x1x15x128 .f32) : View.ld x0 r0_28 = row x0 4 := by
  funext i
  idx_vars i
  pointwise [row]

theorem ld_row_5 (x0 : Vec Ideal S1x1x15x128 .f32) : View.ld x0 r0_21 = row x0 5 := by
  funext i
  idx_vars i
  pointwise [row]

theorem ld_row_6 (x0 : Vec Ideal S1x1x15x128 .f32) : View.ld x0 r0_14 = row x0 6 := by
  funext i
  idx_vars i
  pointwise [row]

theorem ld_row_7 (x0 : Vec Ideal S1x1x15x128 .f32) : View.ld x0 r0_0 = row x0 7 := by
  funext i
  idx_vars i
  pointwise [row]

theorem ld_row_8 (x0 : Vec Ideal S1x1x15x128 .f32) : View.ld x0 r0_1 = row x0 8 := by
  funext i
  idx_vars i
  pointwise [row]

theorem ld_row_9 (x0 : Vec Ideal S1x1x15x128 .f32) : View.ld x0 r0_3 = row x0 9 := by
  funext i
  idx_vars i
  pointwise [row]

theorem ld_row_10 (x0 : Vec Ideal S1x1x15x128 .f32) : View.ld x0 r0_4 = row x0 10 := by
  funext i
  idx_vars i
  pointwise [row]

theorem ld_row_11 (x0 : Vec Ideal S1x1x15x128 .f32) : View.ld x0 r0_6 = row x0 11 := by
  funext i
  idx_vars i
  pointwise [row]

theorem ld_row_12 (x0 : Vec Ideal S1x1x15x128 .f32) : View.ld x0 r0_7 = row x0 12 := by
  funext i
  idx_vars i
  pointwise [row]

theorem ld_row_13 (x0 : Vec Ideal S1x1x15x128 .f32) : View.ld x0 r0_9 = row x0 13 := by
  funext i
  idx_vars i
  pointwise [row]

theorem ld_row_14 (x0 : Vec Ideal S1x1x15x128 .f32) : View.ld x0 r0_10 = row x0 14 := by
  funext i
  idx_vars i
  pointwise [row]

/-- An entry of the bias table. -/
def entry (x0 : Vec Ideal S1x1x15x128 .f32) (cls r j : ℕ) : EReal :=
  strip ((geom cls (r / 64) (j / 64)).map (row x0)) ⟨r % 64, by omega⟩ ⟨j % 64, by omega⟩

theorem pair_at (x0 : Vec Ideal S1x1x15x128 .f32) (a b : Option (Fin 15)) (cls ri m : ℕ)
    (ea : geom cls ri (2 * m) = a) (eb : geom cls ri (2 * m + 1) = b) (x : S1x1x1x64x128.Idx) (y : S1x3x1x256x768.Idx)
    (h1 : (y 1).val = cls) (h3 : (y 3).val = 64 * ri + (x 3).val) (h4 : (y 4).val = 128 * m + (x 4).val) :
    pair (F := Ideal) (a.map (row x0)) (b.map (row x0)) x = entry x0 (y 1).val (y 3).val (y 4).val := by
  obtain ⟨u, v, w, r, l, rfl⟩ : ∃ (u v w : Fin 1) (r : Fin 64) (l : Fin 128), x = ix5 u v w r l :=
    ⟨x 0, x 1, x 2, x 3, x 4, eq_ix5 x⟩
  have h3' : (y 3).val = 64 * ri + r.val := h3
  have h4' : (y 4).val = 128 * m + l.val := h4
  have e3 : (y 3).val / 64 = ri := by omega
  unfold entry
  by_cases hl : l.val < 64
  · have e4 : (y 4).val / 64 = 2 * m := by omega
    rw [h1, e3, e4, ea]
    have p := pair_left (a.map (row x0)) (b.map (row x0)) u v w r ⟨l.val, hl⟩
    refine Eq.trans p ?_
    congr 1 <;> (apply Fin.ext; simp only []; omega)
  · have e4 : (y 4).val / 64 = 2 * m + 1 := by omega
    rw [h1, e3, e4, eb]
    have hl' : l.val - 64 < 64 := by omega
    have p := pair_right (a.map (row x0)) (b.map (row x0)) u v w r ⟨l.val - 64, hl'⟩
    have el : l = ⟨64 + (⟨l.val - 64, hl'⟩ : Fin 64).val, by simp only []; omega⟩ := by apply Fin.ext; simp only []; omega
    rw [← el] at p
    refine Eq.trans p ?_
    congr 1 <;> (apply Fin.ext; simp only []; omega)

theorem table_at (x0 : Vec Ideal S1x1x15x128 .f32) :
    table x0 = fun y => entry x0 (y 1).val (y 3).val (y 4).val := by
  funext y
  unfold table
  simp only [ld_row_0, ld_row_1, ld_row_2, ld_row_3, ld_row_4, ld_row_5, ld_row_6, ld_row_7, ld_row_8, ld_row_9, ld_row_10, ld_row_11, ld_row_12, ld_row_13, ld_row_14]
  canon_tiles x h
  · exact pair_at x0 (some 6) (some 7) 2 3 5 (by decide) (by decide) x y (by omega) (by omega) (by omega)
  · exact pair_at x0 (some 4) (some 5) 2 3 4 (by decide) (by decide) x y (by omega) (by omega) (by omega)
  · exact pair_at x0 (some 2) (some 3) 2 3 3 (by decide) (by decide) x y (by omega) (by omega) (by omega)
  · exact pair_at x0 (some 0) (some 1) 2 3 2 (by decide) (by decide) x y (by omega) (by omega) (by omega)
  · exact pair_at x0 none none 2 3 1 (by decide) (by decide) x y (by omega) (by omega) (by omega)
  · exact pair_at x0 none none 2 3 0 (by decide) (by decide) x y (by omega) (by omega) (by omega)
  · exact pair_at x0 (some 7) (some 8) 2 2 5 (by decide) (by decide) x y (by omega) (by omega) (by omega)
  · exact pair_at x0 (some 5) (some 6) 2 2 4 (by decide) (by decide) x y (by omega) (by omega) (by omega)
  · exact pair_at x0 (some 3) (some 4) 2 2 3 (by decide) (by decide) x y (by omega) (by omega) (by omega)
  · exact pair_at x0 (some 1) (some 2) 2 2 2 (by decide) (by decide) x y (by omega) (by omega) (by omega)
  · exact pair_at x0 none none 2 2 1 (by decide) (by decide) x y (by omega) (by omega) (by omega)
  · exact pair_at x0 none none 2 2 0 (by decide) (by decide) x y (by omega) (by omega) (by omega)
  · exact pair_at x0 (some 8) (some 9) 2 1 5 (by decide) (by decide) x y (by omega) (by omega) (by omega)
  · exact pair_at x0 (some 6) (some 7) 2 1 4 (by decide) (by decide) x y (by omega) (by omega) (by omega)
  · exact pair_at x0 (some 4) (some 5) 2 1 3 (by decide) (by decide) x y (by omega) (by omega) (by omega)
  · exact pair_at x0 (some 2) (some 3) 2 1 2 (by decide) (by decide) x y (by omega) (by omega) (by omega)
  · exact pair_at x0 none none 2 1 1 (by decide) (by decide) x y (by omega) (by omega) (by omega)
  · exact pair_at x0 none none 2 1 0 (by decide) (by decide) x y (by omega) (by omega) (by omega)
  · exact pair_at x0 (some 9) (some 10) 2 0 5 (by decide) (by decide) x y (by omega) (by omega) (by omega)
  · exact pair_at x0 (some 7) (some 8) 2 0 4 (by decide) (by decide) x y (by omega) (by omega) (by omega)
  · exact pair_at x0 (some 5) (some 6) 2 0 3 (by decide) (by decide) x y (by omega) (by omega) (by omega)
  · exact pair_at x0 (some 3) (some 4) 2 0 2 (by decide) (by decide) x y (by omega) (by omega) (by omega)
  · exact pair_at x0 none none 2 0 1 (by decide) (by decide) x y (by omega) (by omega) (by omega)
  · exact pair_at x0 none none 2 0 0 (by decide) (by decide) x y (by omega) (by omega) (by omega)
  · exact pair_at x0 (some 10) none 1 3 5 (by decide) (by decide) x y (by omega) (by omega) (by omega)
  · exact pair_at x0 (some 8) (some 9) 1 3 4 (by decide) (by decide) x y (by omega) (by omega) (by omega)
  · exact pair_at x0 (some 6) (some 7) 1 3 3 (by decide) (by decide) x y (by omega) (by omega) (by omega)
  · exact pair_at x0 (some 4) (some 5) 1 3 2 (by decide) (by decide) x y (by omega) (by omega) (by omega)
  · exact pair_at x0 none (some 3) 1 3 1 (by decide) (by decide) x y (by omega) (by omega) (by omega)
  · exact pair_at x0 none none 1 3 0 (by decide) (by decide) x y (by omega) (by omega) (by omega)
  · exact pair_at x0 none none 1 2 5 (by decide) (by decide) x y (by omega) (by omega) (by omega)
  · exact pair_at x0 (some 9) (some 10) 1 2 4 (by decide) (by decide) x y (by omega) (by omega) (by omega)
  · exact pair_at x0 (some 7) (some 8) 1 2 3 (by decide) (by decide) x y (by omega) (by omega) (by omega)
  · exact pair_at x0 (some 5) (some 6) 1 2 2 (by decide) (by decide) x y (by omega) (by omega) (by omega)
  · exact pair_at x0 (some 3) (some 4) 1 2 1 (by decide) (by decide) x y (by omega) (by omega) (by omega)
  · exact pair_at x0 none none 1 2 0 (by decide) (by decide) x y (by omega) (by omega) (by omega)
  · exact pair_at x0 none none 1 1 5 (by decide) (by decide) x y (by omega) (by omega) (by omega)
  · exact pair_at x0 (some 10) none 1 1 4 (by decide) (by decide) x y (by omega) (by omega) (by omega)
  · exact pair_at x0 (some 8) (some 9) 1 1 3 (by decide) (by decide) x y (by omega) (by omega) (by omega)
  · exact pair_at x0 (some 6) (some 7) 1 1 2 (by decide) (by decide) x y (by omega) (by omega) (by omega)
  · exact pair_at x0 (some 4) (some 5) 1 1 1 (by decide) (by decide) x y (by omega) (by omega) (by omega)
  · exact pair_at x0 none (some 3) 1 1 0 (by decide) (by decide) x y (by omega) (by omega) (by omega)
  · exact pair_at x0 none none 1 0 5 (by decide) (by decide) x y (by omega) (by omega) (by omega)
  · exact pair_at x0 none none 1 0 4 (by decide) (by decide) x y (by omega) (by omega) (by omega)
  · exact pair_at x0 (some 9) (some 10) 1 0 3 (by decide) (by decide) x y (by omega) (by omega) (by omega)
  · exact pair_at x0 (some 7) (some 8) 1 0 2 (by decide) (by decide) x y (by omega) (by omega) (by omega)
  · exact pair_at x0 (some 5) (some 6) 1 0 1 (by decide) (by decide) x y (by omega) (by omega) (by omega)
  · exact pair_at x0 (some 3) (some 4) 1 0 0 (by decide) (by decide) x y (by omega) (by omega) (by omega)
  · exact pair_at x0 none none 0 3 5 (by decide) (by decide) x y (by omega) (by omega) (by omega)
  · exact pair_at x0 none none 0 3 4 (by decide) (by decide) x y (by omega) (by omega) (by omega)
  · exact pair_at x0 (some 10) (some 11) 0 3 3 (by decide) (by decide) x y (by omega) (by omega) (by omega)
  · exact pair_at x0 (some 8) (some 9) 0 3 2 (by decide) (by decide) x y (by omega) (by omega) (by omega)
  · exact pair_at x0 (some 6) (some 7) 0 3 1 (by decide) (by decide) x y (by omega) (by omega) (by omega)
  · exact pair_at x0 (some 4) (some 5) 0 3 0 (by decide) (by decide) x y (by omega) (by omega) (by omega)
  · exact pair_at x0 none none 0 2 5 (by decide) (by decide) x y (by omega) (by omega) (by omega)
  · exact pair_at x0 none none 0 2 4 (by decide) (by decide) x y (by omega) (by omega) (by omega)
  · exact pair_at x0 (some 11) (some 12) 0 2 3 (by decide) (by decide) x y (by omega) (by omega) (by omega)
  · exact pair_at x0 (some 9) (some 10) 0 2 2 (by decide) (by decide) x y (by omega) (by omega) (by omega)
  · exact pair_at x0 (some 7) (some 8) 0 2 1 (by decide) (by decide) x y (by omega) (by omega) (by omega)
  · exact pair_at x0 (some 5) (some 6) 0 2 0 (by decide) (by decide) x y (by omega) (by omega) (by omega)
  · exact pair_at x0 none none 0 1 5 (by decide) (by decide) x y (by omega) (by omega) (by omega)
  · exact pair_at x0 none none 0 1 4 (by decide) (by decide) x y (by omega) (by omega) (by omega)
  · exact pair_at x0 (some 12) (some 13) 0 1 3 (by decide) (by decide) x y (by omega) (by omega) (by omega)
  · exact pair_at x0 (some 10) (some 11) 0 1 2 (by decide) (by decide) x y (by omega) (by omega) (by omega)
  · exact pair_at x0 (some 8) (some 9) 0 1 1 (by decide) (by decide) x y (by omega) (by omega) (by omega)
  · exact pair_at x0 (some 6) (some 7) 0 1 0 (by decide) (by decide) x y (by omega) (by omega) (by omega)
  · exact pair_at x0 none none 0 0 5 (by decide) (by decide) x y (by omega) (by omega) (by omega)
  · exact pair_at x0 none none 0 0 4 (by decide) (by decide) x y (by omega) (by omega) (by omega)
  · exact pair_at x0 (some 13) (some 14) 0 0 3 (by decide) (by decide) x y (by omega) (by omega) (by omega)
  · exact pair_at x0 (some 11) (some 12) 0 0 2 (by decide) (by decide) x y (by omega) (by omega) (by omega)
  · exact pair_at x0 (some 9) (some 10) 0 0 1 (by decide) (by decide) x y (by omega) (by omega) (by omega)
  · exact pair_at x0 (some 7) (some 8) 0 0 0 (by decide) (by decide) x y (by omega) (by omega) (by omega)

end Cert.KernelIdeal.Na

end
-- ==== Proof.NaRun.lean ====
/- The neighbourhood attention program's run: every buffer ends at what its two regions and the host operations leave. -/
module

public import proofs.«01_k».proof.Proof.Gen.KernelIdeal.Frame

@[expose] public section
set_option maxRecDepth 16384
noncomputable section

namespace Cert.KernelIdeal.Na
open Idealize.ShloMosaic Idealize.ShloMosaic.TcCoe Idealize.SL.Sem Idealize.SL Idealize.SL.BI
open Cert.KernelIdeal Cert.KernelIdeal.Gen

open Idealize.SL.RA Idealize.ShloMosaic.Tactic
open scoped Idealize.SL.BI
open Idealize.SL.BI.BIBase Idealize.SL.BI.Laws Idealize.SL.ProofMode
open Idealize.ShloMosaic.Rounds
open Idealize.ShloMosaic.Pipeline (Dat Cfg Window BodyObligation cellOf)

variable {F : FTy → Type} [FloatOps F] [Named F]
local notation "𝕄" => MT nD τ sig Unit (Elt F) ℕ (UR sig nD τ) ℕ
variable (m : (ℓ : Loc nD τ sig) → Buf (Elt F) ℓ) (ρ : Dev nD → PrngReg)

-- the kit's implicit arguments are found by unifying its conclusion, unfolding plain definitions
set_option backward.isDefEq.respectTransparency.types false in
/-- Every unscoped buffer after the run holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h _ => h)

/-- The results and the arguments after the run. -/
theorem run_vals : θ_run defs (onTc (τ := τ) (main (F := F))) ⟨m, fun _ => 0, ρ⟩ (fun r => ∀ c : Dev nD,
      r.2.mem ((c.tc : Thread nD τ).loc main_v11_0) = W8 m ρ c (Proc.devRef .tc main_v11_0)
      ∧ r.2.mem ((c.tc : Thread nD τ).loc main_v4) = W8 m ρ c (Proc.devRef .tc main_v4)
      ∧ r.2.mem ((c.tc : Thread nD τ).loc main_v12) = W8 m ρ c (Proc.devRef .tc main_v12)
      ∧ r.2.mem ((c.tc : Thread nD τ).loc main_v13) = W8 m ρ c (Proc.devRef .tc main_v13)
      ∧ r.2.mem ((c.tc : Thread nD τ).loc main_v14) = W8 m ρ c (Proc.devRef .tc main_v14)
      ∧ r.2.mem ((c.tc : Thread nD τ).loc main_v15) = W8 m ρ c (Proc.devRef .tc main_v15)
      ∧ r.2.mem ((c.tc : Thread nD τ).loc main_v16) = W8 m ρ c (Proc.devRef .tc main_v16)
      ∧ r.2.mem ((c.tc : Thread nD τ).loc main_v17) = W8 m ρ c (Proc.devRef .tc main_v17)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => by
    have k (b : Ref sig .tc) (hb : ¬ (Proc.devRef .tc b : DevRef τ sig).isScoped) :
        r.2.mem ((c.tc : Thread nD τ).loc b) = W8 m ρ c (Proc.devRef .tc b) := h c _ (mem_uc b hb)
    exact ⟨k _ (by decide), k _ (by decide), k _ (by decide), k _ (by decide), k _ (by decide), k _ (by decide), k _ (by decide), k _ (by decide),
      (k _ (by decide)).trans (W8_main_arg0 m ρ c), (k _ (by decide)).trans (W8_main_arg1 m ρ c), (k _ (by decide)).trans (W8_main_arg2 m ρ c),
      (k _ (by decide)).trans (W8_main_arg3 m ρ c), (k _ (by decide)).trans (W8_main_arg4 m ρ c), (k _ (by decide)).trans (W8_main_arg5 m ρ c),
      (k _ (by decide)).trans (W8_main_arg6 m ρ c), (k _ (by decide)).trans (W8_main_arg7 m ρ c)⟩) (run_all m ρ)

end Cert.KernelIdeal.Na
-- ==== Proof.NaHost.lean ====
/- The bias-table region of the neighbourhood attention program: its arguments, its table and its cast weights. -/
module

public import proofs.«01_k».proof.Proof.NaBias
public import proofs.«01_k».proof.Proof.NaRun
public import Idealize.ShloMosaic.Lib.Claim

@[expose] public section
set_option maxRecDepth 16384
noncomputable section

namespace Cert.KernelIdeal.Na
open Idealize.ShloMosaic Idealize.ShloMosaic.TcCoe Idealize.SL.Sem
open Cert.KernelIdeal Cert.KernelIdeal.Gen
variable (m : (ℓ : Loc nD τ sig) → Buf (Elt Ideal) ℓ) (ρ : Dev nD → PrngReg)

/-- The relative-position biases padded to 128 lanes. -/
def padded (x : Vec Ideal S2x8x15x31 .f32) : Vec Ideal S2x8x15x128 .f32 :=
  pad S2x8x15x128 ![0, 0, 0, 0] ![0, 0, 0, 97] ![0, 0, 0, 0] x (constant S_ .f32 0xF149F2CA#32 : FVec Ideal S_ .f32) pads_S2x8x15x31_S2x8x15x128_000_000_000_0970 h_S_

/-- The padded biases rotated so that offset zero is lane zero. -/
def lanes (x : Vec Ideal S2x8x15x31 .f32) : Vec Ideal S2x8x15x128 .f32 :=
  concatenate S2x8x15x128 3 [⟨S2x8x15x113, extractStridedSlice S2x8x15x113 ![0, 0, 0, 15] (padded x) slices_S2x8x15x128_S2x8x15x113_0_0_0_15⟩,
    ⟨S2x8x15x15, extractStridedSlice S2x8x15x15 ![0, 0, 0, 0] (padded x) slices_S2x8x15x128_S2x8x15x15_0_0_0_0⟩] concatenates_S2x8x15x113_S2x8x15x15_S2x8x15x128_d3

theorem padded_at (x : Vec Ideal S2x8x15x31 .f32) (L : Fin 2) (h : Fin 8) (d : Fin 15) (l : Fin 128) (hl : l.val < 31) :
    padded x (ix4 L h d l) = x (ix4 L h d ⟨l.val, hl⟩) := by
  pointwise [padded]
  rw [dif_pos (by omega)]

theorem lanes_at (x : Vec Ideal S2x8x15x31 .f32) (L : Fin 2) (h : Fin 8) (d : Fin 15) (l : Fin 128) (hl : l.val < 16 ∨ 113 ≤ l.val) :
    lanes x (ix4 L h d l) = x (ix4 L h d ⟨(l.val + 15) % 128, by omega⟩) := by
  have e := padded_at x L h d ⟨(l.val + 15) % 128, by omega⟩ (by simp only []; omega)
  rw [← e]
  unfold lanes
  generalize padded x = w
  by_cases h1 : l.val < 113
  · pointwise []
    rw [dif_pos h1]
    blk_ext
  · pointwise []
    rw [dif_neg h1]
    blk_ext

theorem V4_lanes (c : Dev nD) : (V4 m ρ c main_v1 : Vec Ideal S2x8x15x128 .f32) = lanes (m ((c : Thread nD τ).loc main_arg1)) := by
  show StableHlo.after hostOps0_3 (StableHlo.after hostOps0_2 (StableHlo.after hostOps0_1 (StableHlo.after hostOps0 (W0 m ρ c)))) (Proc.devRef .tc main_v1) = _
  entry_read
  rfl

theorem V4_slabs (c : Dev nD) (L : Fin 32) (h : Fin 64) (d : Fin 5120) : (V4 m ρ c main_v2 : Vec Ideal S32x64x5120 .f32) (ix3 L h d)
    = (m ((c : Thread nD τ).loc main_arg2) : Vec Ideal S2x1024x5120 .f32) (ix3 ⟨L.val / 16, by omega⟩ ⟨L.val % 16 * 64 + h.val, by omega⟩ d) := by
  show StableHlo.after hostOps0_3 (StableHlo.after hostOps0_2 (StableHlo.after hostOps0_1 (StableHlo.after hostOps0 (W0 m ρ c)))) (Proc.devRef .tc main_v2) _ = _
  entry_read
  pointwise []

/-- The windows' block indices at every grid point. -/
theorem idx0 : ∀ t : Fin cfg0.N, win0_0.index t = ![t.val / 8, t.val % 8, 0, 0] ∧ win0_1.index t = ![t.val, 0, 0]
    ∧ win0_2.index t = ![t.val / 8, 0, t.val % 8, 0, 0] ∧ win0_3.index t = ![t.val, 0, 0] ∧ t.val < 16 :=
  (by decide +kernel : ∀ t : Fin grid0.N, _)

/-- One head's rotated bias rows. -/
def headRows (x : Vec Ideal S2x8x15x31 .f32) (L : Fin 2) (h : Fin 8) : Vec Ideal S1x1x15x128 .f32 := fun i => lanes x (ix4 L h (i 2) (i 3))

theorem blk0_0 (c : Dev nD) (t : Fin cfg0.N) : (iblk0 (V4 m ρ) c 0 t : Vec Ideal S1x1x15x128 .f32)
    = headRows (m ((c : Thread nD τ).loc main_arg1)) ⟨t.val / 8, by have := (idx0 t).2.2.2.2; omega⟩ ⟨t.val % 8, by omega⟩ := by
  unfold headRows
  rw [← V4_lanes m ρ c]
  funext i
  idx_vars i
  blk_point [iblk0, idx0 t]

/-- The bias table after its region. -/
theorem table_final (c : Dev nD) : ((dat0 (V4 m ρ) c).arrAt 2 cfg0.N : Vec Ideal S2x3x8x256x768 .f32)
    = fun y => entry (headRows (m ((c : Thread nD τ).loc main_arg1)) (y 0) (y 2)) (y 1).val (y 3).val (y 4).val := by
  refine (dat0 (V4 m ρ) c).arrAt_eq_of_covers 2 _ (by decide +kernel) fun t _ y => ?_
  blk_simp
  rw [after0_2, out0_2_eq, table_at, blk0_0]
  idx_vars y
  congr 1
  · congr 1 <;> (apply Fin.ext; blk_simp [idx0 t] <;> try omega)
  all_goals blk_ext [idx0 t]

theorem cast_at (x0 : Vec Ideal S1x1x15x128 .f32) (x1 : Vec Ideal S1x64x5120 .f32) : out0_3 (F := Ideal) x0 x1 = x1 := by
  funext y
  unfold out0_3
  canon_tiles x h
  idx_vars x
  idx_vars y
  pointwise [k0_pay1, k0_pay104]
  blk_ext

end Cert.KernelIdeal.Na

end
-- ==== Proof.NaAttn.lean ====
/- The attention region's result array, entry by entry. -/
module

public import proofs.«01_k».proof.Proof.NaHeads
public import proofs.«01_k».proof.Proof.NaHost

@[expose] public section
set_option maxRecDepth 16384
noncomputable section

namespace Cert.KernelIdeal.Na
open Idealize.ShloMosaic Idealize.ShloMosaic.TcCoe Idealize.SL.Sem
open Cert.KernelIdeal Cert.KernelIdeal.Gen
open NaRow
variable (m : (ℓ : Loc nD τ sig) → Buf (Elt Ideal) ℓ) (ρ : Dev nD → PrngReg)

/-- A query block's class: the first, an inner one, the last. -/
abbrev cls (n : ℕ) : ℕ := if n = 0 then 0 else if n = 7 then 2 else 1

/-- The windows' block indices at every grid point. -/
theorem idx1 : ∀ t : Fin cfg1.N, win1_0.index t = ![t.val % 2, t.val / 2, 0]
    ∧ win1_1.index t = ![t.val % 2, min 5 (t.val / 2 - 1), 1] ∧ win1_2.index t = ![t.val % 2, min 5 (t.val / 2 - 1) + 1, 1] ∧ win1_3.index t = ![t.val % 2, min 5 (t.val / 2 - 1) + 2, 1]
    ∧ win1_4.index t = ![t.val % 2, min 5 (t.val / 2 - 1), 2] ∧ win1_5.index t = ![t.val % 2, min 5 (t.val / 2 - 1) + 1, 2] ∧ win1_6.index t = ![t.val % 2, min 5 (t.val / 2 - 1) + 2, 2]
    ∧ win1_7.index t = ![0, cls (t.val / 2), 0, 0, 0] ∧ win1_14.index t = ![t.val % 2, t.val / 2, 0] ∧ t.val < 16 :=
  (by decide +kernel : ∀ t : Fin grid1.N, _)

theorem V6_arg0 (c : Dev nD) : V6 m ρ c main_arg0 = m ((c : Thread nD τ).loc main_arg0) := W6_args m ρ c main_arg0 (by decide)

theorem V6_table (c : Dev nD) : (V6 m ρ c main_v3_0 : Vec Ideal S2x3x8x256x768 .f32)
    = fun y => entry (headRows (m ((c : Thread nD τ).loc main_arg1)) (y 0) (y 2)) (y 1).val (y 3).val (y 4).val :=
  (W6_of m ρ c main_v3_0 (by decide)).trans ((W5_arr m ρ c 2).trans (table_final m ρ c))

/-- The attention's result from the queries, keys and values and the biases. -/
def attn (x : Vec Ideal S8x2048x3072 .bf16) (rpb : Vec Ideal S2x8x15x31 .f32) (b : Fin 8) (p : Fin 2048) (e : Fin 512) : EReal :=
  att (fun j : Fin 768 => (∑ a : Fin 64, x (ix3 b p ⟨64 * (e.val / 64) + a.val, by omega⟩) * ((1 / 8 : ℝ) : EReal)
        * x (ix3 b ⟨256 * min 5 (p.val / 256 - 1) + j.val, by omega⟩ ⟨512 + (64 * (e.val / 64) + a.val), by omega⟩))
      + entry (headRows rpb 0 ⟨e.val / 64, by omega⟩) (cls (p.val / 256)) (p.val % 256) j.val)
    (fun j => x (ix3 b ⟨256 * min 5 (p.val / 256 - 1) + j.val, by omega⟩ ⟨1024 + e.val, by omega⟩))

theorem blkq (c : Dev nD) (t : Fin cfg1.N) (bi : Fin 4) (r : Fin 256) (e : Fin 512) :
    (iblk1 (V6 m ρ) c 0 t : Vec Ideal S4x256x512 .bf16) (ix3 bi r e)
      = (m ((c : Thread nD τ).loc main_arg0) : Vec Ideal S8x2048x3072 .bf16) (ix3 ⟨4 * (t.val % 2) + bi.val, by omega⟩ ⟨256 * (t.val / 2) + r.val, by have := (idx1 t).2.2.2.2.2.2.2.2.2; omega⟩ ⟨e.val, by omega⟩) := by
  rw [← V6_arg0 m ρ c]
  blk_point [iblk1, idx1 t]

theorem blkk (c : Dev nD) (t : Fin cfg1.N) (bi : Fin 4) (j : Fin 768) (e : Fin 512) :
    win4 (iblk1 (V6 m ρ) c 1 t) (iblk1 (V6 m ρ) c 2 t) (iblk1 (V6 m ρ) c 3 t) bi j e
      = (m ((c : Thread nD τ).loc main_arg0) : Vec Ideal S8x2048x3072 .bf16) (ix3 ⟨4 * (t.val % 2) + bi.val, by omega⟩ ⟨256 * min 5 (t.val / 2 - 1) + j.val, by omega⟩ ⟨512 + e.val, by omega⟩) := by
  rw [← V6_arg0 m ρ c]
  unfold win4
  blk_point [iblk1, idx1 t]

theorem blkv (c : Dev nD) (t : Fin cfg1.N) (bi : Fin 4) (j : Fin 768) (e : Fin 512) :
    win4 (iblk1 (V6 m ρ) c 4 t) (iblk1 (V6 m ρ) c 5 t) (iblk1 (V6 m ρ) c 6 t) bi j e
      = (m ((c : Thread nD τ).loc main_arg0) : Vec Ideal S8x2048x3072 .bf16) (ix3 ⟨4 * (t.val % 2) + bi.val, by omega⟩ ⟨256 * min 5 (t.val / 2 - 1) + j.val, by omega⟩ ⟨1024 + e.val, by omega⟩) := by
  rw [← V6_arg0 m ρ c]
  unfold win4
  blk_point [iblk1, idx1 t]

theorem blkb (c : Dev nD) (t : Fin cfg1.N) (h : Fin 8) (r : Fin 256) (j : Fin 768) :
    (iblk1 (V6 m ρ) c 7 t : Vec Ideal S1x1x8x256x768 .f32) (ix5 0 0 h r j)
      = entry (headRows (m ((c : Thread nD τ).loc main_arg1)) 0 h) (cls (t.val / 2)) r.val j.val := by
  have e : (iblk1 (V6 m ρ) c 7 t : Vec Ideal S1x1x8x256x768 .f32) (ix5 0 0 h r j)
      = (V6 m ρ c main_v3_0 : Vec Ideal S2x3x8x256x768 .f32) (ix5 0 ⟨cls (t.val / 2), by unfold cls; split_ifs <;> omega⟩ h r j) := by
    blk_point [iblk1, idx1 t]
  rw [e, V6_table]
  rfl

/-- The attention's result array after the run. -/
theorem attn_final (c : Dev nD) : ((dat1 (V6 m ρ) c).arrAt 14 cfg1.N : Vec Ideal S8x2048x512 .bf16)
    = fun y => attn (m ((c : Thread nD τ).loc main_arg0)) (m ((c : Thread nD τ).loc main_arg1)) (y 0) (y 1) (y 2) := by
  refine (dat1 (V6 m ρ) c).arrAt_eq_of_covers 14 _ (by decide +kernel) fun t _ y => ?_
  blk_simp
  rw [after1_14, out1_14_eq, heads_at]
  obtain ⟨bi, r, e, rfl⟩ : ∃ (bi : Fin 4) (r : Fin 256) (e : Fin 512), y = ix3 bi r e := ⟨y 0, y 1, y 2, eq_ix3 y⟩
  have ht := (idx1 t).2.2.2.2.2.2.2.2.2
  have e0 : (⟨4 * (t.val % 2) + bi.val, by omega⟩ : Fin 8) = (win1_14.blk t).view.emb (ix3 bi r e) 0 := by
    apply Fin.ext; blk_simp [idx1 t] <;> (try simp only []) <;> try omega
  have e1 : (⟨256 * (t.val / 2) + r.val, by omega⟩ : Fin 2048) = (win1_14.blk t).view.emb (ix3 bi r e) 1 := by
    apply Fin.ext; blk_simp [idx1 t] <;> (try simp only []) <;> try omega
  have e2 : (⟨e.val, by omega⟩ : Fin 512) = (win1_14.blk t).view.emb (ix3 bi r e) 2 := by
    apply Fin.ext; blk_simp [idx1 t] <;> (try simp only []) <;> try omega
  refine Eq.trans ?_ (congr (congrArg₂ (attn (m ((c : Thread nD τ).loc main_arg0)) (m ((c : Thread nD τ).loc main_arg1))) e0 e1) e2)
  show headsAt _ _ _ _ _ _ _ _ bi r e = _
  unfold headsAt attn
  simp only [blkq, blkk, blkv, blkb]
  have d1 : (256 * (t.val / 2) + r.val) / 256 = t.val / 2 := by omega
  have d2 : (256 * (t.val / 2) + r.val) % 256 = r.val := by omega
  simp only [d1, d2]

end Cert.KernelIdeal.Na

end
-- ==== Proof.NaGather.lean ====
/- The reference's gathers and index arithmetic, entry by entry. -/
module

public import proofs.«01_k».proof.Proof.NaRow
public import proofs.«01_k».proof.Proof.Gen.ReferenceIdeal.Run

@[expose] public section
set_option maxRecDepth 16384
noncomputable section

namespace Cert.ReferenceIdeal.Na
open Idealize.ShloMosaic
open Cert.ReferenceIdeal Cert.ReferenceIdeal.Gen Cert.ReferenceIdeal.Value
open NaRow

abbrev gk := gather_S8x32x64x8x64_S32x8x1_S8x32x8x64x8x64_0345_1_n_n_1_2_8164864
abbrev gb := gather_S8x15x31_S32x8x64x64x2_S8x32x8x64x64_0_12_n_n_12_4_811

/-- The gather of whole grid rows. -/
theorem gather_keys {α : Type} (x : S8x32x64x8x64.Idx → α) (idx : IVec S32x8x1 32) (b : Fin 8) (R : Fin 32) (w : Fin 8) (k : Fin 64) (h : Fin 8) (a : Fin 64) :
    Host.gather gk x idx (ix6 b R w k h a) = x (ix5 b ⟨min (idx (ix3 R w 0)).toInt.toNat 31, by omega⟩ k h a) := by
  unfold Host.gather
  refine congrArg x (funext fun i => Fin.ext ?_)
  have hsi : gk.siIdx (ix6 b R w k h a) ⟨0, by decide⟩ = ix3 R w 0 := by
    funext i
    match i with
    | ⟨0, _⟩ => rfl
    | ⟨1, _⟩ => rfl
    | ⟨2, _⟩ => rfl
  show gk.start (ix6 b R w k h a) idx i + gk.batchCoord (ix6 b R w k h a) i + gk.offCoord (ix6 b R w k h a) i = _
  match i with
  | ⟨0, _⟩ => exact Nat.zero_add _
  | ⟨1, _⟩ => show min (idx (gk.siIdx (ix6 b R w k h a) ⟨0, by decide⟩)).toInt.toNat 31 + 0 + 0 = _; rw [hsi]; rfl
  | ⟨2, _⟩ => exact Nat.zero_add _
  | ⟨3, _⟩ => exact Nat.zero_add _
  | ⟨4, _⟩ => exact Nat.zero_add _

/-- The gather of bias entries. -/
theorem gather_bias {α : Type} (x : S8x15x31.Idx → α) (idx : IVec S32x8x64x64x2 32) (h : Fin 8) (R : Fin 32) (w : Fin 8) (c k : Fin 64) :
    Host.gather gb x idx (ix5 h R w c k)
      = x (ix3 h ⟨min (idx (ix5 R w c k 0)).toInt.toNat 14, by omega⟩ ⟨min (idx (ix5 R w c k 1)).toInt.toNat 30, by omega⟩) := by
  unfold Host.gather
  refine congrArg x (funext fun i => Fin.ext ?_)
  have hs0 : gb.siIdx (ix5 h R w c k) ⟨0, by decide⟩ = ix5 R w c k 0 := by
    funext i
    match i with
    | ⟨0, _⟩ => rfl
    | ⟨1, _⟩ => rfl
    | ⟨2, _⟩ => rfl
    | ⟨3, _⟩ => rfl
    | ⟨4, _⟩ => rfl
  have hs1 : gb.siIdx (ix5 h R w c k) ⟨1, by decide⟩ = ix5 R w c k 1 := by
    funext i
    match i with
    | ⟨0, _⟩ => rfl
    | ⟨1, _⟩ => rfl
    | ⟨2, _⟩ => rfl
    | ⟨3, _⟩ => rfl
    | ⟨4, _⟩ => rfl
  show gb.start (ix5 h R w c k) idx i + gb.batchCoord (ix5 h R w c k) i + gb.offCoord (ix5 h R w c k) i = _
  match i with
  | ⟨0, _⟩ => exact Nat.zero_add _
  | ⟨1, _⟩ => show min (idx (gb.siIdx (ix5 h R w c k) ⟨0, by decide⟩)).toInt.toNat 14 + 0 + 0 = _; rw [hs0]; rfl
  | ⟨2, _⟩ => show min (idx (gb.siIdx (ix5 h R w c k) ⟨1, by decide⟩)).toInt.toNat 30 + 0 + 0 = _; rw [hs1]; rfl

variable (V0 : Valuation τ sig (Elt Ideal))

theorem v22_at (R : Fin 32) (w : Fin 8) : res_main_v22 V0 (ix2 R w) = BitVec.ofNat 32 (min 24 (R.val - 4) + w.val) := by
  have key : ∀ (R : Fin 32) (w : Fin 8), IntOp.addi (IntOp.minsi 24#32 (IntOp.maxsi 0#32 (IntOp.subi (BitVec.ofNat 32 R.val) 4#32))) (BitVec.ofNat 32 w.val)
      = BitVec.ofNat 32 (min 24 (R.val - 4) + w.val) := by decide +kernel
  refine Eq.trans ?_ (key R w)
  pointwise [res_main_v22, res_main_v13, id]

theorem v42_at (c : Fin 64) : res_main_v42 V0 (ix1 c) = BitVec.ofNat 32 (min 48 (c.val - 8)) := by
  have key : ∀ (c : Fin 64), (IntOp.minsi 48#32 (IntOp.maxsi 0#32 (IntOp.subi (BitVec.ofNat 32 c.val) 8#32)))
      = BitVec.ofNat 32 (min 48 (c.val - 8)) := by decide +kernel
  refine Eq.trans ?_ (key c)
  pointwise [res_main_v42, res_main_v39, id]

theorem v70_at (R : Fin 32) (w : Fin 8) (u v : Fin 1) : res_main_v70 V0 (ix4 R w u v) = BitVec.ofNat 32 (min 24 (R.val - 4) + w.val + 7 - R.val) := by
  have key : ∀ (R : Fin 32) (w : Fin 8), IntOp.subi (IntOp.addi (IntOp.subi (BitVec.ofNat 32 (min 24 (R.val - 4) + w.val)) (BitVec.ofNat 32 R.val)) 8#32) 1#32
      = BitVec.ofNat 32 (min 24 (R.val - 4) + w.val + 7 - R.val) := by decide +kernel
  refine Eq.trans ?_ (key R w)
  rw [← v22_at V0 R w]
  unfold res_main_v70
  generalize res_main_v22 V0 = x
  pointwise [res_main_v13]

theorem v75_at (c k : Fin 64) (u v : Fin 1) : res_main_v75 V0 (ix4 u v c k) = BitVec.ofNat 32 (min 30 (k.val + 15 - c.val)) := by
  have key : ∀ (c k : Fin 64), IntOp.subi (IntOp.addi (IntOp.minsi 15#32 (IntOp.maxsi 4294967281#32 (IntOp.subi (BitVec.ofNat 32 k.val) (BitVec.ofNat 32 c.val)))) 16#32) 1#32
      = BitVec.ofNat 32 (min 30 (k.val + 15 - c.val)) := by decide +kernel
  refine Eq.trans ?_ (key c k)
  pointwise [res_main_v75, res_main_v43, res_main_v39, id]

end Cert.ReferenceIdeal.Na

end
-- ==== Proof.NaRef.lean ====
/- The reference's scores and its result, entry by entry. -/
module

public import proofs.«01_k».proof.Proof.NaGather
public import Idealize.ShloMosaic.Lib.Pipeline.ValueKit

@[expose] public section
set_option maxRecDepth 16384
noncomputable section

namespace Cert.ReferenceIdeal.Na
open Idealize.ShloMosaic Idealize.ShloMosaic.TcCoe Idealize.SL.Sem
open Cert.ReferenceIdeal Cert.ReferenceIdeal.Gen Cert.ReferenceIdeal.Value
open NaRow
variable (V0 : Valuation τ sig (Elt Ideal))

/-- The grid rows the keys are gathered from. -/
def rowIdx : IVec S32x8x1 32 :=
  broadcastInDim S32x8x1 ![0, 1] bcast_S32x8_S32x8x1_0_1 (select (cmpi .slt (res_main_v22 V0) (broadcastInDim S32x8 ![] bcast_S_S32x8 (constantI S_ 32 0#32))) (addi (res_main_v22 V0) (broadcastInDim S32x8 ![] bcast_S_S32x8 (constantI S_ 32 32#32))) (res_main_v22 V0))

theorem rowIdx_at (R : Fin 32) (w : Fin 8) : min (rowIdx V0 (ix3 R w 0)).toInt.toNat 31 = min 24 (R.val - 4) + w.val := by
  have key : ∀ (R : Fin 32) (w : Fin 8), min (Scalar.select (IntOp.cmpi .slt (BitVec.ofNat 32 (min 24 (R.val - 4) + w.val)) 0#32)
      (IntOp.addi (BitVec.ofNat 32 (min 24 (R.val - 4) + w.val)) 32#32) (BitVec.ofNat 32 (min 24 (R.val - 4) + w.val))).toInt.toNat 31 = min 24 (R.val - 4) + w.val := by decide +kernel
  refine Eq.trans ?_ (key R w)
  rw [← v22_at V0 R w]
  unfold rowIdx
  generalize res_main_v22 V0 = x
  pointwise []

/-- The queries by grid position and head. -/
def queries (x : FVec Ideal S8x2048x512 .f32) : FVec Ideal S8x32x64x8x64 .f32 :=
  shapeCast _ (shapeCast _ x shapeCasts_S8x2048x512_S8x2048x8x64) shapeCasts_S8x2048x8x64_S8x32x64x8x64

theorem queries_at (x : FVec Ideal S8x2048x512 .f32) (b : Fin 8) (R : Fin 32) (c : Fin 64) (h : Fin 8) (a : Fin 64) :
    queries x (ix5 b R c h a) = x (ix3 b ⟨64 * R.val + c.val, by omega⟩ ⟨64 * h.val + a.val, by omega⟩) := by
  pointwise [queries]
  simp only [Nat.mul_comm 64]

/-- The gathered keys (or values) of every query row. -/
def keys (x : FVec Ideal S8x2048x512 .f32) : FVec Ideal S8x32x512x8x64 .f32 :=
  shapeCast _ (Host.gather gather_S8x32x64x8x64_S32x8x1_S8x32x8x64x8x64_0345_1_n_n_1_2_8164864 (queries x) (rowIdx V0)) shapeCasts_S8x32x8x64x8x64_S8x32x512x8x64

theorem keys_at (x : FVec Ideal S8x2048x512 .f32) (b : Fin 8) (R : Fin 32) (i : Fin 512) (h : Fin 8) (a : Fin 64) :
    keys V0 x (ix5 b R i h a) = x (ix3 b ⟨64 * (min 24 (R.val - 4) + i.val / 64) + i.val % 64, by omega⟩ ⟨64 * h.val + a.val, by omega⟩) := by
  have e : keys V0 x (ix5 b R i h a) = Host.gather gk (queries x) (rowIdx V0) (ix6 b R ⟨i.val / 64, by omega⟩ ⟨i.val % 64, by omega⟩ h a) := by
    unfold keys
    generalize queries x = q, rowIdx V0 = z
    pointwise []
  rw [e, gather_keys, queries_at]
  have f := rowIdx_at V0 R ⟨i.val / 64, by omega⟩
  simp only [f]

/-- The bias entries gathered for every query row. -/
def biasIdx : IVec S32x8x64x64x2 32 :=
  concatenate S32x8x64x64x2 4 [⟨S32x8x64x64x1, (broadcastInDim S32x8x64x64x1 ![0, 1, 2, 3] bcast_S32x8x64x64_S32x8x64x64x1_0_1_2_3 (broadcastInDim S32x8x64x64 ![0, 1, 2, 3] bcast_S32x8x1x1_S32x8x64x64_0_1_2_3 (select (cmpi .slt (res_main_v70 V0) (broadcastInDim S32x8x1x1 ![] bcast_S_S32x8x1x1 (constantI S_ 32 0#32))) (addi (res_main_v70 V0) (broadcastInDim S32x8x1x1 ![] bcast_S_S32x8x1x1 (constantI S_ 32 15#32))) (res_main_v70 V0))))⟩, ⟨S32x8x64x64x1, (broadcastInDim S32x8x64x64x1 ![0, 1, 2, 3] bcast_S32x8x64x64_S32x8x64x64x1_0_1_2_3 (broadcastInDim S32x8x64x64 ![0, 1, 2, 3] bcast_S1x1x64x64_S32x8x64x64_0_1_2_3 (select (cmpi .slt (res_main_v75 V0) (broadcastInDim S1x1x64x64 ![] bcast_S_S1x1x64x64 (constantI S_ 32 0#32))) (addi (res_main_v75 V0) (broadcastInDim S1x1x64x64 ![] bcast_S_S1x1x64x64 (constantI S_ 32 31#32))) (res_main_v75 V0))))⟩] concatenates_S32x8x64x64x1_S32x8x64x64x1_S32x8x64x64x2_d4

theorem biasIdx_row (R : Fin 32) (w : Fin 8) (c k : Fin 64) : min (biasIdx V0 (ix5 R w c k 0)).toInt.toNat 14 = min 24 (R.val - 4) + w.val + 7 - R.val := by
  have key : ∀ (R : Fin 32) (w : Fin 8), min (Scalar.select (IntOp.cmpi .slt (BitVec.ofNat 32 (min 24 (R.val - 4) + w.val + 7 - R.val)) 0#32)
      (IntOp.addi (BitVec.ofNat 32 (min 24 (R.val - 4) + w.val + 7 - R.val)) 15#32) (BitVec.ofNat 32 (min 24 (R.val - 4) + w.val + 7 - R.val))).toInt.toNat 14 = min 24 (R.val - 4) + w.val + 7 - R.val := by decide +kernel
  refine Eq.trans ?_ (key R w)
  rw [← v70_at V0 R w 0 0]
  unfold biasIdx
  generalize res_main_v70 V0 = x, res_main_v75 V0 = y
  pointwise []

theorem biasIdx_col (R : Fin 32) (w : Fin 8) (c k : Fin 64) : min (biasIdx V0 (ix5 R w c k 1)).toInt.toNat 30 = min 30 (k.val + 15 - c.val) := by
  have key : ∀ (c k : Fin 64), min (Scalar.select (IntOp.cmpi .slt (BitVec.ofNat 32 (min 30 (k.val + 15 - c.val))) 0#32)
      (IntOp.addi (BitVec.ofNat 32 (min 30 (k.val + 15 - c.val))) 31#32) (BitVec.ofNat 32 (min 30 (k.val + 15 - c.val)))).toInt.toNat 30 = min 30 (k.val + 15 - c.val) := by decide +kernel
  refine Eq.trans ?_ (key c k)
  rw [← v75_at V0 c k 0 0]
  unfold biasIdx
  generalize res_main_v70 V0 = x, res_main_v75 V0 = y
  pointwise []

/-- The gathered biases. -/
def bias (x : FVec Ideal S8x15x31 .f32) : FVec Ideal S8x32x64x512 .f32 :=
  shapeCast _ (transpose S8x32x64x8x64 [0, 1, 3, 2, 4] (Host.gather gather_S8x15x31_S32x8x64x64x2_S8x32x8x64x64_0_12_n_n_12_4_811 x (biasIdx V0)) transposes_S8x32x8x64x64_S8x32x64x8x64_0_1_3_2_4) shapeCasts_S8x32x64x8x64_S8x32x64x512

theorem bias_at (x : FVec Ideal S8x15x31 .f32) (h : Fin 8) (R : Fin 32) (c : Fin 64) (i : Fin 512) :
    bias V0 x (ix4 h R c i) = x (ix3 h ⟨min 24 (R.val - 4) + i.val / 64 + 7 - R.val, by omega⟩ ⟨min 30 (i.val % 64 + 15 - c.val), by omega⟩) := by
  have e : bias V0 x (ix4 h R c i) = Host.gather gb x (biasIdx V0) (ix5 h R ⟨i.val / 64, by omega⟩ c ⟨i.val % 64, by omega⟩) := by
    unfold bias
    generalize biasIdx V0 = z
    pointwise []
  rw [e, gather_bias]
  have f := biasIdx_row V0 R ⟨i.val / 64, by omega⟩ c ⟨i.val % 64, by omega⟩
  have g := biasIdx_col V0 R ⟨i.val / 64, by omega⟩ c ⟨i.val % 64, by omega⟩
  simp only [f, g]

/-- The key columns in each query column's band. -/
def inBand : IVec S64x512 1 :=
  shapeCast _ (broadcastInDim S1x64x8x64 ![0, 1, 2, 3] bcast_S1x64x1x64_S1x64x8x64_0_1_2_3 (shapeCast _ (andi (cmpi .sge (broadcastInDim S64x64 ![0, 1] bcast_S1x64_S64x64_0_1 (res_main_v43 V0)) (broadcastInDim S64x64 ![0, 1] bcast_S64x1_S64x64_0_1 (broadcastInDim S64x1 ![0] bcast_S64_S64x1_0 (res_main_v42 V0)))) (cmpi .slt (broadcastInDim S64x64 ![0, 1] bcast_S1x64_S64x64_0_1 (res_main_v43 V0)) (broadcastInDim S64x64 ![0, 1] bcast_S64x1_S64x64_0_1 (addi (broadcastInDim S64x1 ![0] bcast_S64_S64x1_0 (res_main_v42 V0)) (broadcastInDim S64x1 ![] bcast_S_S64x1 (constantI S_ 32 16#32)))))) shapeCasts_S64x64_S1x64x1x64)) shapeCasts_S1x64x8x64_S64x512

theorem inBand_at (c : Fin 64) (i : Fin 512) : inBand V0 (ix2 c i) = if band c.val (i.val % 64) then 1#1 else 0#1 := by
  have key : ∀ (c k : Fin 64), IntOp.andi (IntOp.cmpi .sge (BitVec.ofNat 32 k.val) (BitVec.ofNat 32 (min 48 (c.val - 8))))
      (IntOp.cmpi .slt (BitVec.ofNat 32 k.val) (IntOp.addi (BitVec.ofNat 32 (min 48 (c.val - 8))) 16#32)) = if band c.val k.val then 1#1 else 0#1 := by decide +kernel
  refine Eq.trans ?_ (key c ⟨i.val % 64, by omega⟩)
  rw [← v42_at V0 c]
  unfold inBand
  generalize res_main_v42 V0 = x
  pointwise [res_main_v43, res_main_v39]

theorem v100_eq : res_main_v100 V0 = (  select (broadcastInDim S8x8x32x64x512 ![3, 4] bcast_S64x512_S8x8x32x64x512_3_4 (inBand V0)) (addf (mulf (Host.dotGeneral dot_S8x32x64x8x64_S8x32x512x8x64_S8x8x32x64x512_4_4_2_2_031_031 none (queries (extractStridedSlice S8x2048x512 ![0, 0, 0] (res_main_v1 V0) slices_S8x2048x1536_S8x2048x512_0_0_0)) (keys V0 (extractStridedSlice S8x2048x512 ![0, 0, 512] (res_main_v1 V0) slices_S8x2048x1536_S8x2048x512_0_0_512))) (broadcastInDim S8x8x32x64x512 ![] bcast_S_S8x8x32x64x512 (constant S_ .f32 0x3E000000#32))) (broadcastInDim S8x8x32x64x512 ![0, 1, 2, 3, 4] bcast_S1x8x32x64x512_S8x8x32x64x512_0_1_2_3_4 (broadcastInDim S1x8x32x64x512 ![1, 2, 3, 4] bcast_S8x32x64x512_S1x8x32x64x512_1_2_3_4 (bias V0 (shapeCast _ (extractStridedSlice S1x8x15x31 ![0, 0, 0, 0] (V0 (Proc.devRef .tc main_arg1)) slices_S2x8x15x31_S1x8x15x31_0_0_0_0) shapeCasts_S1x8x15x31_S8x15x31))))) (broadcastInDim S8x8x32x64x512 ![] bcast_S_S8x8x32x64x512 (id (constant S_ .f32 0xFF800000#32)))) := rfl

/-- The score of query `(R, c)` for its gathered key `i` in head `h`. -/
def score (x : FVec Ideal S8x2048x3072 .bf16) (rpb : FVec Ideal S2x8x15x31 .f32) (b h : Fin 8) (R : Fin 32) (c : Fin 64) (i : Fin 512) : EReal :=
  if band c.val (i.val % 64) then
    (∑ a : Fin 64, x (ix3 b ⟨64 * R.val + c.val, by omega⟩ ⟨64 * h.val + a.val, by omega⟩)
        * x (ix3 b ⟨64 * (min 24 (R.val - 4) + i.val / 64) + i.val % 64, by omega⟩ ⟨512 + (64 * h.val + a.val), by omega⟩)) * ((1 / 8 : ℝ) : EReal)
      + rpb (ix4 0 h ⟨min 24 (R.val - 4) + i.val / 64 + 7 - R.val, by omega⟩ ⟨min 30 (i.val % 64 + 15 - c.val), by omega⟩)
  else ⊥

theorem v1_at (b : Fin 8) (p : Fin 2048) (e : Fin 1536) :
    res_main_v1 V0 (ix3 b p e) = (V0 (Proc.devRef .tc main_arg0) : FVec Ideal S8x2048x3072 .bf16) (ix3 b p ⟨e.val, by omega⟩) := by
  pointwise [res_main_v1]

theorem part_at (x : FVec Ideal S8x2048x1536 .f32) (b : Fin 8) (p : Fin 2048) (e : Fin 512) :
    extractStridedSlice S8x2048x512 ![0, 0, 0] x slices_S8x2048x1536_S8x2048x512_0_0_0 (ix3 b p e) = x (ix3 b p ⟨e.val, by omega⟩)
    ∧ extractStridedSlice S8x2048x512 ![0, 0, 512] x slices_S8x2048x1536_S8x2048x512_0_0_512 (ix3 b p e) = x (ix3 b p ⟨512 + e.val, by omega⟩)
    ∧ extractStridedSlice S8x2048x512 ![0, 0, 1024] x slices_S8x2048x1536_S8x2048x512_0_0_1024 (ix3 b p e) = x (ix3 b p ⟨1024 + e.val, by omega⟩) := by
  refine ⟨?_, ?_, ?_⟩
  · pointwise []
  · pointwise []
  · pointwise []

theorem table_at (x : FVec Ideal S2x8x15x31 .f32) (h : Fin 8) (d : Fin 15) (e : Fin 31) :
    (shapeCast _ (extractStridedSlice S1x8x15x31 ![0, 0, 0, 0] x slices_S2x8x15x31_S1x8x15x31_0_0_0_0) shapeCasts_S1x8x15x31_S8x15x31 : FVec Ideal S8x15x31 .f32) (ix3 h d e)
      = x (ix4 0 h d e) := by
  pointwise []

theorem sel_if (p : Prop) [Decidable p] (x y : EReal) : Scalar.select (if p then 1#1 else 0#1) x y = if p then x else y := by
  unfold Scalar.select; by_cases h : p <;> simp [h]

theorem v100_at (b h : Fin 8) (R : Fin 32) (c : Fin 64) (i : Fin 512) :
    res_main_v100 V0 (ix5 b h R c i) = score (V0 (Proc.devRef .tc main_arg0)) (V0 (Proc.devRef .tc main_arg1)) b h R c i := by
  have e : ∀ (z : IVec S64x512 1) (q : FVec Ideal S8x32x64x8x64 .f32) (k : FVec Ideal S8x32x512x8x64 .f32) (y : FVec Ideal S8x32x64x512 .f32),
      (select (broadcastInDim S8x8x32x64x512 ![3, 4] bcast_S64x512_S8x8x32x64x512_3_4 z) (addf (mulf (Host.dotGeneral dot_S8x32x64x8x64_S8x32x512x8x64_S8x8x32x64x512_4_4_2_2_031_031 none q k) (broadcastInDim S8x8x32x64x512 ![] bcast_S_S8x8x32x64x512 (constant S_ .f32 0x3E000000#32))) (broadcastInDim S8x8x32x64x512 ![0, 1, 2, 3, 4] bcast_S1x8x32x64x512_S8x8x32x64x512_0_1_2_3_4 (broadcastInDim S1x8x32x64x512 ![1, 2, 3, 4] bcast_S8x32x64x512_S1x8x32x64x512_1_2_3_4 y))) (broadcastInDim S8x8x32x64x512 ![] bcast_S_S8x8x32x64x512 (id (constant S_ .f32 0xFF800000#32))) : FVec Ideal S8x8x32x64x512 .f32) (ix5 b h R c i)
        = Scalar.select (z (ix2 c i)) ((∑ a : Fin 64, q (ix5 b R c h a) * k (ix5 b R i h a)) * Ideal.ofBits .f32 0x3E000000#32 + y (ix4 h R c i)) (Ideal.ofBits .f32 0xFF800000#32) := by
    intro z q k y
    pointwise [id]
  rw [v100_eq]
  refine (e _ _ _ _).trans ?_
  rw [inBand_at, sel_if, bias_at, table_at, eighth_f32, neg_inf_f32]
  simp only [queries_at, keys_at, (part_at _ _ _ _).1, (part_at _ _ _ _).2.1, v1_at]
  rfl

/-- The weights. -/
def probs : FVec Ideal S8x8x32x64x512 .f32 :=
  Host.divf (res_main_v107 V0) (broadcastInDim S8x8x32x64x512 ![0, 1, 2, 3, 4] bcast_S8x8x32x64x1_S8x8x32x64x512_0_1_2_3_4 (broadcastInDim S8x8x32x64x1 ![0, 1, 2, 3] bcast_S8x8x32x64_S8x8x32x64x1_0_1_2_3 (Host.reduceAdd (res_main_v107 V0) (constant S_ .f32 0x00000000#32) reducesTo_S8x8x32x64x512_S8x8x32x64_d4 h_S_)))

theorem reduce_at (s : FVec Ideal S8x8x32x64x512 .f32) (b h : Fin 8) (R : Fin 32) (c : Fin 64) :
    (Host.reduce FloatOps.maximumf s (constant S_ .f32 0xFF800000#32) reducesTo_S8x8x32x64x512_S8x8x32x64_d4 h_S_ : FVec Ideal S8x8x32x64 .f32) (ix4 b h R c)
      = Finset.fold max (Ideal.ofBits .f32 0xFF800000#32) (fun j : Fin 512 => s (ix5 b h R c j)) Finset.univ := by
  pointwise []

theorem v107_eq (s : FVec Ideal S8x8x32x64x512 .f32) (t : FVec Ideal S8x8x32x64 .f32) (b h : Fin 8) (R : Fin 32) (c : Fin 64) (i : Fin 512) :
    (Host.exp (subf s (broadcastInDim S8x8x32x64x512 ![0, 1, 2, 3, 4] bcast_S8x8x32x64x1_S8x8x32x64x512_0_1_2_3_4 (broadcastInDim S8x8x32x64x1 ![0, 1, 2, 3] bcast_S8x8x32x64_S8x8x32x64x1_0_1_2_3 (maximumf (broadcastInDim S8x8x32x64 ![] bcast_S_S8x8x32x64 (constant S_ .f32 0xFF800000#32)) t)))) : FVec Ideal S8x8x32x64x512 .f32) (ix5 b h R c i)
      = Ideal.exp (s (ix5 b h R c i) - max (Ideal.ofBits .f32 0xFF800000#32) (t (ix4 b h R c))) := by
  pointwise []

theorem probs_at (b h : Fin 8) (R : Fin 32) (c : Fin 64) (i : Fin 512) :
    probs V0 (ix5 b h R c i) = Ideal.div (res_main_v107 V0 (ix5 b h R c i)) (∑ j : Fin 512, res_main_v107 V0 (ix5 b h R c j)) := by
  unfold probs
  generalize res_main_v107 V0 = x
  pointwise []

theorem out_eq (v : FVec Ideal S8x32x512x8x64 .f32) (y : FVec Ideal S8x8x32x64x512 .f32) (b : Fin 8) (p : Fin 2048) (e : Fin 512) :
    (truncf .bf16 (shapeCast _ (transpose S8x32x64x8x64 [0, 1, 4, 2, 3] (Host.dotGeneral dot_S8x32x512x8x64_S8x8x32x64x512_S8x32x8x64x64_2_4_4_3_013_021 none v y) transposes_S8x32x8x64x64_S8x32x64x8x64_0_1_4_2_3) shapeCasts_S8x32x64x8x64_S8x2048x512) bitsLt_bf16_f32 : FVec Ideal S8x2048x512 .bf16) (ix3 b p e)
      = ∑ i : Fin 512, v (ix5 b ⟨p.val / 64, by omega⟩ i ⟨e.val / 64, by omega⟩ ⟨e.val % 64, by omega⟩) * y (ix5 b ⟨e.val / 64, by omega⟩ ⟨p.val / 64, by omega⟩ ⟨p.val % 64, by omega⟩ i) := by
  pointwise []

theorem exp_at (b h : Fin 8) (R : Fin 32) (c : Fin 64) (i : Fin 512) :
    res_main_v107 V0 (ix5 b h R c i) = Ideal.exp (score (V0 (Proc.devRef .tc main_arg0)) (V0 (Proc.devRef .tc main_arg1)) b h R c i
      - peak (score (V0 (Proc.devRef .tc main_arg0)) (V0 (Proc.devRef .tc main_arg1)) b h R c)) := by
  refine (v107_eq (res_main_v100 V0) _ b h R c i).trans ?_
  rw [reduce_at, neg_inf_f32]
  simp only [v100_at, bot_le, max_eq_right]
  rfl

/-- The reference's attention, entry by entry: the weighted average over the gathered keys. -/
def near (x : FVec Ideal S8x2048x3072 .bf16) (rpb : FVec Ideal S2x8x15x31 .f32) (b : Fin 8) (p : Fin 2048) (e : Fin 512) : EReal :=
  soft (score x rpb b ⟨e.val / 64, by omega⟩ ⟨p.val / 64, by omega⟩ ⟨p.val % 64, by omega⟩)
    (fun i => x (ix3 b ⟨64 * (min 24 (p.val / 64 - 4) + i.val / 64) + i.val % 64, by omega⟩ ⟨1024 + e.val, by omega⟩))

theorem v115_eq : (val3 V0 (Proc.devRef .tc main_v115) : FVec Ideal S8x2048x512 .bf16)
    = truncf .bf16 (shapeCast _ (transpose S8x32x64x8x64 [0, 1, 4, 2, 3] (Host.dotGeneral dot_S8x32x512x8x64_S8x8x32x64x512_S8x32x8x64x64_2_4_4_3_013_021 none (keys V0 (extractStridedSlice S8x2048x512 ![0, 0, 1024] (res_main_v1 V0) slices_S8x2048x1536_S8x2048x512_0_0_1024)) (probs V0)) transposes_S8x32x8x64x64_S8x32x64x8x64_0_1_4_2_3) shapeCasts_S8x32x64x8x64_S8x2048x512) bitsLt_bf16_f32 := by
  unfold probs keys queries rowIdx
  exact val3_main_v115 V0

theorem out_at (b : Fin 8) (p : Fin 2048) (e : Fin 512) :
    (val3 V0 (Proc.devRef .tc main_v115) : FVec Ideal S8x2048x512 .bf16) (ix3 b p e)
      = near (V0 (Proc.devRef .tc main_arg0)) (V0 (Proc.devRef .tc main_arg1)) b p e := by
  rw [v115_eq, out_eq]
  have he : (⟨1024 + (64 * (e.val / 64) + e.val % 64), by omega⟩ : Fin 3072) = ⟨1024 + e.val, by omega⟩ := Fin.ext (by simp only []; omega)
  simp only [keys_at, (part_at _ _ _ _).2.2, v1_at, probs_at, exp_at, he]
  rfl

end Cert.ReferenceIdeal.Na

end
-- ==== Proof.NaMath.lean ====
/- The kernel's attention over a window of twelve key rows is the reference's over the eight gathered ones. -/
module

public import proofs.«01_k».proof.Proof.NaAttn
public import proofs.«01_k».proof.Proof.NaRef

@[expose] public section
set_option maxRecDepth 16384
noncomputable section

namespace Cert.KernelIdeal.Na
open Idealize.ShloMosaic
open Cert.KernelIdeal Cert.KernelIdeal.Gen
open NaRow
open Cert.ReferenceIdeal.Na (near)

/-- Which window rows a query row uses, and with which row of the bias table, in every block of query rows. -/
theorem geom_cls : ∀ (rb : Fin 8) (ri : Fin 4) (wj : Fin 12), geom (cls rb.val) ri.val wj.val
    = if min 24 (4 * rb.val + ri.val - 4) ≤ 4 * min 5 (rb.val - 1) + wj.val ∧ 4 * min 5 (rb.val - 1) + wj.val < min 24 (4 * rb.val + ri.val - 4) + 8
      then some (Fin.ofNat 15 (4 * min 5 (rb.val - 1) + wj.val + 7 - (4 * rb.val + ri.val))) else none := by decide +kernel

theorem strip_none (r k : Fin 64) : strip none r k = ⊥ := rfl

theorem strip_some (w : Vec Ideal S1x1x1x128 .f32) (r k : Fin 64) :
    strip (some w) r k = if band r k then w (ix4 0 0 0 ⟨(k.val + 128 - r.val) % 128, by omega⟩) else ⊥ := rfl

variable (x : Vec Ideal S8x2048x3072 .bf16) (rpb : Vec Ideal S2x8x15x31 .f32)

/-- A rotated bias row in the band. -/
theorem row_at (h : Fin 8) (d : Fin 15) (c k : Fin 64) (hb : band c k) :
    row (headRows rpb 0 h) d (ix4 0 0 0 ⟨(k.val + 128 - c.val) % 128, by omega⟩)
      = rpb (ix4 0 h d ⟨min 30 (k.val + 15 - c.val), by omega⟩) := by
  unfold band at hb
  show lanes rpb (ix4 0 h d ⟨(k.val + 128 - c.val) % 128, by omega⟩) = _
  rw [lanes_at rpb 0 h d _ (by simp only []; omega)]
  have e : (⟨((k.val + 128 - c.val) % 128 + 15) % 128, by omega⟩ : Fin 31) = ⟨min 30 (k.val + 15 - c.val), by omega⟩ := Fin.ext (by simp only []; omega)
  exact congrArg (fun z => rpb (ix4 0 h d z)) e

/-- A window entry outside the query row's eight key rows. -/
theorem entry_out (h : Fin 8) (p : Fin 2048) (j : Fin 768)
    (hj : ¬(min 24 (p.val / 64 - 4) ≤ 4 * min 5 (p.val / 256 - 1) + j.val / 64 ∧ 4 * min 5 (p.val / 256 - 1) + j.val / 64 < min 24 (p.val / 64 - 4) + 8)) :
    entry (headRows rpb 0 h) (cls (p.val / 256)) (p.val % 256) j.val = ⊥ := by
  have g := geom_cls ⟨p.val / 256, by omega⟩ ⟨p.val % 256 / 64, by omega⟩ ⟨j.val / 64, by omega⟩
  have hR : 4 * (p.val / 256) + p.val % 256 / 64 = p.val / 64 := by omega
  simp only [hR] at g
  unfold entry
  rw [g, if_neg hj]
  rfl

/-- A window entry inside them. -/
theorem entry_in (h : Fin 8) (p : Fin 2048) (j : Fin 768) (d : Fin 15)
    (hj : min 24 (p.val / 64 - 4) ≤ 4 * min 5 (p.val / 256 - 1) + j.val / 64 ∧ 4 * min 5 (p.val / 256 - 1) + j.val / 64 < min 24 (p.val / 64 - 4) + 8)
    (hd : d.val = 4 * min 5 (p.val / 256 - 1) + j.val / 64 + 7 - p.val / 64) :
    entry (headRows rpb 0 h) (cls (p.val / 256)) (p.val % 256) j.val
      = if band (p.val % 64) (j.val % 64) then rpb (ix4 0 h d ⟨min 30 (j.val % 64 + 15 - p.val % 64), by omega⟩) else ⊥ := by
  have g := geom_cls ⟨p.val / 256, by omega⟩ ⟨p.val % 256 / 64, by omega⟩ ⟨j.val / 64, by omega⟩
  have hR : 4 * (p.val / 256) + p.val % 256 / 64 = p.val / 64 := by omega
  simp only [hR] at g
  have ed : Fin.ofNat 15 (4 * min 5 (p.val / 256 - 1) + j.val / 64 + 7 - p.val / 64) = d :=
    Fin.ext (by rw [← hd]; exact Nat.mod_eq_of_lt d.isLt)
  rw [ed, if_pos hj] at g
  have er : (⟨p.val % 256 % 64, by omega⟩ : Fin 64) = ⟨p.val % 64, by omega⟩ := Fin.ext (by simp only []; omega)
  unfold entry
  rw [g, er]
  show strip (some (row (headRows rpb 0 h) d)) _ _ = _
  rw [strip_some]
  by_cases hb : band (p.val % 64) (j.val % 64)
  · rw [if_pos hb, if_pos hb]
    exact row_at rpb h d ⟨p.val % 64, by omega⟩ ⟨j.val % 64, by omega⟩ hb
  · rw [if_neg hb, if_neg hb]

/-- The window position of a query's gathered key `i`. -/
def pos (p : Fin 2048) (i : Fin 512) : Fin 768 :=
  ⟨64 * (min 24 (p.val / 64 - 4) + i.val / 64) + i.val % 64 - 256 * min 5 (p.val / 256 - 1), by omega⟩

theorem pos_val (p : Fin 2048) (i : Fin 512) :
    256 * min 5 (p.val / 256 - 1) + (pos p i).val = 64 * (min 24 (p.val / 64 - 4) + i.val / 64) + i.val % 64 := by
  unfold pos
  simp only []
  omega

theorem pos_inj (p : Fin 2048) : Function.Injective (pos p) := by
  intro i j h
  have hi := pos_val p i
  have hj := pos_val p j
  rw [h] at hi
  exact Fin.ext (by omega)

/-- The scaled product of a query with a window key. -/
def raw (b : Fin 8) (p : Fin 2048) (e : Fin 512) (j : Fin 768) : EReal :=
  ∑ a : Fin 64, x (ix3 b p ⟨64 * (e.val / 64) + a.val, by omega⟩) * ((1 / 8 : ℝ) : EReal)
        * x (ix3 b ⟨256 * min 5 (p.val / 256 - 1) + j.val, by omega⟩ ⟨512 + (64 * (e.val / 64) + a.val), by omega⟩)

theorem raw_real (hx : ∀ (b : Fin 8) (p : Fin 2048) (e : Fin 1024), ∃ r : ℝ, x (ix3 b p ⟨e.val, by omega⟩) = r)
    (b : Fin 8) (p : Fin 2048) (e : Fin 512) (j : Fin 768) : ∃ r : ℝ, raw x b p e j = r := by
  choose v hv using hx
  refine ⟨∑ a : Fin 64, v b p ⟨64 * (e.val / 64) + a.val, by omega⟩ * (1 / 8)
    * v b ⟨256 * min 5 (p.val / 256 - 1) + j.val, by omega⟩ ⟨512 + (64 * (e.val / 64) + a.val), by omega⟩, ?_⟩
  unfold raw
  rw [coe_sum]
  refine Finset.sum_congr rfl fun a _ => ?_
  rw [EReal.coe_mul, EReal.coe_mul, ← hv, ← hv]

/-- At a gathered key's window position the kernel's score is the reference's. -/
theorem score_pos (b : Fin 8) (p : Fin 2048) (e : Fin 512) (hx : ∃ r : Fin 512 → ℝ, ∀ i, raw x b p e (pos p i) = r i) (i : Fin 512) :
    raw x b p e (pos p i) + entry (headRows rpb 0 ⟨e.val / 64, by omega⟩) (cls (p.val / 256)) (p.val % 256) (pos p i).val
      = Cert.ReferenceIdeal.Na.score x rpb b ⟨e.val / 64, by omega⟩ ⟨p.val / 64, by omega⟩ ⟨p.val % 64, by omega⟩ i := by
  obtain ⟨r, hr⟩ := hx
  have h0 := pos_val p i
  have hd : (pos p i).val / 64 + 4 * min 5 (p.val / 256 - 1) = min 24 (p.val / 64 - 4) + i.val / 64 := by omega
  have hm : (pos p i).val % 64 = i.val % 64 := by omega
  rw [entry_in rpb _ p (pos p i) ⟨min 24 (p.val / 64 - 4) + i.val / 64 + 7 - p.val / 64, by omega⟩ (by omega) (by simp only []; omega)]
  unfold Cert.ReferenceIdeal.Na.score
  simp only [hm]
  by_cases hb : band (p.val % 64) (i.val % 64)
  · rw [if_pos hb, if_pos hb]
    congr 1
    unfold raw
    rw [scale_sum _ _ _ (by norm_num)]
    have e1 : (⟨256 * min 5 (p.val / 256 - 1) + (pos p i).val, by omega⟩ : Fin 2048) = ⟨64 * (min 24 (p.val / 64 - 4) + i.val / 64) + i.val % 64, by omega⟩ := Fin.ext h0
    have e2 : (⟨64 * (p.val / 64) + p.val % 64, by omega⟩ : Fin 2048) = p := Fin.ext (by simp only []; omega)
    simp only [e1, e2]
  · rw [if_neg hb, if_neg hb, hr, EReal.add_bot]

/-- The kernel's attention is the reference's where queries, keys and biases are real numbers. -/
theorem attn_near (hx : ∀ (b : Fin 8) (p : Fin 2048) (e : Fin 1024), ∃ r : ℝ, x (ix3 b p ⟨e.val, by omega⟩) = r)
    (hr : ∀ (h : Fin 8) (d : Fin 15) (l : Fin 31), ∃ r : ℝ, rpb (ix4 0 h d l) = r)
    (b : Fin 8) (p : Fin 2048) (e : Fin 512) : attn x rpb b p e = near x rpb b p e := by
  have hraw := raw_real x hx b p e
  choose v hv using hraw
  have hs := score_pos x rpb b p e ⟨fun i => v (pos p i), fun i => hv (pos p i)⟩
  refine (att_eq_soft (pos p) (pos_inj p)
    (fun j => raw x b p e j + entry (headRows rpb 0 ⟨e.val / 64, by omega⟩) (cls (p.val / 256)) (p.val % 256) j.val) _ ?_ ?_ ?_).trans ?_
  · intro j hj
    have hout : ¬(min 24 (p.val / 64 - 4) ≤ 4 * min 5 (p.val / 256 - 1) + j.val / 64 ∧ 4 * min 5 (p.val / 256 - 1) + j.val / 64 < min 24 (p.val / 64 - 4) + 8) := by
      rintro ⟨h1, h2⟩
      refine hj ⟨⟨256 * min 5 (p.val / 256 - 1) + j.val - 64 * min 24 (p.val / 64 - 4), by omega⟩, Fin.ext ?_⟩
      have := pos_val p ⟨256 * min 5 (p.val / 256 - 1) + j.val - 64 * min 24 (p.val / 64 - 4), by omega⟩
      simp only [] at this
      omega
    show raw x b p e j + _ = ⊥
    rw [entry_out rpb _ p j hout, hv, EReal.add_bot]
  · intro j
    show raw x b p e j + _ ≠ ⊤
    rw [hv]
    by_cases hin : min 24 (p.val / 64 - 4) ≤ 4 * min 5 (p.val / 256 - 1) + j.val / 64 ∧ 4 * min 5 (p.val / 256 - 1) + j.val / 64 < min 24 (p.val / 64 - 4) + 8
    · rw [entry_in rpb _ p j ⟨4 * min 5 (p.val / 256 - 1) + j.val / 64 + 7 - p.val / 64, by omega⟩ hin rfl]
      split_ifs
      · obtain ⟨r, h⟩ := hr ⟨e.val / 64, by omega⟩ ⟨4 * min 5 (p.val / 256 - 1) + j.val / 64 + 7 - p.val / 64, by omega⟩ ⟨min 30 (j.val % 64 + 15 - p.val % 64), by omega⟩
        rw [h, ← EReal.coe_add]
        exact EReal.coe_ne_top _
      · rw [EReal.add_bot]; exact bot_ne_top
    · rw [entry_out rpb _ p j hin, EReal.add_bot]; exact bot_ne_top
  · refine ⟨⟨p.val % 64, by omega⟩, ?_⟩
    have h0 := pos_val p ⟨p.val % 64, by omega⟩
    simp only [] at h0
    have hm : (pos p ⟨p.val % 64, by omega⟩).val % 64 = p.val % 64 := by omega
    have hb : band (p.val % 64) (p.val % 64) := by unfold band; omega
    show raw x b p e _ + _ ≠ ⊥
    rw [hv, entry_in rpb _ p (pos p ⟨p.val % 64, by omega⟩) ⟨min 24 (p.val / 64 - 4) + 7 - p.val / 64, by omega⟩ (by omega) (by simp only []; omega)]
    simp only [hm]
    rw [if_pos hb]
    obtain ⟨r, h⟩ := hr ⟨e.val / 64, by omega⟩ ⟨min 24 (p.val / 64 - 4) + 7 - p.val / 64, by omega⟩ ⟨min 30 (p.val % 64 + 15 - p.val % 64), by omega⟩
    rw [h, ← EReal.coe_add]
    exact EReal.coe_ne_bot _
  · unfold near
    have e1 : ∀ i, (⟨256 * min 5 (p.val / 256 - 1) + (pos p i).val, by omega⟩ : Fin 2048) = ⟨64 * (min 24 (p.val / 64 - 4) + i.val / 64) + i.val % 64, by omega⟩ := fun i => Fin.ext (pos_val p i)
    simp only [hs, e1]

end Cert.KernelIdeal.Na

end
-- ==== Proof.NaCast.lean ====
/- The weights that the two regions cast on the way: every slab of the result is the weight's slab. -/
module

public import proofs.«01_k».proof.Proof.NaHost

@[expose] public section
set_option maxRecDepth 16384
noncomputable section

namespace Cert.KernelIdeal.Na
open Idealize.ShloMosaic Idealize.ShloMosaic.TcCoe Idealize.SL.Sem
open Cert.KernelIdeal Cert.KernelIdeal.Gen
variable (m : (ℓ : Loc nD τ sig) → Buf (Elt Ideal) ℓ) (ρ : Dev nD → PrngReg)

/-- The slab windows' block indices at every grid point of the attention. -/
theorem idxc : ∀ t : Fin cfg1.N, win1_8.index t = ![t.val, 0, 0] ∧ win1_9.index t = ![t.val, 0, 0] ∧ win1_10.index t = ![t.val, 0, 0]
    ∧ win1_11.index t = ![t.val, 0, 0] ∧ win1_12.index t = ![t.val, 0, 0] ∧ win1_13.index t = ![16 + t.val, 0, 0]
    ∧ win1_15.index t = ![t.val, 0, 0] ∧ win1_16.index t = ![t.val, 0, 0] ∧ win1_17.index t = ![t.val, 0, 0]
    ∧ win1_18.index t = ![t.val, 0, 0] ∧ win1_19.index t = ![t.val, 0, 0] ∧ win1_20.index t = ![t.val, 0, 0] ∧ t.val < 16 :=
  (by decide +kernel : ∀ t : Fin grid1.N, _)

/-- The bias-table region's cast weights. -/
theorem final3 (c : Dev nD) : ((dat0 (V4 m ρ) c).arrAt 3 cfg0.N : Vec Ideal S16x64x5120 .bf16)
    = fun y => (m ((c : Thread nD τ).loc main_arg2) : Vec Ideal S2x1024x5120 .f32) (ix3 0 ⟨(y 0).val * 64 + (y 1).val, by have h0 : (y 0).val < 16 := (y 0).isLt; have h1 : (y 1).val < 64 := (y 1).isLt; omega⟩ (y 2)) := by
  refine (dat0 (V4 m ρ) c).arrAt_eq_of_covers 3 _ (by decide +kernel) fun t _ y => ?_
  blk_simp
  rw [after0_3, cast_at]
  have ht := (idx0 t).2.2.2.2
  obtain ⟨u, h, d, rfl⟩ : ∃ (u : Fin 1) (h : Fin 64) (d : Fin 5120), y = ix3 u h d := ⟨y 0, y 1, y 2, eq_ix3 y⟩
  have e := V4_slabs m ρ c ⟨t.val, by omega⟩ h d
  have b : (iblk0 (V4 m ρ) c 1 t : Vec Ideal S1x64x5120 .f32) (ix3 u h d) = (V4 m ρ c main_v2 : Vec Ideal S32x64x5120 .f32) (ix3 ⟨t.val, by omega⟩ h d) := by
    blk_point [iblk0, idx0 t]
  refine (b.trans e).trans ?_
  blk_ext [idx0 t]

theorem result3 (c : Dev nD) (i : Fin 1024) (j : Fin 5120) : (W8 m ρ c (Proc.devRef .tc main_v4) : Vec Ideal S1024x5120 .bf16) (ix2 i j)
    = (m ((c : Thread nD τ).loc main_arg2) : Vec Ideal S2x1024x5120 .f32) (ix3 0 i j) := by
  have e := (W5_arr m ρ c 3).trans (final3 m ρ c)
  rw [W8_of m ρ c main_v4 (by decide), W7_of m ρ c main_v4 (by decide)]
  show StableHlo.after hostOps1 (W5 m ρ c) (Proc.devRef .tc main_v4) _ = _
  have e' : (W5 m ρ c (Proc.devRef .tc main_v3_1) : Vec Ideal S16x64x5120 .bf16) = _ := e
  generalize W5 m ρ c = σ at e' ⊢
  entry_read
  rw [e']
  pointwise []
  blk_ext

theorem slabs8 (c : Dev nD) (L : Fin 32) (h : Fin 32) (d : Fin 1024) : (V6 m ρ c main_v5 : Vec Ideal S32x32x1024 .f32) (ix3 L h d)
    = (m ((c : Thread nD τ).loc main_arg3) : Vec Ideal S2x512x1024 .f32) (ix3 ⟨L.val / 16, by omega⟩ ⟨L.val % 16 * 32 + h.val, by omega⟩ d) := by
  rw [← W5_args m ρ c main_arg3 (by decide)]
  show StableHlo.after hostOps1 (W5 m ρ c) (Proc.devRef .tc main_v5) _ = _
  generalize W5 m ρ c = σ
  entry_read
  pointwise []

theorem out15 (x0 x1 x2 x3 x4 x5 x6 x7 x8 x9 x10 x11 x12 x13) : out1_15 (F := Ideal) x0 x1 x2 x3 x4 x5 x6 x7 x8 x9 x10 x11 x12 x13 = x8 := by
  funext y
  unfold out1_15
  canon_tiles x h
  idx_vars x
  idx_vars y
  pointwise [k1_pay2]
  blk_ext

theorem final15 (c : Dev nD) : ((dat1 (V6 m ρ) c).arrAt 15 cfg1.N : Vec Ideal S16x32x1024 .bf16)
    = fun y => (m ((c : Thread nD τ).loc main_arg3) : Vec Ideal S2x512x1024 .f32) (ix3 0 ⟨(y 0).val * 32 + (y 1).val, by have h0 : (y 0).val < 16 := (y 0).isLt; have h1 : (y 1).val < 32 := (y 1).isLt; omega⟩ (y 2)) := by
  refine (dat1 (V6 m ρ) c).arrAt_eq_of_covers 15 _ (by decide +kernel) fun t _ y => ?_
  blk_simp
  rw [after1_15, out15]
  have ht := (idxc t).2.2.2.2.2.2.2.2.2.2.2.2
  obtain ⟨u, h, d, rfl⟩ : ∃ (u : Fin 1) (h : Fin 32) (d : Fin 1024), y = ix3 u h d := ⟨y 0, y 1, y 2, eq_ix3 y⟩
  have e := slabs8 m ρ c ⟨0 + t.val, by omega⟩ h d
  have b : (iblk1 (V6 m ρ) c 8 t : Vec Ideal S1x32x1024 .f32) (ix3 u h d) = (V6 m ρ c main_v5 : Vec Ideal S32x32x1024 .f32) (ix3 ⟨0 + t.val, by omega⟩ h d) := by
    blk_point [iblk1, idxc t]
  refine (b.trans e).trans ?_
  blk_ext [idxc t]

theorem result15 (c : Dev nD) (i : Fin 512) (j : Fin 1024) : (W8 m ρ c (Proc.devRef .tc main_v12) : Vec Ideal S512x1024 .bf16) (ix2 i j)
    = (m ((c : Thread nD τ).loc main_arg3) : Vec Ideal S2x512x1024 .f32) (ix3 0 i j) := by
  have e := (W7_arr m ρ c 15).trans (final15 m ρ c)
  show StableHlo.after hostOps2 (W7 m ρ c) (Proc.devRef .tc main_v12) _ = _
  have e' : (W7 m ρ c (Proc.devRef .tc main_v11_1) : Vec Ideal S16x32x1024 .bf16) = _ := e
  generalize W7 m ρ c = σ at e' ⊢
  entry_read
  rw [e']
  pointwise []
  blk_ext

theorem slabs9 (c : Dev nD) (L : Fin 32) (h : Fin 32) (d : Fin 1024) : (V6 m ρ c main_v6 : Vec Ideal S32x32x1024 .f32) (ix3 L h d)
    = (m ((c : Thread nD τ).loc main_arg4) : Vec Ideal S2x512x1024 .f32) (ix3 ⟨L.val / 16, by omega⟩ ⟨L.val % 16 * 32 + h.val, by omega⟩ d) := by
  rw [← W5_args m ρ c main_arg4 (by decide)]
  show StableHlo.after hostOps1 (W5 m ρ c) (Proc.devRef .tc main_v6) _ = _
  generalize W5 m ρ c = σ
  entry_read
  pointwise []

theorem out16 (x0 x1 x2 x3 x4 x5 x6 x7 x8 x9 x10 x11 x12 x13) : out1_16 (F := Ideal) x0 x1 x2 x3 x4 x5 x6 x7 x8 x9 x10 x11 x12 x13 = x9 := by
  funext y
  unfold out1_16
  canon_tiles x h
  idx_vars x
  idx_vars y
  pointwise [k1_pay3]
  blk_ext

theorem final16 (c : Dev nD) : ((dat1 (V6 m ρ) c).arrAt 16 cfg1.N : Vec Ideal S16x32x1024 .bf16)
    = fun y => (m ((c : Thread nD τ).loc main_arg4) : Vec Ideal S2x512x1024 .f32) (ix3 0 ⟨(y 0).val * 32 + (y 1).val, by have h0 : (y 0).val < 16 := (y 0).isLt; have h1 : (y 1).val < 32 := (y 1).isLt; omega⟩ (y 2)) := by
  refine (dat1 (V6 m ρ) c).arrAt_eq_of_covers 16 _ (by decide +kernel) fun t _ y => ?_
  blk_simp
  rw [after1_16, out16]
  have ht := (idxc t).2.2.2.2.2.2.2.2.2.2.2.2
  obtain ⟨u, h, d, rfl⟩ : ∃ (u : Fin 1) (h : Fin 32) (d : Fin 1024), y = ix3 u h d := ⟨y 0, y 1, y 2, eq_ix3 y⟩
  have e := slabs9 m ρ c ⟨0 + t.val, by omega⟩ h d
  have b : (iblk1 (V6 m ρ) c 9 t : Vec Ideal S1x32x1024 .f32) (ix3 u h d) = (V6 m ρ c main_v6 : Vec Ideal S32x32x1024 .f32) (ix3 ⟨0 + t.val, by omega⟩ h d) := by
    blk_point [iblk1, idxc t]
  refine (b.trans e).trans ?_
  blk_ext [idxc t]

theorem result16 (c : Dev nD) (i : Fin 512) (j : Fin 1024) : (W8 m ρ c (Proc.devRef .tc main_v13) : Vec Ideal S512x1024 .bf16) (ix2 i j)
    = (m ((c : Thread nD τ).loc main_arg4) : Vec Ideal S2x512x1024 .f32) (ix3 0 i j) := by
  have e := (W7_arr m ρ c 16).trans (final16 m ρ c)
  show StableHlo.after hostOps2 (W7 m ρ c) (Proc.devRef .tc main_v13) _ = _
  have e' : (W7 m ρ c (Proc.devRef .tc main_v11_2) : Vec Ideal S16x32x1024 .bf16) = _ := e
  generalize W7 m ρ c = σ at e' ⊢
  entry_read
  rw [e']
  pointwise []
  blk_ext

theorem slabs10 (c : Dev nD) (L : Fin 32) (h : Fin 64) (d : Fin 1024) : (V6 m ρ c main_v7 : Vec Ideal S32x64x1024 .f32) (ix3 L h d)
    = (m ((c : Thread nD τ).loc main_arg5) : Vec Ideal S2x1024x1024 .f32) (ix3 ⟨L.val / 16, by omega⟩ ⟨L.val % 16 * 64 + h.val, by omega⟩ d) := by
  rw [← W5_args m ρ c main_arg5 (by decide)]
  show StableHlo.after hostOps1 (W5 m ρ c) (Proc.devRef .tc main_v7) _ = _
  generalize W5 m ρ c = σ
  entry_read
  pointwise []

theorem out17 (x0 x1 x2 x3 x4 x5 x6 x7 x8 x9 x10 x11 x12 x13) : out1_17 (F := Ideal) x0 x1 x2 x3 x4 x5 x6 x7 x8 x9 x10 x11 x12 x13 = x10 := by
  funext y
  unfold out1_17
  canon_tiles x h
  idx_vars x
  idx_vars y
  pointwise [k1_pay4]
  blk_ext

theorem final17 (c : Dev nD) : ((dat1 (V6 m ρ) c).arrAt 17 cfg1.N : Vec Ideal S16x64x1024 .bf16)
    = fun y => (m ((c : Thread nD τ).loc main_arg5) : Vec Ideal S2x1024x1024 .f32) (ix3 0 ⟨(y 0).val * 64 + (y 1).val, by have h0 : (y 0).val < 16 := (y 0).isLt; have h1 : (y 1).val < 64 := (y 1).isLt; omega⟩ (y 2)) := by
  refine (dat1 (V6 m ρ) c).arrAt_eq_of_covers 17 _ (by decide +kernel) fun t _ y => ?_
  blk_simp
  rw [after1_17, out17]
  have ht := (idxc t).2.2.2.2.2.2.2.2.2.2.2.2
  obtain ⟨u, h, d, rfl⟩ : ∃ (u : Fin 1) (h : Fin 64) (d : Fin 1024), y = ix3 u h d := ⟨y 0, y 1, y 2, eq_ix3 y⟩
  have e := slabs10 m ρ c ⟨0 + t.val, by omega⟩ h d
  have b : (iblk1 (V6 m ρ) c 10 t : Vec Ideal S1x64x1024 .f32) (ix3 u h d) = (V6 m ρ c main_v7 : Vec Ideal S32x64x1024 .f32) (ix3 ⟨0 + t.val, by omega⟩ h d) := by
    blk_point [iblk1, idxc t]
  refine (b.trans e).trans ?_
  blk_ext [idxc t]

theorem result17 (c : Dev nD) (i : Fin 1024) (j : Fin 1024) : (W8 m ρ c (Proc.devRef .tc main_v14) : Vec Ideal S1024x1024 .bf16) (ix2 i j)
    = (m ((c : Thread nD τ).loc main_arg5) : Vec Ideal S2x1024x1024 .f32) (ix3 0 i j) := by
  have e := (W7_arr m ρ c 17).trans (final17 m ρ c)
  show StableHlo.after hostOps2 (W7 m ρ c) (Proc.devRef .tc main_v14) _ = _
  have e' : (W7 m ρ c (Proc.devRef .tc main_v11_3) : Vec Ideal S16x64x1024 .bf16) = _ := e
  generalize W7 m ρ c = σ at e' ⊢
  entry_read
  rw [e']
  pointwise []
  blk_ext

theorem slabs11 (c : Dev nD) (L : Fin 32) (h : Fin 64) (d : Fin 4096) : (V6 m ρ c main_v8 : Vec Ideal S32x64x4096 .f32) (ix3 L h d)
    = (m ((c : Thread nD τ).loc main_arg6) : Vec Ideal S2x1024x4096 .f32) (ix3 ⟨L.val / 16, by omega⟩ ⟨L.val % 16 * 64 + h.val, by omega⟩ d) := by
  rw [← W5_args m ρ c main_arg6 (by decide)]
  show StableHlo.after hostOps1 (W5 m ρ c) (Proc.devRef .tc main_v8) _ = _
  generalize W5 m ρ c = σ
  entry_read
  pointwise []

theorem out18 (x0 x1 x2 x3 x4 x5 x6 x7 x8 x9 x10 x11 x12 x13) : out1_18 (F := Ideal) x0 x1 x2 x3 x4 x5 x6 x7 x8 x9 x10 x11 x12 x13 = x11 := by
  funext y
  unfold out1_18
  canon_tiles x h
  idx_vars x
  idx_vars y
  pointwise [k1_pay5]
  blk_ext

theorem final18 (c : Dev nD) : ((dat1 (V6 m ρ) c).arrAt 18 cfg1.N : Vec Ideal S16x64x4096 .bf16)
    = fun y => (m ((c : Thread nD τ).loc main_arg6) : Vec Ideal S2x1024x4096 .f32) (ix3 0 ⟨(y 0).val * 64 + (y 1).val, by have h0 : (y 0).val < 16 := (y 0).isLt; have h1 : (y 1).val < 64 := (y 1).isLt; omega⟩ (y 2)) := by
  refine (dat1 (V6 m ρ) c).arrAt_eq_of_covers 18 _ (by decide +kernel) fun t _ y => ?_
  blk_simp
  rw [after1_18, out18]
  have ht := (idxc t).2.2.2.2.2.2.2.2.2.2.2.2
  obtain ⟨u, h, d, rfl⟩ : ∃ (u : Fin 1) (h : Fin 64) (d : Fin 4096), y = ix3 u h d := ⟨y 0, y 1, y 2, eq_ix3 y⟩
  have e := slabs11 m ρ c ⟨0 + t.val, by omega⟩ h d
  have b : (iblk1 (V6 m ρ) c 11 t : Vec Ideal S1x64x4096 .f32) (ix3 u h d) = (V6 m ρ c main_v8 : Vec Ideal S32x64x4096 .f32) (ix3 ⟨0 + t.val, by omega⟩ h d) := by
    blk_point [iblk1, idxc t]
  refine (b.trans e).trans ?_
  blk_ext [idxc t]

theorem result18 (c : Dev nD) (i : Fin 1024) (j : Fin 4096) : (W8 m ρ c (Proc.devRef .tc main_v15) : Vec Ideal S1024x4096 .bf16) (ix2 i j)
    = (m ((c : Thread nD τ).loc main_arg6) : Vec Ideal S2x1024x4096 .f32) (ix3 0 i j) := by
  have e := (W7_arr m ρ c 18).trans (final18 m ρ c)
  show StableHlo.after hostOps2 (W7 m ρ c) (Proc.devRef .tc main_v15) _ = _
  have e' : (W7 m ρ c (Proc.devRef .tc main_v11_4) : Vec Ideal S16x64x4096 .bf16) = _ := e
  generalize W7 m ρ c = σ at e' ⊢
  entry_read
  rw [e']
  pointwise []
  blk_ext

theorem slabs12 (c : Dev nD) (L : Fin 32) (h : Fin 256) (d : Fin 1024) : (V6 m ρ c main_v9 : Vec Ideal S32x256x1024 .f32) (ix3 L h d)
    = (m ((c : Thread nD τ).loc main_arg7) : Vec Ideal S2x4096x1024 .f32) (ix3 ⟨L.val / 16, by omega⟩ ⟨L.val % 16 * 256 + h.val, by omega⟩ d) := by
  rw [← W5_args m ρ c main_arg7 (by decide)]
  show StableHlo.after hostOps1 (W5 m ρ c) (Proc.devRef .tc main_v9) _ = _
  generalize W5 m ρ c = σ
  entry_read
  pointwise []

theorem out19 (x0 x1 x2 x3 x4 x5 x6 x7 x8 x9 x10 x11 x12 x13) : out1_19 (F := Ideal) x0 x1 x2 x3 x4 x5 x6 x7 x8 x9 x10 x11 x12 x13 = x12 := by
  funext y
  unfold out1_19
  canon_tiles x h
  idx_vars x
  idx_vars y
  pointwise [k1_pay7, k1_pay6]
  blk_ext

theorem final19 (c : Dev nD) : ((dat1 (V6 m ρ) c).arrAt 19 cfg1.N : Vec Ideal S16x256x1024 .bf16)
    = fun y => (m ((c : Thread nD τ).loc main_arg7) : Vec Ideal S2x4096x1024 .f32) (ix3 0 ⟨(y 0).val * 256 + (y 1).val, by have h0 : (y 0).val < 16 := (y 0).isLt; have h1 : (y 1).val < 256 := (y 1).isLt; omega⟩ (y 2)) := by
  refine (dat1 (V6 m ρ) c).arrAt_eq_of_covers 19 _ (by decide +kernel) fun t _ y => ?_
  blk_simp
  rw [after1_19, out19]
  have ht := (idxc t).2.2.2.2.2.2.2.2.2.2.2.2
  obtain ⟨u, h, d, rfl⟩ : ∃ (u : Fin 1) (h : Fin 256) (d : Fin 1024), y = ix3 u h d := ⟨y 0, y 1, y 2, eq_ix3 y⟩
  have e := slabs12 m ρ c ⟨0 + t.val, by omega⟩ h d
  have b : (iblk1 (V6 m ρ) c 12 t : Vec Ideal S1x256x1024 .f32) (ix3 u h d) = (V6 m ρ c main_v9 : Vec Ideal S32x256x1024 .f32) (ix3 ⟨0 + t.val, by omega⟩ h d) := by
    blk_point [iblk1, idxc t]
  refine (b.trans e).trans ?_
  blk_ext [idxc t]

theorem result19 (c : Dev nD) (i : Fin 4096) (j : Fin 1024) : (W8 m ρ c (Proc.devRef .tc main_v16) : Vec Ideal S4096x1024 .bf16) (ix2 i j)
    = (m ((c : Thread nD τ).loc main_arg7) : Vec Ideal S2x4096x1024 .f32) (ix3 0 i j) := by
  have e := (W7_arr m ρ c 19).trans (final19 m ρ c)
  show StableHlo.after hostOps2 (W7 m ρ c) (Proc.devRef .tc main_v16) _ = _
  have e' : (W7 m ρ c (Proc.devRef .tc main_v11_5) : Vec Ideal S16x256x1024 .bf16) = _ := e
  generalize W7 m ρ c = σ at e' ⊢
  entry_read
  rw [e']
  pointwise []
  blk_ext

theorem slabs13 (c : Dev nD) (L : Fin 32) (h : Fin 64) (d : Fin 5120) : (V6 m ρ c main_v10 : Vec Ideal S32x64x5120 .f32) (ix3 L h d)
    = (m ((c : Thread nD τ).loc main_arg2) : Vec Ideal S2x1024x5120 .f32) (ix3 ⟨L.val / 16, by omega⟩ ⟨L.val % 16 * 64 + h.val, by omega⟩ d) := by
  rw [← W5_args m ρ c main_arg2 (by decide)]
  show StableHlo.after hostOps1 (W5 m ρ c) (Proc.devRef .tc main_v10) _ = _
  generalize W5 m ρ c = σ
  entry_read
  pointwise []

theorem out20 (x0 x1 x2 x3 x4 x5 x6 x7 x8 x9 x10 x11 x12 x13) : out1_20 (F := Ideal) x0 x1 x2 x3 x4 x5 x6 x7 x8 x9 x10 x11 x12 x13 = x13 := by
  funext y
  unfold out1_20
  canon_tiles x h
  idx_vars x
  idx_vars y
  pointwise [k1_pay8]
  blk_ext

theorem final20 (c : Dev nD) : ((dat1 (V6 m ρ) c).arrAt 20 cfg1.N : Vec Ideal S16x64x5120 .bf16)
    = fun y => (m ((c : Thread nD τ).loc main_arg2) : Vec Ideal S2x1024x5120 .f32) (ix3 1 ⟨(y 0).val * 64 + (y 1).val, by have h0 : (y 0).val < 16 := (y 0).isLt; have h1 : (y 1).val < 64 := (y 1).isLt; omega⟩ (y 2)) := by
  refine (dat1 (V6 m ρ) c).arrAt_eq_of_covers 20 _ (by decide +kernel) fun t _ y => ?_
  blk_simp
  rw [after1_20, out20]
  have ht := (idxc t).2.2.2.2.2.2.2.2.2.2.2.2
  obtain ⟨u, h, d, rfl⟩ : ∃ (u : Fin 1) (h : Fin 64) (d : Fin 5120), y = ix3 u h d := ⟨y 0, y 1, y 2, eq_ix3 y⟩
  have e := slabs13 m ρ c ⟨16 + t.val, by omega⟩ h d
  have b : (iblk1 (V6 m ρ) c 13 t : Vec Ideal S1x64x5120 .f32) (ix3 u h d) = (V6 m ρ c main_v10 : Vec Ideal S32x64x5120 .f32) (ix3 ⟨16 + t.val, by omega⟩ h d) := by
    blk_point [iblk1, idxc t]
  refine (b.trans e).trans ?_
  blk_ext [idxc t]

theorem result20 (c : Dev nD) (i : Fin 1024) (j : Fin 5120) : (W8 m ρ c (Proc.devRef .tc main_v17) : Vec Ideal S1024x5120 .bf16) (ix2 i j)
    = (m ((c : Thread nD τ).loc main_arg2) : Vec Ideal S2x1024x5120 .f32) (ix3 1 i j) := by
  have e := (W7_arr m ρ c 20).trans (final20 m ρ c)
  show StableHlo.after hostOps2 (W7 m ρ c) (Proc.devRef .tc main_v17) _ = _
  have e' : (W7 m ρ c (Proc.devRef .tc main_v11_6) : Vec Ideal S16x64x5120 .bf16) = _ := e
  generalize W7 m ρ c = σ at e' ⊢
  entry_read
  rw [e']
  pointwise []
  blk_ext

end Cert.KernelIdeal.Na

end
-- ==== Proof.NaVal.lean ====
/- The neighbourhood attention program computes its reference, and passes on the weights it casts. -/
module

public import proofs.«01_k».proof.Defs
public import proofs.«01_k».proof.Proof.NaMath
public import proofs.«01_k».proof.Proof.NaCast
public import proofs.«01_k».proof.Proof.NaRun
public import proofs.«01_k».proof.Proof.Gen.ReferenceIdeal.Run

@[expose] public section
set_option maxRecDepth 16384
noncomputable section

/-- The shape relations of the precondition's operations. -/
instance Cert.Pre_finite.facts : Cert.Pre_finite.Facts where
  slices_S8x2048x3072_S8x2048x1024_0_0_0 := by decide
  bitsLt_bf16_f32 := by decide
  bcast_S_S8x2048x1024 := by decide
  slices_S2x8x15x31_S1x8x15x31_0_0_0_0 := by decide
  shapeCasts_S1x8x15x31_S8x15x31 := by decide
  bcast_S_S8x15x31 := by decide

namespace Cert.KernelIdeal.Na
open Idealize.ShloMosaic Idealize.ShloMosaic.TcCoe Idealize.SL.Sem
open Cert.KernelIdeal Cert.KernelIdeal.Gen
open Cert.ReferenceIdeal.Na (near)

/-- The precondition's bound is infinity. -/
theorem inf_bits : Ideal.ofBits .f32 0x7F800000#32 = ⊤ := by simp [Ideal.ofBits, Ideal.ieee]

/-- A value whose magnitude is below infinity is a real number. -/
theorem real_of_lt (x : EReal) (h : Ideal.cmp .olt (max x (-x)) ⊤ = 1#1) : ∃ r : ℝ, x = r := by
  have hlt : max x (-x) < ⊤ := by
    by_contra hn
    simp [Ideal.cmp, hn] at h
  have h1 : x ≠ ⊤ := fun e => by subst e; simp at hlt
  have h2 : x ≠ ⊥ := fun e => by subst e; simp at hlt
  exact ⟨x.toReal, (EReal.coe_toReal h1 h2).symm⟩

variable (x : Vec Ideal S8x2048x3072 .bf16) (rpb : Vec Ideal S2x8x15x31 .f32)

section
variable (w2 : Vec Ideal S2x1024x5120 .f32) (w3 w4 : Vec Ideal S2x512x1024 .f32) (w5 : Vec Ideal S2x1024x1024 .f32)
  (w6 : Vec Ideal S2x1024x4096 .f32) (w7 : Vec Ideal S2x4096x1024 .f32)

/-- Where the precondition holds, the attention's queries and keys are real numbers. -/
theorem real_x (h : (Cert.Pre_finite.fn (F := Ideal) x rpb w2 w3 w4 w5 w6 w7).1 = fun _ => 1#1) (b : Fin 8) (p : Fin 2048) (e : Fin 1024) :
    ∃ r : ℝ, x (ix3 b p ⟨e.val, by omega⟩) = r := by
  refine real_of_lt _ ?_
  have h' := congrFun h (ix3 b p e)
  rw [← h']
  pointwise [Cert.Pre_finite.fn]
  rw [inf_bits]
  rfl

/-- Where the precondition holds, the bias table of the layer is made of real numbers. -/
theorem real_rpb (h : (Cert.Pre_finite.fn (F := Ideal) x rpb w2 w3 w4 w5 w6 w7).2 = fun _ => 1#1) (i : Fin 8) (d : Fin 15) (l : Fin 31) :
    ∃ r : ℝ, rpb (ix4 0 i d l) = r := by
  refine real_of_lt _ ?_
  have h' := congrFun h (ix3 i d l)
  rw [← h']
  pointwise [Cert.Pre_finite.fn]
  rw [inf_bits]
  rfl
end

/-- Two matrices equal at every row and column are equal. -/
theorem slab_ext {a b : ℕ} (u : Vec Ideal ⟨2, ![a, b]⟩ .bf16) (f : Fin a → Fin b → EReal) (h : ∀ i j, u (ix2 i j) = f i j) :
    u = fun y => f (y 0) (y 1) := by
  funext y
  obtain ⟨i, j, rfl⟩ : ∃ (i : Fin a) (j : Fin b), y = ix2 i j := ⟨y 0, y 1, eq_ix2 y⟩
  exact h i j

/-! The reference's casts: a layer's slab of a stacked weight, read at a row and a column. -/
theorem cast2 (w : Vec Ideal S2x1024x5120 .f32) (i : Fin 1024) (j : Fin 5120) {h1 : Shape.Slices S2x1024x5120 ![0, 0, 0] Cert.ReferenceIdeal.S1x1024x5120} {h2 : Shape.ShapeCasts Cert.ReferenceIdeal.S1x1024x5120 S1024x5120} {h3 : FTy.bits .bf16 < FTy.bits .f32} :
    (truncf .bf16 (shapeCast S1024x5120 (extractStridedSlice Cert.ReferenceIdeal.S1x1024x5120 ![0, 0, 0] w h1) h2) h3 : FVec Ideal S1024x5120 .bf16) (ix2 i j) = w (ix3 0 i j) := by
  pointwise []

theorem cast3 (w : Vec Ideal S2x512x1024 .f32) (i : Fin 512) (j : Fin 1024) {h1 : Shape.Slices S2x512x1024 ![0, 0, 0] Cert.ReferenceIdeal.S1x512x1024} {h2 : Shape.ShapeCasts Cert.ReferenceIdeal.S1x512x1024 S512x1024} {h3 : FTy.bits .bf16 < FTy.bits .f32} :
    (truncf .bf16 (shapeCast S512x1024 (extractStridedSlice Cert.ReferenceIdeal.S1x512x1024 ![0, 0, 0] w h1) h2) h3 : FVec Ideal S512x1024 .bf16) (ix2 i j) = w (ix3 0 i j) := by
  pointwise []

theorem cast5 (w : Vec Ideal S2x1024x1024 .f32) (i : Fin 1024) (j : Fin 1024) {h1 : Shape.Slices S2x1024x1024 ![0, 0, 0] Cert.ReferenceIdeal.S1x1024x1024} {h2 : Shape.ShapeCasts Cert.ReferenceIdeal.S1x1024x1024 S1024x1024} {h3 : FTy.bits .bf16 < FTy.bits .f32} :
    (truncf .bf16 (shapeCast S1024x1024 (extractStridedSlice Cert.ReferenceIdeal.S1x1024x1024 ![0, 0, 0] w h1) h2) h3 : FVec Ideal S1024x1024 .bf16) (ix2 i j) = w (ix3 0 i j) := by
  pointwise []

theorem cast6 (w : Vec Ideal S2x1024x4096 .f32) (i : Fin 1024) (j : Fin 4096) {h1 : Shape.Slices S2x1024x4096 ![0, 0, 0] Cert.ReferenceIdeal.S1x1024x4096} {h2 : Shape.ShapeCasts Cert.ReferenceIdeal.S1x1024x4096 S1024x4096} {h3 : FTy.bits .bf16 < FTy.bits .f32} :
    (truncf .bf16 (shapeCast S1024x4096 (extractStridedSlice Cert.ReferenceIdeal.S1x1024x4096 ![0, 0, 0] w h1) h2) h3 : FVec Ideal S1024x4096 .bf16) (ix2 i j) = w (ix3 0 i j) := by
  pointwise []

theorem cast7 (w : Vec Ideal S2x4096x1024 .f32) (i : Fin 4096) (j : Fin 1024) {h1 : Shape.Slices S2x4096x1024 ![0, 0, 0] Cert.ReferenceIdeal.S1x4096x1024} {h2 : Shape.ShapeCasts Cert.ReferenceIdeal.S1x4096x1024 S4096x1024} {h3 : FTy.bits .bf16 < FTy.bits .f32} :
    (truncf .bf16 (shapeCast S4096x1024 (extractStridedSlice Cert.ReferenceIdeal.S1x4096x1024 ![0, 0, 0] w h1) h2) h3 : FVec Ideal S4096x1024 .bf16) (ix2 i j) = w (ix3 0 i j) := by
  pointwise []

theorem cast2' (w : Vec Ideal S2x1024x5120 .f32) (i : Fin 1024) (j : Fin 5120) {h1 : Shape.Slices S2x1024x5120 ![1, 0, 0] Cert.ReferenceIdeal.S1x1024x5120} {h2 : Shape.ShapeCasts Cert.ReferenceIdeal.S1x1024x5120 S1024x5120} {h3 : FTy.bits .bf16 < FTy.bits .f32} :
    (truncf .bf16 (shapeCast S1024x5120 (extractStridedSlice Cert.ReferenceIdeal.S1x1024x5120 ![1, 0, 0] w h1) h2) h3 : FVec Ideal S1024x5120 .bf16) (ix2 i j) = w (ix3 1 i j) := by
  pointwise []

/-- The kernel computes the reference's attention and weights wherever the precondition holds. -/
theorem algebraic : Cert.algebraic_KernelIdeal_ReferenceIdeal_pre_finite := by
  intro m g m' g' hpre hagree
  refine ⟨fun c => fun y => near (m ((c : Thread nD τ).loc main_arg0)) (m ((c : Thread nD τ).loc main_arg1)) (y 0) (y 1) (y 2),
    fun c => fun y => (m ((c : Thread nD τ).loc main_arg2) : Vec Ideal S2x1024x5120 .f32) (ix3 0 (y 0) (y 1)),
    fun c => fun y => (m ((c : Thread nD τ).loc main_arg3) : Vec Ideal S2x512x1024 .f32) (ix3 0 (y 0) (y 1)),
    fun c => fun y => (m ((c : Thread nD τ).loc main_arg4) : Vec Ideal S2x512x1024 .f32) (ix3 0 (y 0) (y 1)),
    fun c => fun y => (m ((c : Thread nD τ).loc main_arg5) : Vec Ideal S2x1024x1024 .f32) (ix3 0 (y 0) (y 1)),
    fun c => fun y => (m ((c : Thread nD τ).loc main_arg6) : Vec Ideal S2x1024x4096 .f32) (ix3 0 (y 0) (y 1)),
    fun c => fun y => (m ((c : Thread nD τ).loc main_arg7) : Vec Ideal S2x4096x1024 .f32) (ix3 0 (y 0) (y 1)),
    fun c => fun y => (m ((c : Thread nD τ).loc main_arg2) : Vec Ideal S2x1024x5120 .f32) (ix3 1 (y 0) (y 1)), ?_, ?_⟩
  · refine (θ_run _ _ _).mono (fun r h c => ?_) (run_vals m g)
    obtain ⟨h0, h1, h2, h3, h4, h5, h6, h7, hargs⟩ := h c
    refine ⟨h0.trans ?_, h1.trans ?_, h2.trans ?_, h3.trans ?_, h4.trans ?_, h5.trans ?_, h6.trans ?_, h7.trans ?_, hargs⟩
    · rw [W8_of m g c main_v11_0 (by decide)]
      refine (W7_arr m g c 14).trans ((attn_final m g c).trans ?_)
      funext y
      exact attn_near _ _ (real_x _ _ _ _ _ _ _ _ (hpre c).1) (real_rpb _ _ _ _ _ _ _ _ (hpre c).2) (y 0) (y 1) (y 2)
    · exact slab_ext _ _ (result3 m g c)
    · exact slab_ext _ _ (result15 m g c)
    · exact slab_ext _ _ (result16 m g c)
    · exact slab_ext _ _ (result17 m g c)
    · exact slab_ext _ _ (result18 m g c)
    · exact slab_ext _ _ (result19 m g c)
    · exact slab_ext _ _ (result20 m g c)
  · refine (θ_run _ _ _).mono (fun r h c => ?_) (Cert.ReferenceIdeal.Value.run m' g')
    obtain ⟨h0, h1, h2, h3, h4, h5, h6, h7, hargs⟩ := h c
    obtain ⟨a0, a1, a2, a3, a4, a5, a6, a7⟩ := hagree c
    refine ⟨h0.trans ?_, h1.trans ?_, h2.trans ?_, h3.trans ?_, h4.trans ?_, h5.trans ?_, h6.trans ?_, h7.trans ?_, hargs⟩
    · refine (Cert.ReferenceIdeal.Value.val3_main_v115 (StableHlo.launchContents m' c)).symm.trans ?_
      funext y
      obtain ⟨b, p, e, rfl⟩ : ∃ (b : Fin 8) (p : Fin 2048) (e : Fin 512), y = ix3 b p e := ⟨y 0, y 1, y 2, eq_ix3 y⟩
      refine (Cert.ReferenceIdeal.Na.out_at _ b p e).trans ?_
      exact congrArg₂ (fun u v => near u v b p e) a0 a1
    · exact slab_ext _ _ fun i j => (cast2 _ i j).trans (congrFun a2 (ix3 0 i j))
    · exact slab_ext _ _ fun i j => (cast3 _ i j).trans (congrFun a3 (ix3 0 i j))
    · exact slab_ext _ _ fun i j => (cast3 _ i j).trans (congrFun a4 (ix3 0 i j))
    · exact slab_ext _ _ fun i j => (cast5 _ i j).trans (congrFun a5 (ix3 0 i j))
    · exact slab_ext _ _ fun i j => (cast6 _ i j).trans (congrFun a6 (ix3 0 i j))
    · exact slab_ext _ _ fun i j => (cast7 _ i j).trans (congrFun a7 (ix3 0 i j))
    · exact slab_ext _ _ fun i j => (cast2' _ i j).trans (congrFun a2 (ix3 1 i j))

end Cert.KernelIdeal.Na
-- ==== Proof.NbPay.lean ====
/- Layer 1. What the bias table's and the attention's bodies store, each store written with one uniform function. -/
module

public import proofs.«01_k».proof.Proof.Gen.Kernel5Ideal.Frame

@[expose] public section
set_option maxRecDepth 16384
noncomputable section

namespace Cert.Kernel5Ideal.Na
open Idealize.ShloMosaic Idealize.ShloMosaic.TcCoe Idealize.SL.Sem
open Cert.Kernel5Ideal Cert.Kernel5Ideal.Gen
open Idealize.ShloMosaic.Pipeline

variable {F : FTy → Type} [FloatOps F] [Named F]

/-- One stored pair of bias tiles: each half is a rotated table row inside the column band, or the mask throughout. -/
def pair (a b : Option (Vec F S1x1x1x128 .f32)) : FVec F S1x1x1x64x128 .f32 :=
  shapeCast S1x1x1x64x128 (select k0_pay2 (a.elim (k0_pay4 (F := F)) k0_pay5) (b.elim (k0_pay4 (F := F)) k0_pay6)) shapeCasts_S64x128_S1x1x1x64x128

/-- The bias table's block as its stored pairs. -/
def table (x0 : Vec F S1x1x15x128 .f32) : Vec F S1x3x1x256x768 .f32 :=
  View.canon [⟨r0_86, pair (some (View.ld x0 r0_14)) (some (View.ld x0 r0_0))⟩,
    ⟨r0_85, pair (some (View.ld x0 r0_28)) (some (View.ld x0 r0_21))⟩,
    ⟨r0_84, pair (some (View.ld x0 r0_68)) (some (View.ld x0 r0_35))⟩,
    ⟨r0_83, pair (some (View.ld x0 r0_82)) (some (View.ld x0 r0_75))⟩,
    ⟨r0_81, pair none none⟩,
    ⟨r0_80, pair none none⟩,
    ⟨r0_79, pair (some (View.ld x0 r0_0)) (some (View.ld x0 r0_1))⟩,
    ⟨r0_78, pair (some (View.ld x0 r0_21)) (some (View.ld x0 r0_14))⟩,
    ⟨r0_77, pair (some (View.ld x0 r0_35)) (some (View.ld x0 r0_28))⟩,
    ⟨r0_76, pair (some (View.ld x0 r0_75)) (some (View.ld x0 r0_68))⟩,
    ⟨r0_74, pair none none⟩,
    ⟨r0_73, pair none none⟩,
    ⟨r0_72, pair (some (View.ld x0 r0_1)) (some (View.ld x0 r0_3))⟩,
    ⟨r0_71, pair (some (View.ld x0 r0_14)) (some (View.ld x0 r0_0))⟩,
    ⟨r0_70, pair (some (View.ld x0 r0_28)) (some (View.ld x0 r0_21))⟩,
    ⟨r0_69, pair (some (View.ld x0 r0_68)) (some (View.ld x0 r0_35))⟩,
    ⟨r0_67, pair none none⟩,
    ⟨r0_66, pair none none⟩,
    ⟨r0_65, pair (some (View.ld x0 r0_3)) (some (View.ld x0 r0_4))⟩,
    ⟨r0_64, pair (some (View.ld x0 r0_0)) (some (View.ld x0 r0_1))⟩,
    ⟨r0_63, pair (some (View.ld x0 r0_21)) (some (View.ld x0 r0_14))⟩,
    ⟨r0_62, pair (some (View.ld x0 r0_35)) (some (View.ld x0 r0_28))⟩,
    ⟨r0_61, pair none none⟩,
    ⟨r0_60, pair none none⟩,
    ⟨r0_59, pair (some (View.ld x0 r0_4)) none⟩,
    ⟨r0_58, pair (some (View.ld x0 r0_1)) (some (View.ld x0 r0_3))⟩,
    ⟨r0_57, pair (some (View.ld x0 r0_14)) (some (View.ld x0 r0_0))⟩,
    ⟨r0_56, pair (some (View.ld x0 r0_28)) (some (View.ld x0 r0_21))⟩,
    ⟨r0_55, pair none (some (View.ld x0 r0_35))⟩,
    ⟨r0_54, pair none none⟩,
    ⟨r0_53, pair none none⟩,
    ⟨r0_52, pair (some (View.ld x0 r0_3)) (some (View.ld x0 r0_4))⟩,
    ⟨r0_51, pair (some (View.ld x0 r0_0)) (some (View.ld x0 r0_1))⟩,
    ⟨r0_50, pair (some (View.ld x0 r0_21)) (some (View.ld x0 r0_14))⟩,
    ⟨r0_49, pair (some (View.ld x0 r0_35)) (some (View.ld x0 r0_28))⟩,
    ⟨r0_48, pair none none⟩,
    ⟨r0_47, pair none none⟩,
    ⟨r0_46, pair (some (View.ld x0 r0_4)) none⟩,
    ⟨r0_45, pair (some (View.ld x0 r0_1)) (some (View.ld x0 r0_3))⟩,
    ⟨r0_44, pair (some (View.ld x0 r0_14)) (some (View.ld x0 r0_0))⟩,
    ⟨r0_43, pair (some (View.ld x0 r0_28)) (some (View.ld x0 r0_21))⟩,
    ⟨r0_42, pair none (some (View.ld x0 r0_35))⟩,
    ⟨r0_41, pair none none⟩,
    ⟨r0_40, pair none none⟩,
    ⟨r0_39, pair (some (View.ld x0 r0_3)) (some (View.ld x0 r0_4))⟩,
    ⟨r0_38, pair (some (View.ld x0 r0_0)) (some (View.ld x0 r0_1))⟩,
    ⟨r0_37, pair (some (View.ld x0 r0_21)) (some (View.ld x0 r0_14))⟩,
    ⟨r0_36, pair (some (View.ld x0 r0_35)) (some (View.ld x0 r0_28))⟩,
    ⟨r0_34, pair none none⟩,
    ⟨r0_33, pair none none⟩,
    ⟨r0_32, pair (some (View.ld x0 r0_4)) (some (View.ld x0 r0_6))⟩,
    ⟨r0_31, pair (some (View.ld x0 r0_1)) (some (View.ld x0 r0_3))⟩,
    ⟨r0_30, pair (some (View.ld x0 r0_14)) (some (View.ld x0 r0_0))⟩,
    ⟨r0_29, pair (some (View.ld x0 r0_28)) (some (View.ld x0 r0_21))⟩,
    ⟨r0_27, pair none none⟩,
    ⟨r0_26, pair none none⟩,
    ⟨r0_25, pair (some (View.ld x0 r0_6)) (some (View.ld x0 r0_7))⟩,
    ⟨r0_24, pair (some (View.ld x0 r0_3)) (some (View.ld x0 r0_4))⟩,
    ⟨r0_23, pair (some (View.ld x0 r0_0)) (some (View.ld x0 r0_1))⟩,
    ⟨r0_22, pair (some (View.ld x0 r0_21)) (some (View.ld x0 r0_14))⟩,
    ⟨r0_20, pair none none⟩,
    ⟨r0_19, pair none none⟩,
    ⟨r0_18, pair (some (View.ld x0 r0_7)) (some (View.ld x0 r0_9))⟩,
    ⟨r0_17, pair (some (View.ld x0 r0_4)) (some (View.ld x0 r0_6))⟩,
    ⟨r0_16, pair (some (View.ld x0 r0_1)) (some (View.ld x0 r0_3))⟩,
    ⟨r0_15, pair (some (View.ld x0 r0_14)) (some (View.ld x0 r0_0))⟩,
    ⟨r0_13, pair none none⟩,
    ⟨r0_12, pair none none⟩,
    ⟨r0_11, pair (some (View.ld x0 r0_9)) (some (View.ld x0 r0_10))⟩,
    ⟨r0_8, pair (some (View.ld x0 r0_6)) (some (View.ld x0 r0_7))⟩,
    ⟨r0_5, pair (some (View.ld x0 r0_3)) (some (View.ld x0 r0_4))⟩,
    ⟨r0_2, pair (some (View.ld x0 r0_0)) (some (View.ld x0 r0_1))⟩]

theorem out0_2_eq (x0 : Vec F S1x1x15x128 .f32) (x1 : Vec F S1x64x5120 .f32) : out0_2 x0 x1 = table x0 := rfl

/-- The scores of one query tile against its key window under a lane mask. -/
def score (g : IVec S256x128 1) (q k0 k1 k2 : Vec F S1x256x128 .bf16) (b : Vec F S1x1x1x256x768 .f32) : FVec F S256x768 .f32 :=
  addf (matmul dot_S256x128_S768x128_S256x768_1_1_0_0_n_n none
      (select g (mulf (shapeCast S256x128 q shapeCasts_S1x256x128_S256x128) (broadcast S256x128 (Scalar.ofBits .bf16 0x3E00#16 : F .bf16)))
        (broadcast S256x128 (Scalar.ofBits .bf16 0x0000#16 : F .bf16)))
      (concatenate S768x128 0 [⟨S256x128, shapeCast S256x128 k0 shapeCasts_S1x256x128_S256x128⟩, ⟨S256x128, shapeCast S256x128 k1 shapeCasts_S1x256x128_S256x128⟩, ⟨S256x128, shapeCast S256x128 k2 shapeCasts_S1x256x128_S256x128⟩] concatenates_S256x128_S256x128_S256x128_S768x128_d0)
      (constant S256x768 .f32 0x00000000#32))
    (shapeCast S256x768 b shapeCasts_S1x1x1x256x768_S256x768)

/-- The weights of a row of scores: exponentials after the row's maximum is taken off. -/
def weight (s : FVec F S256x768 .f32) : FVec F S256x768 .bf16 :=
  exp (truncf .bf16 (subf s (broadcastTo S256x768 (shapeCast S256x1 (multiReduction .maximumf [1] S256 s 0xFF800000#32 reduces_S256x768_S256 (.inl rfl) rfl) shapeCasts_S256_S256x1) broadcasts_S256x1_S256x768)) bitsLt_bf16_f32)

/-- The value window beside a block of ones. -/
def vones (v0 v1 v2 : Vec F S1x256x128 .bf16) : FVec F S768x256 .bf16 :=
  concatenate S768x256 1 [⟨S768x128, concatenate S768x128 0 [⟨S256x128, shapeCast S256x128 v0 shapeCasts_S1x256x128_S256x128⟩, ⟨S256x128, shapeCast S256x128 v1 shapeCasts_S1x256x128_S256x128⟩, ⟨S256x128, shapeCast S256x128 v2 shapeCasts_S1x256x128_S256x128⟩] concatenates_S256x128_S256x128_S256x128_S768x128_d0⟩,
    ⟨S768x128, broadcast S768x128 (Scalar.ofBits .bf16 0x3F80#16 : F .bf16)⟩] concatenates_S768x128_S768x128_S768x256_d1

/-- The weighted sums of the values and of the ones, side by side. -/
def sums (s : FVec F S256x768 .f32) (w : FVec F S768x256 .bf16) : FVec F S256x256 .f32 :=
  matmul dot_S256x768_S768x256_S256x256_1_0_0_1_n_n none (weight s) w (constant S256x256 .f32 0x00000000#32)

/-- Their quotient. -/
def quot (x : FVec F S256x256 .f32) : FVec F S256x128 .f32 :=
  divf (extractStridedSlice S256x128 ![0, 0] x slices_S256x256_o0_0_S256x128) (extractStridedSlice S256x128 ![0, 128] x slices_S256x256_o0_128_S256x128)

/-- One stored tile: two heads of one query block. -/
def tile (q k0 k1 k2 v0 v1 v2 : Vec F S1x256x128 .bf16) (b0 b1 : Vec F S1x1x1x256x768 .f32) : FVec F S1x256x128 .bf16 :=
  shapeCast S1x256x128 (truncf .bf16 (select k1_pay8
      (quot (sums (score k1_pay8 q k0 k1 k2 b0) (vones v0 v1 v2)))
      (quot (sums (score (xori k1_pay8 (constantI S256x128 1 1#1)) q k0 k1 k2 b1) (vones v0 v1 v2)))) bitsLt_bf16_f32) shapeCasts_S256x128_S1x256x128

/-- The attention's block as its stored tiles. -/
def heads (x0 x1 x2 x3 x4 x5 x6 : Vec F S4x256x512 .bf16) (x7 : Vec F S1x1x8x256x768 .f32) : Vec F S4x256x512 .bf16 :=
  View.canon [⟨r1_27, tile (View.ld x0 r1_27) (View.ld x1 r1_27) (View.ld x2 r1_27) (View.ld x3 r1_27) (View.ld x4 r1_27) (View.ld x5 r1_27) (View.ld x6 r1_27) (View.ld x7 r1_14) (View.ld x7 r1_15)⟩,
    ⟨r1_26, tile (View.ld x0 r1_26) (View.ld x1 r1_26) (View.ld x2 r1_26) (View.ld x3 r1_26) (View.ld x4 r1_26) (View.ld x5 r1_26) (View.ld x6 r1_26) (View.ld x7 r1_11) (View.ld x7 r1_12)⟩,
    ⟨r1_25, tile (View.ld x0 r1_25) (View.ld x1 r1_25) (View.ld x2 r1_25) (View.ld x3 r1_25) (View.ld x4 r1_25) (View.ld x5 r1_25) (View.ld x6 r1_25) (View.ld x7 r1_8) (View.ld x7 r1_9)⟩,
    ⟨r1_24, tile (View.ld x0 r1_24) (View.ld x1 r1_24) (View.ld x2 r1_24) (View.ld x3 r1_24) (View.ld x4 r1_24) (View.ld x5 r1_24) (View.ld x6 r1_24) (View.ld x7 r1_5) (View.ld x7 r1_6)⟩,
    ⟨r1_23, tile (View.ld x0 r1_23) (View.ld x1 r1_23) (View.ld x2 r1_23) (View.ld x3 r1_23) (View.ld x4 r1_23) (View.ld x5 r1_23) (View.ld x6 r1_23) (View.ld x7 r1_14) (View.ld x7 r1_15)⟩,
    ⟨r1_22, tile (View.ld x0 r1_22) (View.ld x1 r1_22) (View.ld x2 r1_22) (View.ld x3 r1_22) (View.ld x4 r1_22) (View.ld x5 r1_22) (View.ld x6 r1_22) (View.ld x7 r1_11) (View.ld x7 r1_12)⟩,
    ⟨r1_21, tile (View.ld x0 r1_21) (View.ld x1 r1_21) (View.ld x2 r1_21) (View.ld x3 r1_21) (View.ld x4 r1_21) (View.ld x5 r1_21) (View.ld x6 r1_21) (View.ld x7 r1_8) (View.ld x7 r1_9)⟩,
    ⟨r1_20, tile (View.ld x0 r1_20) (View.ld x1 r1_20) (View.ld x2 r1_20) (View.ld x3 r1_20) (View.ld x4 r1_20) (View.ld x5 r1_20) (View.ld x6 r1_20) (View.ld x7 r1_5) (View.ld x7 r1_6)⟩,
    ⟨r1_19, tile (View.ld x0 r1_19) (View.ld x1 r1_19) (View.ld x2 r1_19) (View.ld x3 r1_19) (View.ld x4 r1_19) (View.ld x5 r1_19) (View.ld x6 r1_19) (View.ld x7 r1_14) (View.ld x7 r1_15)⟩,
    ⟨r1_18, tile (View.ld x0 r1_18) (View.ld x1 r1_18) (View.ld x2 r1_18) (View.ld x3 r1_18) (View.ld x4 r1_18) (View.ld x5 r1_18) (View.ld x6 r1_18) (View.ld x7 r1_11) (View.ld x7 r1_12)⟩,
    ⟨r1_17, tile (View.ld x0 r1_17) (View.ld x1 r1_17) (View.ld x2 r1_17) (View.ld x3 r1_17) (View.ld x4 r1_17) (View.ld x5 r1_17) (View.ld x6 r1_17) (View.ld x7 r1_8) (View.ld x7 r1_9)⟩,
    ⟨r1_16, tile (View.ld x0 r1_16) (View.ld x1 r1_16) (View.ld x2 r1_16) (View.ld x3 r1_16) (View.ld x4 r1_16) (View.ld x5 r1_16) (View.ld x6 r1_16) (View.ld x7 r1_5) (View.ld x7 r1_6)⟩,
    ⟨r1_13, tile (View.ld x0 r1_13) (View.ld x1 r1_13) (View.ld x2 r1_13) (View.ld x3 r1_13) (View.ld x4 r1_13) (View.ld x5 r1_13) (View.ld x6 r1_13) (View.ld x7 r1_14) (View.ld x7 r1_15)⟩,
    ⟨r1_10, tile (View.ld x0 r1_10) (View.ld x1 r1_10) (View.ld x2 r1_10) (View.ld x3 r1_10) (View.ld x4 r1_10) (View.ld x5 r1_10) (View.ld x6 r1_10) (View.ld x7 r1_11) (View.ld x7 r1_12)⟩,
    ⟨r1_7, tile (View.ld x0 r1_7) (View.ld x1 r1_7) (View.ld x2 r1_7) (View.ld x3 r1_7) (View.ld x4 r1_7) (View.ld x5 r1_7) (View.ld x6 r1_7) (View.ld x7 r1_8) (View.ld x7 r1_9)⟩,
    ⟨r1_4, tile (View.ld x0 r1_4) (View.ld x1 r1_4) (View.ld x2 r1_4) (View.ld x3 r1_4) (View.ld x4 r1_4) (View.ld x5 r1_4) (View.ld x6 r1_4) (View.ld x7 r1_5) (View.ld x7 r1_6)⟩]

theorem out1_13_eq (x0 x1 x2 x3 x4 x5 x6 : Vec F S4x256x512 .bf16) (x7 : Vec F S1x1x8x256x768 .f32) (x8 x9 x10 x11 x12) :
    out1_13 x0 x1 x2 x3 x4 x5 x6 x7 x8 x9 x10 x11 x12 = heads x0 x1 x2 x3 x4 x5 x6 x7 := rfl

end Cert.Kernel5Ideal.Na

end
-- ==== Proof.NbPoint.lean ====
/- Layer 1. The bias table's block and the attention's block, entry by entry. -/
module

public import proofs.«01_k».proof.Proof.NbPay
public import proofs.«01_k».proof.Proof.NaRow
public import Idealize.ShloMosaic.Lib.Pipeline.ValueKit
public import Idealize.ShloMosaic.Lib.Pointwise

@[expose] public section
set_option maxRecDepth 16384
noncomputable section

namespace Cert.Kernel5Ideal.Na
open Idealize.ShloMosaic Idealize.ShloMosaic.TcCoe Idealize.SL.Sem
open Cert.Kernel5Ideal Cert.Kernel5Ideal.Gen
open NaRow

/-- The column band as the body computes it from a tile's row `r` and the key column `k` of its left half. -/
theorem mask_left (r k : Fin 64) : k0_pay3 (ix2 r ⟨k.val, by omega⟩) = if band r k then 1#1 else 0#1 := by
  have h : ∀ (r k : Fin 64), (IntOp.andi
          (IntOp.cmpi CmpIPredicate.sge
            (Scalar.select (IntOp.cmpi CmpIPredicate.slt (BitVec.ofNat 32 k.val) 64#32) (BitVec.ofNat 32 k.val)
              (IntOp.subi (BitVec.ofNat 32 k.val) 64#32))
            (IntOp.minsi (48#32) (IntOp.maxsi (0#32) (IntOp.subi (BitVec.ofNat 32 r.val) 8#32))))
          (IntOp.cmpi CmpIPredicate.slt
            (Scalar.select (IntOp.cmpi CmpIPredicate.slt (BitVec.ofNat 32 k.val) 64#32) (BitVec.ofNat 32 k.val)
              (IntOp.subi (BitVec.ofNat 32 k.val) 64#32))
            (IntOp.addi (IntOp.minsi (48#32) (IntOp.maxsi (0#32) (IntOp.subi (BitVec.ofNat 32 r.val) 8#32))) 16#32)))
        = if band r k then 1#1 else 0#1 := by
    decide +kernel
  pointwise [k0_pay3, k0_pay2]
  exact h r k

/-- The same for the right half's key columns. -/
theorem mask_right (r k : Fin 64) : k0_pay3 (ix2 r ⟨64 + k.val, by omega⟩) = if band r k then 1#1 else 0#1 := by
  have h : ∀ (r k : Fin 64), (IntOp.andi
          (IntOp.cmpi CmpIPredicate.sge
            (Scalar.select (IntOp.cmpi CmpIPredicate.slt (BitVec.ofNat 32 (64 + k.val)) 64#32) (BitVec.ofNat 32 (64 + k.val))
              (IntOp.subi (BitVec.ofNat 32 (64 + k.val)) 64#32))
            (IntOp.minsi (48#32) (IntOp.maxsi (0#32) (IntOp.subi (BitVec.ofNat 32 r.val) 8#32))))
          (IntOp.cmpi CmpIPredicate.slt
            (Scalar.select (IntOp.cmpi CmpIPredicate.slt (BitVec.ofNat 32 (64 + k.val)) 64#32) (BitVec.ofNat 32 (64 + k.val))
              (IntOp.subi (BitVec.ofNat 32 (64 + k.val)) 64#32))
            (IntOp.addi (IntOp.minsi (48#32) (IntOp.maxsi (0#32) (IntOp.subi (BitVec.ofNat 32 r.val) 8#32))) 16#32)))
        = if band r k then 1#1 else 0#1 := by
    decide +kernel
  pointwise [k0_pay3, k0_pay2]
  exact h r k

theorem mask_val : (Named.named κ "mask" 0xF149F2CA#32 : Ideal .f32) = (⊥ : EReal) := rfl

theorem lane_left (k : Fin 64) : IntOp.cmpi CmpIPredicate.slt (BitVec.ofNat 32 k.val) 64#32 = 1#1 := by
  revert k; decide +kernel

theorem lane_right (k : Fin 64) : IntOp.cmpi CmpIPredicate.slt (BitVec.ofNat 32 (64 + k.val)) 64#32 = 0#1 := by
  revert k; decide +kernel

theorem sel_if (p : Prop) [Decidable p] (x y : EReal) : Scalar.select (if p then 1#1 else 0#1) x y = if p then x else y := by
  unfold Scalar.select; by_cases h : p <;> simp [h]

theorem sel_one (x y : EReal) : Scalar.select (1#1) x y = x := rfl

theorem sel_zero (x y : EReal) : Scalar.select (0#1) x y = y := rfl

/-- A half tile: the rotated row in the band, the mask elsewhere. -/
def strip (w : Option (Vec Ideal S1x1x1x128 .f32)) (r k : Fin 64) : EReal :=
  w.elim ⊥ fun w => if band r k then w (ix4 0 0 0 ⟨(k.val + 128 - r.val) % 128, by omega⟩) else ⊥

theorem pair_left (a b : Option (Vec Ideal S1x1x1x128 .f32)) (u v w : Fin 1) (r k : Fin 64) :
    pair (F := Ideal) a b (ix5 u v w r ⟨k.val, by omega⟩) = strip a r k := by
  have e : pair (F := Ideal) a b (ix5 u v w r ⟨k.val, by omega⟩)
      = (a.elim (k0_pay4 (F := Ideal)) k0_pay5) (ix2 r ⟨k.val, by omega⟩) := by
    pointwise [pair, k0_pay2]
    rw [lane_left]; rfl
  rw [e]
  cases a with
  | none => exact mask_val
  | some a =>
    show k0_pay5 (F := Ideal) a _ = _
    have m := mask_left r k
    unfold k0_pay5
    generalize k0_pay3 = g at m ⊢
    pointwise [m, k0_pay4, strip]
    rw [sel_if, mask_val]
    have hr : r.val % 128 = r.val := by omega
    simp only [hr]
    rfl

theorem pair_right (a b : Option (Vec Ideal S1x1x1x128 .f32)) (u v w : Fin 1) (r k : Fin 64) :
    pair (F := Ideal) a b (ix5 u v w r ⟨64 + k.val, by omega⟩) = strip b r k := by
  have e : pair (F := Ideal) a b (ix5 u v w r ⟨64 + k.val, by omega⟩)
      = (b.elim (k0_pay4 (F := Ideal)) k0_pay6) (ix2 r ⟨64 + k.val, by omega⟩) := by
    pointwise [pair, k0_pay2]
    rw [lane_right]; rfl
  rw [e]
  cases b with
  | none => exact mask_val
  | some b =>
    show k0_pay6 (F := Ideal) b _ = _
    have m := mask_right r k
    unfold k0_pay6
    generalize k0_pay3 = g at m ⊢
    pointwise [m, k0_pay4, strip]
    rw [sel_if, mask_val]
    have hr : (64 + k.val + 128 - (64 + r.val) % 128) % 128 = (k.val + 128 - r.val) % 128 := by omega
    simp only [hr]
    rfl

end Cert.Kernel5Ideal.Na

end
-- ==== Proof.NbHeads.lean ====
/- Layer 1. The attention's block, entry by entry. -/
module

public import proofs.«01_k».proof.Proof.NbPoint

@[expose] public section
set_option maxRecDepth 16384
noncomputable section

namespace Cert.Kernel5Ideal.Na
open Idealize.ShloMosaic Idealize.ShloMosaic.TcCoe Idealize.SL.Sem
open Cert.Kernel5Ideal Cert.Kernel5Ideal.Gen
open NaRow

theorem lane_mask (r : Fin 256) (l : Fin 128) : k1_pay8 (ix2 r l) = if l.val < 64 then 1#1 else 0#1 := by
  have h : ∀ l : Fin 128, IntOp.cmpi CmpIPredicate.slt (BitVec.ofNat 32 l.val) 64#32 = if l.val < 64 then 1#1 else 0#1 := by
    decide +kernel
  pointwise [k1_pay8]
  exact h l

theorem lane_mask_not (r : Fin 256) (l : Fin 128) :
    xori k1_pay8 (constantI S256x128 1 1#1) (ix2 r l) = if l.val < 64 then 0#1 else 1#1 := by
  show IntOp.xori (k1_pay8 (ix2 r l)) 1#1 = _
  rw [lane_mask]
  split <;> rfl

/-- Three consecutive blocks read as one window. -/
def win (k0 k1 k2 : Vec Ideal S1x256x128 .bf16) (j : Fin 768) (x : Fin 128) : EReal :=
  if h : j.val < 256 then k0 (ix3 0 ⟨j.val, h⟩ x)
  else if h : j.val - 256 < 256 then k1 (ix3 0 ⟨j.val - 256, h⟩ x) else k2 (ix3 0 ⟨j.val - 256 - 256, by omega⟩ x)

theorem score_at (g : IVec S256x128 1) (q k0 k1 k2 : Vec Ideal S1x256x128 .bf16) (b : Vec Ideal S1x1x1x256x768 .f32)
    (r : Fin 256) (j : Fin 768) : score (F := Ideal) g q k0 k1 k2 b (ix2 r j)
      = (∑ x : Fin 128, Scalar.select (g (ix2 r x)) (q (ix3 0 r x) * ((1 / 8 : ℝ) : EReal)) 0 * win k0 k1 k2 j x) + b (ix5 0 0 0 r j) := by
  rw [← eighth_bf16]
  pointwise [score]
  rfl

theorem score_left (q k0 k1 k2 : Vec Ideal S1x256x128 .bf16) (b : Vec Ideal S1x1x1x256x768 .f32) (r : Fin 256) (j : Fin 768) :
    score (F := Ideal) k1_pay8 q k0 k1 k2 b (ix2 r j)
      = (∑ a : Fin 64, q (ix3 0 r ⟨a.val, by omega⟩) * ((1 / 8 : ℝ) : EReal) * win k0 k1 k2 j ⟨a.val, by omega⟩) + b (ix5 0 0 0 r j) := by
  rw [score_at]
  congr 1
  rw [Fin.sum_univ_two_halves 64 64 rfl]
  refine (congrArg₂ (· + ·) (Finset.sum_congr rfl fun a _ => ?_) (Finset.sum_eq_zero fun a _ => ?_)).trans (add_zero _)
  · rw [lane_mask, if_pos (by simp)]; rfl
  · rw [lane_mask, if_neg (by simp), sel_zero, zero_mul]

theorem score_right (q k0 k1 k2 : Vec Ideal S1x256x128 .bf16) (b : Vec Ideal S1x1x1x256x768 .f32) (r : Fin 256) (j : Fin 768) :
    score (F := Ideal) (xori k1_pay8 (constantI S256x128 1 1#1)) q k0 k1 k2 b (ix2 r j)
      = (∑ a : Fin 64, q (ix3 0 r ⟨64 + a.val, by omega⟩) * ((1 / 8 : ℝ) : EReal) * win k0 k1 k2 j ⟨64 + a.val, by omega⟩) + b (ix5 0 0 0 r j) := by
  rw [score_at]
  congr 1
  rw [Fin.sum_univ_two_halves 64 64 rfl]
  refine (congrArg₂ (· + ·) (Finset.sum_eq_zero fun a _ => ?_) (Finset.sum_congr rfl fun a _ => ?_)).trans (zero_add _)
  · rw [lane_mask_not, if_pos (by simp), sel_zero, zero_mul]
  · rw [lane_mask_not, if_neg (by simp)]; rfl

theorem weight_at (s : FVec Ideal S256x768 .f32) (r : Fin 256) (j : Fin 768) :
    weight (F := Ideal) s (ix2 r j) = Ideal.exp (s (ix2 r j) - peak fun x => s (ix2 r x)) := by
  unfold peak
  rw [← neg_inf_f32]
  pointwise [weight]

/-- Three value blocks stacked. -/
def cat (v0 v1 v2 : Vec Ideal S1x256x128 .bf16) : FVec Ideal S768x128 .bf16 :=
  concatenate S768x128 0 [⟨S256x128, shapeCast S256x128 v0 shapeCasts_S1x256x128_S256x128⟩, ⟨S256x128, shapeCast S256x128 v1 shapeCasts_S1x256x128_S256x128⟩, ⟨S256x128, shapeCast S256x128 v2 shapeCasts_S1x256x128_S256x128⟩] concatenates_S256x128_S256x128_S256x128_S768x128_d0

theorem cat_at (v0 v1 v2 : Vec Ideal S1x256x128 .bf16) (j : Fin 768) (l : Fin 128) : cat v0 v1 v2 (ix2 j l) = win v0 v1 v2 j l := by
  pointwise [cat]
  rfl

theorem vones_left (v0 v1 v2 : Vec Ideal S1x256x128 .bf16) (x : Fin 768) (l : Fin 128) :
    vones (F := Ideal) v0 v1 v2 (ix2 x ⟨l.val, by omega⟩) = win v0 v1 v2 x l := by
  rw [← cat_at]
  show concatenate S768x256 1 [⟨S768x128, cat v0 v1 v2⟩, ⟨S768x128, broadcast S768x128 (Scalar.ofBits .bf16 0x3F80#16 : Ideal .bf16)⟩] _ _ = _
  generalize cat v0 v1 v2 = w
  pointwise []

theorem vones_right (v0 v1 v2 : Vec Ideal S1x256x128 .bf16) (x : Fin 768) (l : Fin 128) :
    vones (F := Ideal) v0 v1 v2 (ix2 x ⟨128 + l.val, by omega⟩) = (1 : EReal) := by
  have one : Ideal.ofBits .bf16 0x3F80#16 = 1 := by simp [Ideal.ofBits, Ideal.ieee, -EReal.coe_mul]; norm_num
  rw [← one]
  show concatenate S768x256 1 [⟨S768x128, cat v0 v1 v2⟩, ⟨S768x128, broadcast S768x128 (Scalar.ofBits .bf16 0x3F80#16 : Ideal .bf16)⟩] _ _ = _
  generalize cat v0 v1 v2 = w
  pointwise []

theorem sums_at (s : FVec Ideal S256x768 .f32) (v0 v1 v2 : Vec Ideal S1x256x128 .bf16) (r : Fin 256) (l : Fin 128) :
    quot (F := Ideal) (sums s (vones v0 v1 v2)) (ix2 r l) = att (fun j => s (ix2 r j)) (fun j => win v0 v1 v2 j l) := by
  have e1 (x : Fin 768) := vones_left v0 v1 v2 x l
  have e2 (x : Fin 768) := vones_right v0 v1 v2 x l
  have d1 : sums (F := Ideal) s (vones v0 v1 v2) (ix2 r ⟨l.val, by omega⟩)
      = ∑ j, Ideal.exp (s (ix2 r j) - peak fun x => s (ix2 r x)) * win v0 v1 v2 j l := by
    generalize hv : vones (F := Ideal) v0 v1 v2 = w at e1
    generalize hw : weight (F := Ideal) s = t
    have ht (j : Fin 768) : t (ix2 r j) = Ideal.exp (s (ix2 r j) - peak fun x => s (ix2 r x)) := by rw [← hw, weight_at]
    unfold sums
    rw [hw]
    pointwise []
    exact Finset.sum_congr rfl fun j _ => congrArg₂ (· * ·) (ht j) (e1 j)
  have d2 : sums (F := Ideal) s (vones v0 v1 v2) (ix2 r ⟨128 + l.val, by omega⟩)
      = ∑ j, Ideal.exp (s (ix2 r j) - peak fun x => s (ix2 r x)) := by
    generalize hv : vones (F := Ideal) v0 v1 v2 = w at e2
    generalize hw : weight (F := Ideal) s = t
    have ht (j : Fin 768) : t (ix2 r j) = Ideal.exp (s (ix2 r j) - peak fun x => s (ix2 r x)) := by rw [← hw, weight_at]
    unfold sums
    rw [hw]
    pointwise []
    exact Finset.sum_congr rfl fun j _ => (congrArg₂ (· * ·) (ht j) (e2 j)).trans (mul_one _)
  unfold att
  rw [← d1, ← d2]
  generalize sums (F := Ideal) s (vones v0 v1 v2) = w
  pointwise [quot]

/-- One entry of a stored tile: the entry's head attends over the window. -/
theorem tile_left (q k0 k1 k2 v0 v1 v2 : Vec Ideal S1x256x128 .bf16) (b0 b1 : Vec Ideal S1x1x1x256x768 .f32) (z : Fin 1) (r : Fin 256)
    (l : Fin 128) (h : l.val < 64) : tile (F := Ideal) q k0 k1 k2 v0 v1 v2 b0 b1 (ix3 z r l)
      = att (fun j => (∑ a : Fin 64, q (ix3 0 r ⟨a.val, by omega⟩) * ((1 / 8 : ℝ) : EReal) * win k0 k1 k2 j ⟨a.val, by omega⟩) + b0 (ix5 0 0 0 r j))
          (fun j => win v0 v1 v2 j l) := by
  rw [← funext fun j => score_left q k0 k1 k2 b0 r j, ← sums_at]
  have m := lane_mask r l
  rw [if_pos h] at m
  unfold tile
  generalize quot (F := Ideal) (sums (score k1_pay8 q k0 k1 k2 b0) (vones v0 v1 v2)) = t0
  generalize quot (F := Ideal) (sums (score (xori k1_pay8 (constantI S256x128 1 1#1)) q k0 k1 k2 b1) (vones v0 v1 v2)) = t1
  generalize k1_pay8 = g at m ⊢
  pointwise [m]

theorem tile_right (q k0 k1 k2 v0 v1 v2 : Vec Ideal S1x256x128 .bf16) (b0 b1 : Vec Ideal S1x1x1x256x768 .f32) (z : Fin 1) (r : Fin 256)
    (l : Fin 128) (h : ¬l.val < 64) : tile (F := Ideal) q k0 k1 k2 v0 v1 v2 b0 b1 (ix3 z r l)
      = att (fun j => (∑ a : Fin 64, q (ix3 0 r ⟨64 + a.val, by omega⟩) * ((1 / 8 : ℝ) : EReal) * win k0 k1 k2 j ⟨64 + a.val, by omega⟩) + b1 (ix5 0 0 0 r j))
          (fun j => win v0 v1 v2 j l) := by
  rw [← funext fun j => score_right q k0 k1 k2 b1 r j, ← sums_at]
  have m := lane_mask r l
  rw [if_neg h] at m
  unfold tile
  generalize quot (F := Ideal) (sums (score k1_pay8 q k0 k1 k2 b0) (vones v0 v1 v2)) = t0
  generalize quot (F := Ideal) (sums (score (xori k1_pay8 (constantI S256x128 1 1#1)) q k0 k1 k2 b1) (vones v0 v1 v2)) = t1
  generalize k1_pay8 = g at m ⊢
  pointwise [m]

/-- The window of three blocks at the attention's own block shape. -/
def win4 (k0 k1 k2 : Vec Ideal S4x256x512 .bf16) (bi : Fin 4) (j : Fin 768) (x : Fin 512) : EReal :=
  if h : j.val < 256 then k0 (ix3 bi ⟨j.val, h⟩ x)
  else if h : j.val - 256 < 256 then k1 (ix3 bi ⟨j.val - 256, h⟩ x) else k2 (ix3 bi ⟨j.val - 256 - 256, by omega⟩ x)

/-- An entry of the attention's block. -/
def headsAt (x0 x1 x2 x3 x4 x5 x6 : Vec Ideal S4x256x512 .bf16) (x7 : Vec Ideal S1x1x8x256x768 .f32) (bi : Fin 4) (r : Fin 256) (c : Fin 512) : EReal :=
  att (fun j => (∑ a : Fin 64, x0 (ix3 bi r ⟨64 * (c.val / 64) + a.val, by omega⟩) * ((1 / 8 : ℝ) : EReal)
        * win4 x1 x2 x3 bi j ⟨64 * (c.val / 64) + a.val, by omega⟩) + x7 (ix5 0 0 ⟨c.val / 64, by omega⟩ r j))
    (fun j => win4 x4 x5 x6 bi j c)

theorem win_of (x1 x2 x3 : Vec Ideal S4x256x512 .bf16) (bi : Fin 4) (hp : ℕ) (hhp : hp < 4) (k0 k1 k2 : Vec Ideal S1x256x128 .bf16)
    (h0 : ∀ r l, k0 (ix3 0 r l) = x1 (ix3 bi r ⟨128 * hp + l.val, by omega⟩))
    (h1 : ∀ r l, k1 (ix3 0 r l) = x2 (ix3 bi r ⟨128 * hp + l.val, by omega⟩))
    (h2 : ∀ r l, k2 (ix3 0 r l) = x3 (ix3 bi r ⟨128 * hp + l.val, by omega⟩)) (j : Fin 768) (x : Fin 128) :
    win k0 k1 k2 j x = win4 x1 x2 x3 bi j ⟨128 * hp + x.val, by omega⟩ := by
  unfold win win4
  simp only [h0, h1, h2]

theorem tile_piece (x0 x1 x2 x3 x4 x5 x6 : Vec Ideal S4x256x512 .bf16) (x7 : Vec Ideal S1x1x8x256x768 .f32) (bi : Fin 4) (hp : ℕ) (hhp : hp < 4)
    (q k0 k1 k2 v0 v1 v2 : Vec Ideal S1x256x128 .bf16) (b0 b1 : Vec Ideal S1x1x1x256x768 .f32)
    (hq : ∀ r l, q (ix3 0 r l) = x0 (ix3 bi r ⟨128 * hp + l.val, by omega⟩))
    (hk0 : ∀ r l, k0 (ix3 0 r l) = x1 (ix3 bi r ⟨128 * hp + l.val, by omega⟩))
    (hk1 : ∀ r l, k1 (ix3 0 r l) = x2 (ix3 bi r ⟨128 * hp + l.val, by omega⟩))
    (hk2 : ∀ r l, k2 (ix3 0 r l) = x3 (ix3 bi r ⟨128 * hp + l.val, by omega⟩))
    (hv0 : ∀ r l, v0 (ix3 0 r l) = x4 (ix3 bi r ⟨128 * hp + l.val, by omega⟩))
    (hv1 : ∀ r l, v1 (ix3 0 r l) = x5 (ix3 bi r ⟨128 * hp + l.val, by omega⟩))
    (hv2 : ∀ r l, v2 (ix3 0 r l) = x6 (ix3 bi r ⟨128 * hp + l.val, by omega⟩))
    (hb0 : ∀ r j, b0 (ix5 0 0 0 r j) = x7 (ix5 0 0 ⟨2 * hp, by omega⟩ r j))
    (hb1 : ∀ r j, b1 (ix5 0 0 0 r j) = x7 (ix5 0 0 ⟨2 * hp + 1, by omega⟩ r j))
    (x : S1x256x128.Idx) (y : S4x256x512.Idx) (e0 : (y 0).val = bi.val) (e1 : (y 1).val = (x 1).val)
    (e2 : (y 2).val = 128 * hp + (x 2).val) :
    tile (F := Ideal) q k0 k1 k2 v0 v1 v2 b0 b1 x = headsAt x0 x1 x2 x3 x4 x5 x6 x7 (y 0) (y 1) (y 2) := by
  obtain ⟨z, r, l, rfl⟩ : ∃ (z : Fin 1) (r : Fin 256) (l : Fin 128), x = ix3 z r l := ⟨x 0, x 1, x 2, eq_ix3 x⟩
  obtain ⟨b', r', c, rfl⟩ : ∃ (b' : Fin 4) (r' : Fin 256) (c : Fin 512), y = ix3 b' r' c := ⟨y 0, y 1, y 2, eq_ix3 y⟩
  obtain rfl : b' = bi := Fin.ext e0
  obtain rfl : r' = r := Fin.ext e1
  have ec : c.val = 128 * hp + l.val := e2
  show _ = headsAt x0 x1 x2 x3 x4 x5 x6 x7 b' r' c
  have c' : (⟨128 * hp + l.val, by omega⟩ : Fin 512) = c := Fin.ext ec.symm
  have wk := win_of x1 x2 x3 b' hp hhp k0 k1 k2 hk0 hk1 hk2
  have wv := win_of x4 x5 x6 b' hp hhp v0 v1 v2 hv0 hv1 hv2
  unfold headsAt
  by_cases h : l.val < 64
  · rw [tile_left _ _ _ _ _ _ _ _ _ _ _ _ h]
    have ech : c.val / 64 = 2 * hp := by omega
    simp only [wk, wv, hq, hb0, c', ech]
    have ea (a : Fin 64) : (⟨128 * hp + a.val, by omega⟩ : Fin 512) = ⟨64 * (2 * hp) + a.val, by omega⟩ := by apply Fin.ext; simp only []; omega
    simp only [ea]
  · rw [tile_right _ _ _ _ _ _ _ _ _ _ _ _ h]
    have ech : c.val / 64 = 2 * hp + 1 := by omega
    simp only [wk, wv, hq, hb1, c', ech]
    have ea (a : Fin 64) : (⟨128 * hp + (64 + a.val), by omega⟩ : Fin 512) = ⟨64 * (2 * hp + 1) + a.val, by omega⟩ := by apply Fin.ext; simp only []; omega
    simp only [ea]

theorem ld_r1_28 (x : Vec Ideal S4x256x512 .bf16) (r : Fin 256) (l : Fin 128) :
    View.ld x r1_27 (ix3 0 r l) = x (ix3 3 r ⟨128 * 3 + l.val, by omega⟩) := by
  pointwise []

theorem ld_r1_27 (x : Vec Ideal S4x256x512 .bf16) (r : Fin 256) (l : Fin 128) :
    View.ld x r1_26 (ix3 0 r l) = x (ix3 3 r ⟨128 * 2 + l.val, by omega⟩) := by
  pointwise []

theorem ld_r1_26 (x : Vec Ideal S4x256x512 .bf16) (r : Fin 256) (l : Fin 128) :
    View.ld x r1_25 (ix3 0 r l) = x (ix3 3 r ⟨128 * 1 + l.val, by omega⟩) := by
  pointwise []

theorem ld_r1_25 (x : Vec Ideal S4x256x512 .bf16) (r : Fin 256) (l : Fin 128) :
    View.ld x r1_24 (ix3 0 r l) = x (ix3 3 r ⟨128 * 0 + l.val, by omega⟩) := by
  pointwise []

theorem ld_r1_24 (x : Vec Ideal S4x256x512 .bf16) (r : Fin 256) (l : Fin 128) :
    View.ld x r1_23 (ix3 0 r l) = x (ix3 2 r ⟨128 * 3 + l.val, by omega⟩) := by
  pointwise []

theorem ld_r1_23 (x : Vec Ideal S4x256x512 .bf16) (r : Fin 256) (l : Fin 128) :
    View.ld x r1_22 (ix3 0 r l) = x (ix3 2 r ⟨128 * 2 + l.val, by omega⟩) := by
  pointwise []

theorem ld_r1_22 (x : Vec Ideal S4x256x512 .bf16) (r : Fin 256) (l : Fin 128) :
    View.ld x r1_21 (ix3 0 r l) = x (ix3 2 r ⟨128 * 1 + l.val, by omega⟩) := by
  pointwise []

theorem ld_r1_21 (x : Vec Ideal S4x256x512 .bf16) (r : Fin 256) (l : Fin 128) :
    View.ld x r1_20 (ix3 0 r l) = x (ix3 2 r ⟨128 * 0 + l.val, by omega⟩) := by
  pointwise []

theorem ld_r1_20 (x : Vec Ideal S4x256x512 .bf16) (r : Fin 256) (l : Fin 128) :
    View.ld x r1_19 (ix3 0 r l) = x (ix3 1 r ⟨128 * 3 + l.val, by omega⟩) := by
  pointwise []

theorem ld_r1_19 (x : Vec Ideal S4x256x512 .bf16) (r : Fin 256) (l : Fin 128) :
    View.ld x r1_18 (ix3 0 r l) = x (ix3 1 r ⟨128 * 2 + l.val, by omega⟩) := by
  pointwise []

theorem ld_r1_18 (x : Vec Ideal S4x256x512 .bf16) (r : Fin 256) (l : Fin 128) :
    View.ld x r1_17 (ix3 0 r l) = x (ix3 1 r ⟨128 * 1 + l.val, by omega⟩) := by
  pointwise []

theorem ld_r1_17 (x : Vec Ideal S4x256x512 .bf16) (r : Fin 256) (l : Fin 128) :
    View.ld x r1_16 (ix3 0 r l) = x (ix3 1 r ⟨128 * 0 + l.val, by omega⟩) := by
  pointwise []

theorem ld_r1_14 (x : Vec Ideal S4x256x512 .bf16) (r : Fin 256) (l : Fin 128) :
    View.ld x r1_13 (ix3 0 r l) = x (ix3 0 r ⟨128 * 3 + l.val, by omega⟩) := by
  pointwise []

theorem ld_r1_11 (x : Vec Ideal S4x256x512 .bf16) (r : Fin 256) (l : Fin 128) :
    View.ld x r1_10 (ix3 0 r l) = x (ix3 0 r ⟨128 * 2 + l.val, by omega⟩) := by
  pointwise []

theorem ld_r1_8 (x : Vec Ideal S4x256x512 .bf16) (r : Fin 256) (l : Fin 128) :
    View.ld x r1_7 (ix3 0 r l) = x (ix3 0 r ⟨128 * 1 + l.val, by omega⟩) := by
  pointwise []

theorem ld_r1_5 (x : Vec Ideal S4x256x512 .bf16) (r : Fin 256) (l : Fin 128) :
    View.ld x r1_4 (ix3 0 r l) = x (ix3 0 r ⟨128 * 0 + l.val, by omega⟩) := by
  pointwise []

theorem ld_r1_6 (x : Vec Ideal S1x1x8x256x768 .f32) (r : Fin 256) (j : Fin 768) :
    View.ld x r1_5 (ix5 0 0 0 r j) = x (ix5 0 0 0 r j) := by
  pointwise []

theorem ld_r1_7 (x : Vec Ideal S1x1x8x256x768 .f32) (r : Fin 256) (j : Fin 768) :
    View.ld x r1_6 (ix5 0 0 0 r j) = x (ix5 0 0 1 r j) := by
  pointwise []

theorem ld_r1_9 (x : Vec Ideal S1x1x8x256x768 .f32) (r : Fin 256) (j : Fin 768) :
    View.ld x r1_8 (ix5 0 0 0 r j) = x (ix5 0 0 2 r j) := by
  pointwise []

theorem ld_r1_10 (x : Vec Ideal S1x1x8x256x768 .f32) (r : Fin 256) (j : Fin 768) :
    View.ld x r1_9 (ix5 0 0 0 r j) = x (ix5 0 0 3 r j) := by
  pointwise []

theorem ld_r1_12 (x : Vec Ideal S1x1x8x256x768 .f32) (r : Fin 256) (j : Fin 768) :
    View.ld x r1_11 (ix5 0 0 0 r j) = x (ix5 0 0 4 r j) := by
  pointwise []

theorem ld_r1_13 (x : Vec Ideal S1x1x8x256x768 .f32) (r : Fin 256) (j : Fin 768) :
    View.ld x r1_12 (ix5 0 0 0 r j) = x (ix5 0 0 5 r j) := by
  pointwise []

theorem ld_r1_15 (x : Vec Ideal S1x1x8x256x768 .f32) (r : Fin 256) (j : Fin 768) :
    View.ld x r1_14 (ix5 0 0 0 r j) = x (ix5 0 0 6 r j) := by
  pointwise []

theorem ld_r1_16 (x : Vec Ideal S1x1x8x256x768 .f32) (r : Fin 256) (j : Fin 768) :
    View.ld x r1_15 (ix5 0 0 0 r j) = x (ix5 0 0 7 r j) := by
  pointwise []

theorem heads_at (x0 x1 x2 x3 x4 x5 x6 : Vec Ideal S4x256x512 .bf16) (x7 : Vec Ideal S1x1x8x256x768 .f32) :
    heads x0 x1 x2 x3 x4 x5 x6 x7 = fun y => headsAt x0 x1 x2 x3 x4 x5 x6 x7 (y 0) (y 1) (y 2) := by
  funext y
  unfold heads
  canon_tiles x h
  · exact tile_piece x0 x1 x2 x3 x4 x5 x6 x7 3 3 (by omega) _ _ _ _ _ _ _ _ _ (ld_r1_28 x0) (ld_r1_28 x1) (ld_r1_28 x2) (ld_r1_28 x3) (ld_r1_28 x4) (ld_r1_28 x5) (ld_r1_28 x6) (ld_r1_15 x7) (ld_r1_16 x7) x y (by omega) (by omega) (by omega)
  · exact tile_piece x0 x1 x2 x3 x4 x5 x6 x7 3 2 (by omega) _ _ _ _ _ _ _ _ _ (ld_r1_27 x0) (ld_r1_27 x1) (ld_r1_27 x2) (ld_r1_27 x3) (ld_r1_27 x4) (ld_r1_27 x5) (ld_r1_27 x6) (ld_r1_12 x7) (ld_r1_13 x7) x y (by omega) (by omega) (by omega)
  · exact tile_piece x0 x1 x2 x3 x4 x5 x6 x7 3 1 (by omega) _ _ _ _ _ _ _ _ _ (ld_r1_26 x0) (ld_r1_26 x1) (ld_r1_26 x2) (ld_r1_26 x3) (ld_r1_26 x4) (ld_r1_26 x5) (ld_r1_26 x6) (ld_r1_9 x7) (ld_r1_10 x7) x y (by omega) (by omega) (by omega)
  · exact tile_piece x0 x1 x2 x3 x4 x5 x6 x7 3 0 (by omega) _ _ _ _ _ _ _ _ _ (ld_r1_25 x0) (ld_r1_25 x1) (ld_r1_25 x2) (ld_r1_25 x3) (ld_r1_25 x4) (ld_r1_25 x5) (ld_r1_25 x6) (ld_r1_6 x7) (ld_r1_7 x7) x y (by omega) (by omega) (by omega)
  · exact tile_piece x0 x1 x2 x3 x4 x5 x6 x7 2 3 (by omega) _ _ _ _ _ _ _ _ _ (ld_r1_24 x0) (ld_r1_24 x1) (ld_r1_24 x2) (ld_r1_24 x3) (ld_r1_24 x4) (ld_r1_24 x5) (ld_r1_24 x6) (ld_r1_15 x7) (ld_r1_16 x7) x y (by omega) (by omega) (by omega)
  · exact tile_piece x0 x1 x2 x3 x4 x5 x6 x7 2 2 (by omega) _ _ _ _ _ _ _ _ _ (ld_r1_23 x0) (ld_r1_23 x1) (ld_r1_23 x2) (ld_r1_23 x3) (ld_r1_23 x4) (ld_r1_23 x5) (ld_r1_23 x6) (ld_r1_12 x7) (ld_r1_13 x7) x y (by omega) (by omega) (by omega)
  · exact tile_piece x0 x1 x2 x3 x4 x5 x6 x7 2 1 (by omega) _ _ _ _ _ _ _ _ _ (ld_r1_22 x0) (ld_r1_22 x1) (ld_r1_22 x2) (ld_r1_22 x3) (ld_r1_22 x4) (ld_r1_22 x5) (ld_r1_22 x6) (ld_r1_9 x7) (ld_r1_10 x7) x y (by omega) (by omega) (by omega)
  · exact tile_piece x0 x1 x2 x3 x4 x5 x6 x7 2 0 (by omega) _ _ _ _ _ _ _ _ _ (ld_r1_21 x0) (ld_r1_21 x1) (ld_r1_21 x2) (ld_r1_21 x3) (ld_r1_21 x4) (ld_r1_21 x5) (ld_r1_21 x6) (ld_r1_6 x7) (ld_r1_7 x7) x y (by omega) (by omega) (by omega)
  · exact tile_piece x0 x1 x2 x3 x4 x5 x6 x7 1 3 (by omega) _ _ _ _ _ _ _ _ _ (ld_r1_20 x0) (ld_r1_20 x1) (ld_r1_20 x2) (ld_r1_20 x3) (ld_r1_20 x4) (ld_r1_20 x5) (ld_r1_20 x6) (ld_r1_15 x7) (ld_r1_16 x7) x y (by omega) (by omega) (by omega)
  · exact tile_piece x0 x1 x2 x3 x4 x5 x6 x7 1 2 (by omega) _ _ _ _ _ _ _ _ _ (ld_r1_19 x0) (ld_r1_19 x1) (ld_r1_19 x2) (ld_r1_19 x3) (ld_r1_19 x4) (ld_r1_19 x5) (ld_r1_19 x6) (ld_r1_12 x7) (ld_r1_13 x7) x y (by omega) (by omega) (by omega)
  · exact tile_piece x0 x1 x2 x3 x4 x5 x6 x7 1 1 (by omega) _ _ _ _ _ _ _ _ _ (ld_r1_18 x0) (ld_r1_18 x1) (ld_r1_18 x2) (ld_r1_18 x3) (ld_r1_18 x4) (ld_r1_18 x5) (ld_r1_18 x6) (ld_r1_9 x7) (ld_r1_10 x7) x y (by omega) (by omega) (by omega)
  · exact tile_piece x0 x1 x2 x3 x4 x5 x6 x7 1 0 (by omega) _ _ _ _ _ _ _ _ _ (ld_r1_17 x0) (ld_r1_17 x1) (ld_r1_17 x2) (ld_r1_17 x3) (ld_r1_17 x4) (ld_r1_17 x5) (ld_r1_17 x6) (ld_r1_6 x7) (ld_r1_7 x7) x y (by omega) (by omega) (by omega)
  · exact tile_piece x0 x1 x2 x3 x4 x5 x6 x7 0 3 (by omega) _ _ _ _ _ _ _ _ _ (ld_r1_14 x0) (ld_r1_14 x1) (ld_r1_14 x2) (ld_r1_14 x3) (ld_r1_14 x4) (ld_r1_14 x5) (ld_r1_14 x6) (ld_r1_15 x7) (ld_r1_16 x7) x y (by omega) (by omega) (by omega)
  · exact tile_piece x0 x1 x2 x3 x4 x5 x6 x7 0 2 (by omega) _ _ _ _ _ _ _ _ _ (ld_r1_11 x0) (ld_r1_11 x1) (ld_r1_11 x2) (ld_r1_11 x3) (ld_r1_11 x4) (ld_r1_11 x5) (ld_r1_11 x6) (ld_r1_12 x7) (ld_r1_13 x7) x y (by omega) (by omega) (by omega)
  · exact tile_piece x0 x1 x2 x3 x4 x5 x6 x7 0 1 (by omega) _ _ _ _ _ _ _ _ _ (ld_r1_8 x0) (ld_r1_8 x1) (ld_r1_8 x2) (ld_r1_8 x3) (ld_r1_8 x4) (ld_r1_8 x5) (ld_r1_8 x6) (ld_r1_9 x7) (ld_r1_10 x7) x y (by omega) (by omega) (by omega)
  · exact tile_piece x0 x1 x2 x3 x4 x5 x6 x7 0 0 (by omega) _ _ _ _ _ _ _ _ _ (ld_r1_5 x0) (ld_r1_5 x1) (ld_r1_5 x2) (ld_r1_5 x3) (ld_r1_5 x4) (ld_r1_5 x5) (ld_r1_5 x6) (ld_r1_6 x7) (ld_r1_7 x7) x y (by omega) (by omega) (by omega)

end Cert.Kernel5Ideal.Na

end
-- ==== Proof.NbBias.lean ====
/- Layer 1. The bias table, entry by entry. -/
module

public import proofs.«01_k».proof.Proof.NbPoint
public import proofs.«01_k».proof.Proof.NaBias

@[expose] public section
set_option maxRecDepth 16384
noncomputable section

namespace Cert.Kernel5Ideal.Na
open Idealize.ShloMosaic Idealize.ShloMosaic.TcCoe Idealize.SL.Sem
open Cert.Kernel5Ideal Cert.Kernel5Ideal.Gen
open NaRow

/-- One row of a head's rotated bias rows. -/
def row (x0 : Vec Ideal S1x1x15x128 .f32) (d : Fin 15) : Vec Ideal S1x1x1x128 .f32 := fun i => x0 (ix4 0 0 d (i 3))

theorem ld_row_0 (x0 : Vec Ideal S1x1x15x128 .f32) : View.ld x0 r0_82 = row x0 0 := by
  funext i
  idx_vars i
  pointwise [row]

theorem ld_row_1 (x0 : Vec Ideal S1x1x15x128 .f32) : View.ld x0 r0_75 = row x0 1 := by
  funext i
  idx_vars i
  pointwise [row]

theorem ld_row_2 (x0 : Vec Ideal S1x1x15x128 .f32) : View.ld x0 r0_68 = row x0 2 := by
  funext i
  idx_vars i
  pointwise [row]

theorem ld_row_3 (x0 : Vec Ideal S1x1x15x128 .f32) : View.ld x0 r0_35 = row x0 3 := by
  funext i
  idx_vars i
  pointwise [row]

theorem ld_row_4 (x0 : Vec Ideal S1x1x15x128 .f32) : View.ld x0 r0_28 = row x0 4 := by
  funext i
  idx_vars i
  pointwise [row]

theorem ld_row_5 (x0 : Vec Ideal S1x1x15x128 .f32) : View.ld x0 r0_21 = row x0 5 := by
  funext i
  idx_vars i
  pointwise [row]

theorem ld_row_6 (x0 : Vec Ideal S1x1x15x128 .f32) : View.ld x0 r0_14 = row x0 6 := by
  funext i
  idx_vars i
  pointwise [row]

theorem ld_row_7 (x0 : Vec Ideal S1x1x15x128 .f32) : View.ld x0 r0_0 = row x0 7 := by
  funext i
  idx_vars i
  pointwise [row]

theorem ld_row_8 (x0 : Vec Ideal S1x1x15x128 .f32) : View.ld x0 r0_1 = row x0 8 := by
  funext i
  idx_vars i
  pointwise [row]

theorem ld_row_9 (x0 : Vec Ideal S1x1x15x128 .f32) : View.ld x0 r0_3 = row x0 9 := by
  funext i
  idx_vars i
  pointwise [row]

theorem ld_row_10 (x0 : Vec Ideal S1x1x15x128 .f32) : View.ld x0 r0_4 = row x0 10 := by
  funext i
  idx_vars i
  pointwise [row]

theorem ld_row_11 (x0 : Vec Ideal S1x1x15x128 .f32) : View.ld x0 r0_6 = row x0 11 := by
  funext i
  idx_vars i
  pointwise [row]

theorem ld_row_12 (x0 : Vec Ideal S1x1x15x128 .f32) : View.ld x0 r0_7 = row x0 12 := by
  funext i
  idx_vars i
  pointwise [row]

theorem ld_row_13 (x0 : Vec Ideal S1x1x15x128 .f32) : View.ld x0 r0_9 = row x0 13 := by
  funext i
  idx_vars i
  pointwise [row]

theorem ld_row_14 (x0 : Vec Ideal S1x1x15x128 .f32) : View.ld x0 r0_10 = row x0 14 := by
  funext i
  idx_vars i
  pointwise [row]

/-- An entry of the bias table. -/
def entry (x0 : Vec Ideal S1x1x15x128 .f32) (cls r j : ℕ) : EReal :=
  strip ((geom cls (r / 64) (j / 64)).map (row x0)) ⟨r % 64, by omega⟩ ⟨j % 64, by omega⟩

theorem pair_at (x0 : Vec Ideal S1x1x15x128 .f32) (a b : Option (Fin 15)) (cls ri m : ℕ)
    (ea : geom cls ri (2 * m) = a) (eb : geom cls ri (2 * m + 1) = b) (x : S1x1x1x64x128.Idx) (y : S1x3x1x256x768.Idx)
    (h1 : (y 1).val = cls) (h3 : (y 3).val = 64 * ri + (x 3).val) (h4 : (y 4).val = 128 * m + (x 4).val) :
    pair (F := Ideal) (a.map (row x0)) (b.map (row x0)) x = entry x0 (y 1).val (y 3).val (y 4).val := by
  obtain ⟨u, v, w, r, l, rfl⟩ : ∃ (u v w : Fin 1) (r : Fin 64) (l : Fin 128), x = ix5 u v w r l :=
    ⟨x 0, x 1, x 2, x 3, x 4, eq_ix5 x⟩
  have h3' : (y 3).val = 64 * ri + r.val := h3
  have h4' : (y 4).val = 128 * m + l.val := h4
  have e3 : (y 3).val / 64 = ri := by omega
  unfold entry
  by_cases hl : l.val < 64
  · have e4 : (y 4).val / 64 = 2 * m := by omega
    rw [h1, e3, e4, ea]
    have p := pair_left (a.map (row x0)) (b.map (row x0)) u v w r ⟨l.val, hl⟩
    refine Eq.trans p ?_
    congr 1 <;> (apply Fin.ext; simp only []; omega)
  · have e4 : (y 4).val / 64 = 2 * m + 1 := by omega
    rw [h1, e3, e4, eb]
    have hl' : l.val - 64 < 64 := by omega
    have p := pair_right (a.map (row x0)) (b.map (row x0)) u v w r ⟨l.val - 64, hl'⟩
    have el : l = ⟨64 + (⟨l.val - 64, hl'⟩ : Fin 64).val, by simp only []; omega⟩ := by apply Fin.ext; simp only []; omega
    rw [← el] at p
    refine Eq.trans p ?_
    congr 1 <;> (apply Fin.ext; simp only []; omega)

theorem table_at (x0 : Vec Ideal S1x1x15x128 .f32) :
    table x0 = fun y => entry x0 (y 1).val (y 3).val (y 4).val := by
  funext y
  unfold table
  simp only [ld_row_0, ld_row_1, ld_row_2, ld_row_3, ld_row_4, ld_row_5, ld_row_6, ld_row_7, ld_row_8, ld_row_9, ld_row_10, ld_row_11, ld_row_12, ld_row_13, ld_row_14]
  canon_tiles x h
  · exact pair_at x0 (some 6) (some 7) 2 3 5 (by decide) (by decide) x y (by omega) (by omega) (by omega)
  · exact pair_at x0 (some 4) (some 5) 2 3 4 (by decide) (by decide) x y (by omega) (by omega) (by omega)
  · exact pair_at x0 (some 2) (some 3) 2 3 3 (by decide) (by decide) x y (by omega) (by omega) (by omega)
  · exact pair_at x0 (some 0) (some 1) 2 3 2 (by decide) (by decide) x y (by omega) (by omega) (by omega)
  · exact pair_at x0 none none 2 3 1 (by decide) (by decide) x y (by omega) (by omega) (by omega)
  · exact pair_at x0 none none 2 3 0 (by decide) (by decide) x y (by omega) (by omega) (by omega)
  · exact pair_at x0 (some 7) (some 8) 2 2 5 (by decide) (by decide) x y (by omega) (by omega) (by omega)
  · exact pair_at x0 (some 5) (some 6) 2 2 4 (by decide) (by decide) x y (by omega) (by omega) (by omega)
  · exact pair_at x0 (some 3) (some 4) 2 2 3 (by decide) (by decide) x y (by omega) (by omega) (by omega)
  · exact pair_at x0 (some 1) (some 2) 2 2 2 (by decide) (by decide) x y (by omega) (by omega) (by omega)
  · exact pair_at x0 none none 2 2 1 (by decide) (by decide) x y (by omega) (by omega) (by omega)
  · exact pair_at x0 none none 2 2 0 (by decide) (by decide) x y (by omega) (by omega) (by omega)
  · exact pair_at x0 (some 8) (some 9) 2 1 5 (by decide) (by decide) x y (by omega) (by omega) (by omega)
  · exact pair_at x0 (some 6) (some 7) 2 1 4 (by decide) (by decide) x y (by omega) (by omega) (by omega)
  · exact pair_at x0 (some 4) (some 5) 2 1 3 (by decide) (by decide) x y (by omega) (by omega) (by omega)
  · exact pair_at x0 (some 2) (some 3) 2 1 2 (by decide) (by decide) x y (by omega) (by omega) (by omega)
  · exact pair_at x0 none none 2 1 1 (by decide) (by decide) x y (by omega) (by omega) (by omega)
  · exact pair_at x0 none none 2 1 0 (by decide) (by decide) x y (by omega) (by omega) (by omega)
  · exact pair_at x0 (some 9) (some 10) 2 0 5 (by decide) (by decide) x y (by omega) (by omega) (by omega)
  · exact pair_at x0 (some 7) (some 8) 2 0 4 (by decide) (by decide) x y (by omega) (by omega) (by omega)
  · exact pair_at x0 (some 5) (some 6) 2 0 3 (by decide) (by decide) x y (by omega) (by omega) (by omega)
  · exact pair_at x0 (some 3) (some 4) 2 0 2 (by decide) (by decide) x y (by omega) (by omega) (by omega)
  · exact pair_at x0 none none 2 0 1 (by decide) (by decide) x y (by omega) (by omega) (by omega)
  · exact pair_at x0 none none 2 0 0 (by decide) (by decide) x y (by omega) (by omega) (by omega)
  · exact pair_at x0 (some 10) none 1 3 5 (by decide) (by decide) x y (by omega) (by omega) (by omega)
  · exact pair_at x0 (some 8) (some 9) 1 3 4 (by decide) (by decide) x y (by omega) (by omega) (by omega)
  · exact pair_at x0 (some 6) (some 7) 1 3 3 (by decide) (by decide) x y (by omega) (by omega) (by omega)
  · exact pair_at x0 (some 4) (some 5) 1 3 2 (by decide) (by decide) x y (by omega) (by omega) (by omega)
  · exact pair_at x0 none (some 3) 1 3 1 (by decide) (by decide) x y (by omega) (by omega) (by omega)
  · exact pair_at x0 none none 1 3 0 (by decide) (by decide) x y (by omega) (by omega) (by omega)
  · exact pair_at x0 none none 1 2 5 (by decide) (by decide) x y (by omega) (by omega) (by omega)
  · exact pair_at x0 (some 9) (some 10) 1 2 4 (by decide) (by decide) x y (by omega) (by omega) (by omega)
  · exact pair_at x0 (some 7) (some 8) 1 2 3 (by decide) (by decide) x y (by omega) (by omega) (by omega)
  · exact pair_at x0 (some 5) (some 6) 1 2 2 (by decide) (by decide) x y (by omega) (by omega) (by omega)
  · exact pair_at x0 (some 3) (some 4) 1 2 1 (by decide) (by decide) x y (by omega) (by omega) (by omega)
  · exact pair_at x0 none none 1 2 0 (by decide) (by decide) x y (by omega) (by omega) (by omega)
  · exact pair_at x0 none none 1 1 5 (by decide) (by decide) x y (by omega) (by omega) (by omega)
  · exact pair_at x0 (some 10) none 1 1 4 (by decide) (by decide) x y (by omega) (by omega) (by omega)
  · exact pair_at x0 (some 8) (some 9) 1 1 3 (by decide) (by decide) x y (by omega) (by omega) (by omega)
  · exact pair_at x0 (some 6) (some 7) 1 1 2 (by decide) (by decide) x y (by omega) (by omega) (by omega)
  · exact pair_at x0 (some 4) (some 5) 1 1 1 (by decide) (by decide) x y (by omega) (by omega) (by omega)
  · exact pair_at x0 none (some 3) 1 1 0 (by decide) (by decide) x y (by omega) (by omega) (by omega)
  · exact pair_at x0 none none 1 0 5 (by decide) (by decide) x y (by omega) (by omega) (by omega)
  · exact pair_at x0 none none 1 0 4 (by decide) (by decide) x y (by omega) (by omega) (by omega)
  · exact pair_at x0 (some 9) (some 10) 1 0 3 (by decide) (by decide) x y (by omega) (by omega) (by omega)
  · exact pair_at x0 (some 7) (some 8) 1 0 2 (by decide) (by decide) x y (by omega) (by omega) (by omega)
  · exact pair_at x0 (some 5) (some 6) 1 0 1 (by decide) (by decide) x y (by omega) (by omega) (by omega)
  · exact pair_at x0 (some 3) (some 4) 1 0 0 (by decide) (by decide) x y (by omega) (by omega) (by omega)
  · exact pair_at x0 none none 0 3 5 (by decide) (by decide) x y (by omega) (by omega) (by omega)
  · exact pair_at x0 none none 0 3 4 (by decide) (by decide) x y (by omega) (by omega) (by omega)
  · exact pair_at x0 (some 10) (some 11) 0 3 3 (by decide) (by decide) x y (by omega) (by omega) (by omega)
  · exact pair_at x0 (some 8) (some 9) 0 3 2 (by decide) (by decide) x y (by omega) (by omega) (by omega)
  · exact pair_at x0 (some 6) (some 7) 0 3 1 (by decide) (by decide) x y (by omega) (by omega) (by omega)
  · exact pair_at x0 (some 4) (some 5) 0 3 0 (by decide) (by decide) x y (by omega) (by omega) (by omega)
  · exact pair_at x0 none none 0 2 5 (by decide) (by decide) x y (by omega) (by omega) (by omega)
  · exact pair_at x0 none none 0 2 4 (by decide) (by decide) x y (by omega) (by omega) (by omega)
  · exact pair_at x0 (some 11) (some 12) 0 2 3 (by decide) (by decide) x y (by omega) (by omega) (by omega)
  · exact pair_at x0 (some 9) (some 10) 0 2 2 (by decide) (by decide) x y (by omega) (by omega) (by omega)
  · exact pair_at x0 (some 7) (some 8) 0 2 1 (by decide) (by decide) x y (by omega) (by omega) (by omega)
  · exact pair_at x0 (some 5) (some 6) 0 2 0 (by decide) (by decide) x y (by omega) (by omega) (by omega)
  · exact pair_at x0 none none 0 1 5 (by decide) (by decide) x y (by omega) (by omega) (by omega)
  · exact pair_at x0 none none 0 1 4 (by decide) (by decide) x y (by omega) (by omega) (by omega)
  · exact pair_at x0 (some 12) (some 13) 0 1 3 (by decide) (by decide) x y (by omega) (by omega) (by omega)
  · exact pair_at x0 (some 10) (some 11) 0 1 2 (by decide) (by decide) x y (by omega) (by omega) (by omega)
  · exact pair_at x0 (some 8) (some 9) 0 1 1 (by decide) (by decide) x y (by omega) (by omega) (by omega)
  · exact pair_at x0 (some 6) (some 7) 0 1 0 (by decide) (by decide) x y (by omega) (by omega) (by omega)
  · exact pair_at x0 none none 0 0 5 (by decide) (by decide) x y (by omega) (by omega) (by omega)
  · exact pair_at x0 none none 0 0 4 (by decide) (by decide) x y (by omega) (by omega) (by omega)
  · exact pair_at x0 (some 13) (some 14) 0 0 3 (by decide) (by decide) x y (by omega) (by omega) (by omega)
  · exact pair_at x0 (some 11) (some 12) 0 0 2 (by decide) (by decide) x y (by omega) (by omega) (by omega)
  · exact pair_at x0 (some 9) (some 10) 0 0 1 (by decide) (by decide) x y (by omega) (by omega) (by omega)
  · exact pair_at x0 (some 7) (some 8) 0 0 0 (by decide) (by decide) x y (by omega) (by omega) (by omega)

end Cert.Kernel5Ideal.Na

end
-- ==== Proof.NbRun.lean ====
/- Layer 1. The neighbourhood attention program's run: every buffer ends at what its two regions and the host operations leave. -/
module

public import proofs.«01_k».proof.Proof.Gen.Kernel5Ideal.Frame

@[expose] public section
set_option maxRecDepth 16384
noncomputable section

namespace Cert.Kernel5Ideal.Na
open Idealize.ShloMosaic Idealize.ShloMosaic.TcCoe Idealize.SL.Sem Idealize.SL Idealize.SL.BI
open Cert.Kernel5Ideal Cert.Kernel5Ideal.Gen

open Idealize.SL.RA Idealize.ShloMosaic.Tactic
open scoped Idealize.SL.BI
open Idealize.SL.BI.BIBase Idealize.SL.BI.Laws Idealize.SL.ProofMode
open Idealize.ShloMosaic.Rounds
open Idealize.ShloMosaic.Pipeline (Dat Cfg Window BodyObligation cellOf)

variable {F : FTy → Type} [FloatOps F] [Named F]
local notation "𝕄" => MT nD τ sig Unit (Elt F) ℕ (UR sig nD τ) ℕ
variable (m : (ℓ : Loc nD τ sig) → Buf (Elt F) ℓ) (ρ : Dev nD → PrngReg)

-- the kit's implicit arguments are found by unifying its conclusion, unfolding plain definitions
set_option backward.isDefEq.respectTransparency.types false in
/-- Every unscoped buffer after the run holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h _ => h)

/-- The results and the arguments after the run. -/
theorem run_vals : θ_run defs (onTc (τ := τ) (main (F := F))) ⟨m, fun _ => 0, ρ⟩ (fun r => ∀ c : Dev nD,
      r.2.mem ((c.tc : Thread nD τ).loc main_v10_0) = W8 m ρ c (Proc.devRef .tc main_v10_0)
      ∧ r.2.mem ((c.tc : Thread nD τ).loc main_v4) = W8 m ρ c (Proc.devRef .tc main_v4)
      ∧ r.2.mem ((c.tc : Thread nD τ).loc main_v11) = W8 m ρ c (Proc.devRef .tc main_v11)
      ∧ r.2.mem ((c.tc : Thread nD τ).loc main_v12) = W8 m ρ c (Proc.devRef .tc main_v12)
      ∧ r.2.mem ((c.tc : Thread nD τ).loc main_v13) = W8 m ρ c (Proc.devRef .tc main_v13)
      ∧ r.2.mem ((c.tc : Thread nD τ).loc main_v14) = W8 m ρ c (Proc.devRef .tc main_v14)
      ∧ r.2.mem ((c.tc : Thread nD τ).loc main_v15) = W8 m ρ c (Proc.devRef .tc main_v15)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => by
    have k (b : Ref sig .tc) (hb : ¬ (Proc.devRef .tc b : DevRef τ sig).isScoped) :
        r.2.mem ((c.tc : Thread nD τ).loc b) = W8 m ρ c (Proc.devRef .tc b) := h c _ (mem_uc b hb)
    exact ⟨k _ (by decide), k _ (by decide), k _ (by decide), k _ (by decide), k _ (by decide), k _ (by decide), k _ (by decide),
      (k _ (by decide)).trans (W8_main_arg0 m ρ c), (k _ (by decide)).trans (W8_main_arg1 m ρ c), (k _ (by decide)).trans (W8_main_arg2 m ρ c),
      (k _ (by decide)).trans (W8_main_arg3 m ρ c), (k _ (by decide)).trans (W8_main_arg4 m ρ c), (k _ (by decide)).trans (W8_main_arg5 m ρ c),
      (k _ (by decide)).trans (W8_main_arg6 m ρ c), (k _ (by decide)).trans (W8_main_arg7 m ρ c)⟩) (run_all m ρ)

end Cert.Kernel5Ideal.Na
-- ==== Proof.NbHost.lean ====
/- Layer 1. The bias-table region of the neighbourhood attention program: its arguments, its table and its cast weights. -/
module

public import proofs.«01_k».proof.Proof.NbBias
public import proofs.«01_k».proof.Proof.NbRun
public import Idealize.ShloMosaic.Lib.Claim

@[expose] public section
set_option maxRecDepth 16384
noncomputable section

namespace Cert.Kernel5Ideal.Na
open Idealize.ShloMosaic Idealize.ShloMosaic.TcCoe Idealize.SL.Sem
open Cert.Kernel5Ideal Cert.Kernel5Ideal.Gen
variable (m : (ℓ : Loc nD τ sig) → Buf (Elt Ideal) ℓ) (ρ : Dev nD → PrngReg)

/-- The relative-position biases padded to 128 lanes. -/
def padded (x : Vec Ideal S2x8x15x31 .f32) : Vec Ideal S2x8x15x128 .f32 :=
  pad S2x8x15x128 ![0, 0, 0, 0] ![0, 0, 0, 97] ![0, 0, 0, 0] x (constant S_ .f32 0xF149F2CA#32 : FVec Ideal S_ .f32) pads_S2x8x15x31_S2x8x15x128_000_000_000_0970 h_S_

/-- The padded biases rotated so that offset zero is lane zero. -/
def lanes (x : Vec Ideal S2x8x15x31 .f32) : Vec Ideal S2x8x15x128 .f32 :=
  concatenate S2x8x15x128 3 [⟨S2x8x15x113, extractStridedSlice S2x8x15x113 ![0, 0, 0, 15] (padded x) slices_S2x8x15x128_S2x8x15x113_0_0_0_15⟩,
    ⟨S2x8x15x15, extractStridedSlice S2x8x15x15 ![0, 0, 0, 0] (padded x) slices_S2x8x15x128_S2x8x15x15_0_0_0_0⟩] concatenates_S2x8x15x113_S2x8x15x15_S2x8x15x128_d3

theorem padded_at (x : Vec Ideal S2x8x15x31 .f32) (L : Fin 2) (h : Fin 8) (d : Fin 15) (l : Fin 128) (hl : l.val < 31) :
    padded x (ix4 L h d l) = x (ix4 L h d ⟨l.val, hl⟩) := by
  pointwise [padded]
  rw [dif_pos (by omega)]

theorem lanes_at (x : Vec Ideal S2x8x15x31 .f32) (L : Fin 2) (h : Fin 8) (d : Fin 15) (l : Fin 128) (hl : l.val < 16 ∨ 113 ≤ l.val) :
    lanes x (ix4 L h d l) = x (ix4 L h d ⟨(l.val + 15) % 128, by omega⟩) := by
  have e := padded_at x L h d ⟨(l.val + 15) % 128, by omega⟩ (by simp only []; omega)
  rw [← e]
  unfold lanes
  generalize padded x = w
  by_cases h1 : l.val < 113
  · pointwise []
    rw [dif_pos h1]
    blk_ext
  · pointwise []
    rw [dif_neg h1]
    blk_ext

theorem V4_lanes (c : Dev nD) : (V4 m ρ c main_v1 : Vec Ideal S2x8x15x128 .f32) = lanes (m ((c : Thread nD τ).loc main_arg1)) := by
  show StableHlo.after hostOps0_3 (StableHlo.after hostOps0_2 (StableHlo.after hostOps0_1 (StableHlo.after hostOps0 (W0 m ρ c)))) (Proc.devRef .tc main_v1) = _
  entry_read
  rfl

theorem V4_slabs (c : Dev nD) (L : Fin 32) (h : Fin 64) (d : Fin 5120) : (V4 m ρ c main_v2 : Vec Ideal S32x64x5120 .f32) (ix3 L h d)
    = (m ((c : Thread nD τ).loc main_arg2) : Vec Ideal S2x1024x5120 .f32) (ix3 ⟨L.val / 16, by omega⟩ ⟨L.val % 16 * 64 + h.val, by omega⟩ d) := by
  show StableHlo.after hostOps0_3 (StableHlo.after hostOps0_2 (StableHlo.after hostOps0_1 (StableHlo.after hostOps0 (W0 m ρ c)))) (Proc.devRef .tc main_v2) _ = _
  entry_read
  pointwise []

/-- The windows' block indices at every grid point. -/
theorem idx0 : ∀ t : Fin cfg0.N, win0_0.index t = ![t.val / 8, t.val % 8, 0, 0] ∧ win0_1.index t = ![t.val, 0, 0]
    ∧ win0_2.index t = ![t.val / 8, 0, t.val % 8, 0, 0] ∧ win0_3.index t = ![t.val, 0, 0] ∧ t.val < 16 :=
  (by decide +kernel : ∀ t : Fin grid0.N, _)

/-- One head's rotated bias rows. -/
def headRows (x : Vec Ideal S2x8x15x31 .f32) (L : Fin 2) (h : Fin 8) : Vec Ideal S1x1x15x128 .f32 := fun i => lanes x (ix4 L h (i 2) (i 3))

theorem blk0_0 (c : Dev nD) (t : Fin cfg0.N) : (iblk0 (V4 m ρ) c 0 t : Vec Ideal S1x1x15x128 .f32)
    = headRows (m ((c : Thread nD τ).loc main_arg1)) ⟨t.val / 8, by have := (idx0 t).2.2.2.2; omega⟩ ⟨t.val % 8, by omega⟩ := by
  unfold headRows
  rw [← V4_lanes m ρ c]
  funext i
  idx_vars i
  blk_point [iblk0, idx0 t]

/-- The bias table after its region. -/
theorem table_final (c : Dev nD) : ((dat0 (V4 m ρ) c).arrAt 2 cfg0.N : Vec Ideal S2x3x8x256x768 .f32)
    = fun y => entry (headRows (m ((c : Thread nD τ).loc main_arg1)) (y 0) (y 2)) (y 1).val (y 3).val (y 4).val := by
  refine (dat0 (V4 m ρ) c).arrAt_eq_of_covers 2 _ (by decide +kernel) fun t _ y => ?_
  blk_simp
  rw [after0_2, out0_2_eq, table_at, blk0_0]
  idx_vars y
  congr 1
  · congr 1 <;> (apply Fin.ext; blk_simp [idx0 t] <;> try omega)
  all_goals blk_ext [idx0 t]

theorem cast_at (x0 : Vec Ideal S1x1x15x128 .f32) (x1 : Vec Ideal S1x64x5120 .f32) : out0_3 (F := Ideal) x0 x1 = x1 := by
  funext y
  unfold out0_3
  canon_tiles x h
  idx_vars x
  idx_vars y
  pointwise [k0_pay1, k0_pay104]
  blk_ext

end Cert.Kernel5Ideal.Na

end
-- ==== Proof.NbAttn.lean ====
/- Layer 1. The attention region's result array, entry by entry. -/
module

public import proofs.«01_k».proof.Proof.NbHeads
public import proofs.«01_k».proof.Proof.NbHost

@[expose] public section
set_option maxRecDepth 16384
noncomputable section

namespace Cert.Kernel5Ideal.Na
open Idealize.ShloMosaic Idealize.ShloMosaic.TcCoe Idealize.SL.Sem
open Cert.Kernel5Ideal Cert.Kernel5Ideal.Gen
open NaRow
variable (m : (ℓ : Loc nD τ sig) → Buf (Elt Ideal) ℓ) (ρ : Dev nD → PrngReg)

/-- A query block's class: the first, an inner one, the last. -/
abbrev cls (n : ℕ) : ℕ := if n = 0 then 0 else if n = 7 then 2 else 1

/-- The windows' block indices at every grid point. -/
theorem idx1 : ∀ t : Fin cfg1.N, win1_0.index t = ![t.val % 2, t.val / 2, 0]
    ∧ win1_1.index t = ![t.val % 2, min 5 (t.val / 2 - 1), 1] ∧ win1_2.index t = ![t.val % 2, min 5 (t.val / 2 - 1) + 1, 1] ∧ win1_3.index t = ![t.val % 2, min 5 (t.val / 2 - 1) + 2, 1]
    ∧ win1_4.index t = ![t.val % 2, min 5 (t.val / 2 - 1), 2] ∧ win1_5.index t = ![t.val % 2, min 5 (t.val / 2 - 1) + 1, 2] ∧ win1_6.index t = ![t.val % 2, min 5 (t.val / 2 - 1) + 2, 2]
    ∧ win1_7.index t = ![1, cls (t.val / 2), 0, 0, 0] ∧ win1_13.index t = ![t.val % 2, t.val / 2, 0] ∧ t.val < 16 :=
  (by decide +kernel : ∀ t : Fin grid1.N, _)

theorem V6_arg0 (c : Dev nD) : V6 m ρ c main_arg0 = m ((c : Thread nD τ).loc main_arg0) := W6_args m ρ c main_arg0 (by decide)

theorem V6_table (c : Dev nD) : (V6 m ρ c main_v3_0 : Vec Ideal S2x3x8x256x768 .f32)
    = fun y => entry (headRows (m ((c : Thread nD τ).loc main_arg1)) (y 0) (y 2)) (y 1).val (y 3).val (y 4).val :=
  (W6_of m ρ c main_v3_0 (by decide)).trans ((W5_arr m ρ c 2).trans (table_final m ρ c))

/-- The attention's result from the queries, keys and values and the biases. -/
def attn (x : Vec Ideal S8x2048x3072 .bf16) (rpb : Vec Ideal S2x8x15x31 .f32) (b : Fin 8) (p : Fin 2048) (e : Fin 512) : EReal :=
  att (fun j : Fin 768 => (∑ a : Fin 64, x (ix3 b p ⟨64 * (e.val / 64) + a.val, by omega⟩) * ((1 / 8 : ℝ) : EReal)
        * x (ix3 b ⟨256 * min 5 (p.val / 256 - 1) + j.val, by omega⟩ ⟨512 + (64 * (e.val / 64) + a.val), by omega⟩))
      + entry (headRows rpb 1 ⟨e.val / 64, by omega⟩) (cls (p.val / 256)) (p.val % 256) j.val)
    (fun j => x (ix3 b ⟨256 * min 5 (p.val / 256 - 1) + j.val, by omega⟩ ⟨1024 + e.val, by omega⟩))

theorem blkq (c : Dev nD) (t : Fin cfg1.N) (bi : Fin 4) (r : Fin 256) (e : Fin 512) :
    (iblk1 (V6 m ρ) c 0 t : Vec Ideal S4x256x512 .bf16) (ix3 bi r e)
      = (m ((c : Thread nD τ).loc main_arg0) : Vec Ideal S8x2048x3072 .bf16) (ix3 ⟨4 * (t.val % 2) + bi.val, by omega⟩ ⟨256 * (t.val / 2) + r.val, by have := (idx1 t).2.2.2.2.2.2.2.2.2; omega⟩ ⟨e.val, by omega⟩) := by
  rw [← V6_arg0 m ρ c]
  blk_point [iblk1, idx1 t]

theorem blkk (c : Dev nD) (t : Fin cfg1.N) (bi : Fin 4) (j : Fin 768) (e : Fin 512) :
    win4 (iblk1 (V6 m ρ) c 1 t) (iblk1 (V6 m ρ) c 2 t) (iblk1 (V6 m ρ) c 3 t) bi j e
      = (m ((c : Thread nD τ).loc main_arg0) : Vec Ideal S8x2048x3072 .bf16) (ix3 ⟨4 * (t.val % 2) + bi.val, by omega⟩ ⟨256 * min 5 (t.val / 2 - 1) + j.val, by omega⟩ ⟨512 + e.val, by omega⟩) := by
  rw [← V6_arg0 m ρ c]
  unfold win4
  blk_point [iblk1, idx1 t]

theorem blkv (c : Dev nD) (t : Fin cfg1.N) (bi : Fin 4) (j : Fin 768) (e : Fin 512) :
    win4 (iblk1 (V6 m ρ) c 4 t) (iblk1 (V6 m ρ) c 5 t) (iblk1 (V6 m ρ) c 6 t) bi j e
      = (m ((c : Thread nD τ).loc main_arg0) : Vec Ideal S8x2048x3072 .bf16) (ix3 ⟨4 * (t.val % 2) + bi.val, by omega⟩ ⟨256 * min 5 (t.val / 2 - 1) + j.val, by omega⟩ ⟨1024 + e.val, by omega⟩) := by
  rw [← V6_arg0 m ρ c]
  unfold win4
  blk_point [iblk1, idx1 t]

theorem blkb (c : Dev nD) (t : Fin cfg1.N) (h : Fin 8) (r : Fin 256) (j : Fin 768) :
    (iblk1 (V6 m ρ) c 7 t : Vec Ideal S1x1x8x256x768 .f32) (ix5 0 0 h r j)
      = entry (headRows (m ((c : Thread nD τ).loc main_arg1)) 1 h) (cls (t.val / 2)) r.val j.val := by
  have e : (iblk1 (V6 m ρ) c 7 t : Vec Ideal S1x1x8x256x768 .f32) (ix5 0 0 h r j)
      = (V6 m ρ c main_v3_0 : Vec Ideal S2x3x8x256x768 .f32) (ix5 1 ⟨cls (t.val / 2), by unfold cls; split_ifs <;> omega⟩ h r j) := by
    blk_point [iblk1, idx1 t]
  rw [e, V6_table]
  rfl

/-- The attention's result array after the run. -/
theorem attn_final (c : Dev nD) : ((dat1 (V6 m ρ) c).arrAt 13 cfg1.N : Vec Ideal S8x2048x512 .bf16)
    = fun y => attn (m ((c : Thread nD τ).loc main_arg0)) (m ((c : Thread nD τ).loc main_arg1)) (y 0) (y 1) (y 2) := by
  refine (dat1 (V6 m ρ) c).arrAt_eq_of_covers 13 _ (by decide +kernel) fun t _ y => ?_
  blk_simp
  rw [after1_13, out1_13_eq, heads_at]
  obtain ⟨bi, r, e, rfl⟩ : ∃ (bi : Fin 4) (r : Fin 256) (e : Fin 512), y = ix3 bi r e := ⟨y 0, y 1, y 2, eq_ix3 y⟩
  have ht := (idx1 t).2.2.2.2.2.2.2.2.2
  have e0 : (⟨4 * (t.val % 2) + bi.val, by omega⟩ : Fin 8) = (win1_13.blk t).view.emb (ix3 bi r e) 0 := by
    apply Fin.ext; blk_simp [idx1 t] <;> (try simp only []) <;> try omega
  have e1 : (⟨256 * (t.val / 2) + r.val, by omega⟩ : Fin 2048) = (win1_13.blk t).view.emb (ix3 bi r e) 1 := by
    apply Fin.ext; blk_simp [idx1 t] <;> (try simp only []) <;> try omega
  have e2 : (⟨e.val, by omega⟩ : Fin 512) = (win1_13.blk t).view.emb (ix3 bi r e) 2 := by
    apply Fin.ext; blk_simp [idx1 t] <;> (try simp only []) <;> try omega
  refine Eq.trans ?_ (congr (congrArg₂ (attn (m ((c : Thread nD τ).loc main_arg0)) (m ((c : Thread nD τ).loc main_arg1))) e0 e1) e2)
  show headsAt _ _ _ _ _ _ _ _ bi r e = _
  unfold headsAt attn
  simp only [blkq, blkk, blkv, blkb]
  have d1 : (256 * (t.val / 2) + r.val) / 256 = t.val / 2 := by omega
  have d2 : (256 * (t.val / 2) + r.val) % 256 = r.val := by omega
  simp only [d1, d2]

end Cert.Kernel5Ideal.Na

end
-- ==== Proof.NbGather.lean ====
/- Layer 1. The reference's gathers and index arithmetic, entry by entry. -/
module

public import proofs.«01_k».proof.Proof.NaRow
public import proofs.«01_k».proof.Proof.Gen.Reference5Ideal.Run

@[expose] public section
set_option maxRecDepth 16384
noncomputable section

namespace Cert.Reference5Ideal.Na
open Idealize.ShloMosaic Idealize.ShloMosaic.TcCoe Idealize.SL.Sem
open Cert.Reference5Ideal Cert.Reference5Ideal.Gen Cert.Reference5Ideal.Value
open NaRow

abbrev gk := gather_S8x32x64x8x64_S32x8x1_S8x32x8x64x8x64_0345_1_n_n_1_2_8164864
abbrev gb := gather_S8x15x31_S32x8x64x64x2_S8x32x8x64x64_0_12_n_n_12_4_811

/-- The gather of whole grid rows. -/
theorem gather_keys {α : Type} (x : S8x32x64x8x64.Idx → α) (idx : IVec S32x8x1 32) (b : Fin 8) (R : Fin 32) (w : Fin 8) (k : Fin 64) (h : Fin 8) (a : Fin 64) :
    Host.gather gk x idx (ix6 b R w k h a) = x (ix5 b ⟨min (idx (ix3 R w 0)).toInt.toNat 31, by omega⟩ k h a) := by
  unfold Host.gather
  refine congrArg x (funext fun i => Fin.ext ?_)
  have hsi : gk.siIdx (ix6 b R w k h a) ⟨0, by decide⟩ = ix3 R w 0 := by
    funext i
    match i with
    | ⟨0, _⟩ => rfl
    | ⟨1, _⟩ => rfl
    | ⟨2, _⟩ => rfl
  show gk.start (ix6 b R w k h a) idx i + gk.batchCoord (ix6 b R w k h a) i + gk.offCoord (ix6 b R w k h a) i = _
  match i with
  | ⟨0, _⟩ => exact Nat.zero_add _
  | ⟨1, _⟩ => show min (idx (gk.siIdx (ix6 b R w k h a) ⟨0, by decide⟩)).toInt.toNat 31 + 0 + 0 = _; rw [hsi]; rfl
  | ⟨2, _⟩ => exact Nat.zero_add _
  | ⟨3, _⟩ => exact Nat.zero_add _
  | ⟨4, _⟩ => exact Nat.zero_add _

/-- The gather of bias entries. -/
theorem gather_bias {α : Type} (x : S8x15x31.Idx → α) (idx : IVec S32x8x64x64x2 32) (h : Fin 8) (R : Fin 32) (w : Fin 8) (c k : Fin 64) :
    Host.gather gb x idx (ix5 h R w c k)
      = x (ix3 h ⟨min (idx (ix5 R w c k 0)).toInt.toNat 14, by omega⟩ ⟨min (idx (ix5 R w c k 1)).toInt.toNat 30, by omega⟩) := by
  unfold Host.gather
  refine congrArg x (funext fun i => Fin.ext ?_)
  have hs0 : gb.siIdx (ix5 h R w c k) ⟨0, by decide⟩ = ix5 R w c k 0 := by
    funext i
    match i with
    | ⟨0, _⟩ => rfl
    | ⟨1, _⟩ => rfl
    | ⟨2, _⟩ => rfl
    | ⟨3, _⟩ => rfl
    | ⟨4, _⟩ => rfl
  have hs1 : gb.siIdx (ix5 h R w c k) ⟨1, by decide⟩ = ix5 R w c k 1 := by
    funext i
    match i with
    | ⟨0, _⟩ => rfl
    | ⟨1, _⟩ => rfl
    | ⟨2, _⟩ => rfl
    | ⟨3, _⟩ => rfl
    | ⟨4, _⟩ => rfl
  show gb.start (ix5 h R w c k) idx i + gb.batchCoord (ix5 h R w c k) i + gb.offCoord (ix5 h R w c k) i = _
  match i with
  | ⟨0, _⟩ => exact Nat.zero_add _
  | ⟨1, _⟩ => show min (idx (gb.siIdx (ix5 h R w c k) ⟨0, by decide⟩)).toInt.toNat 14 + 0 + 0 = _; rw [hs0]; rfl
  | ⟨2, _⟩ => show min (idx (gb.siIdx (ix5 h R w c k) ⟨1, by decide⟩)).toInt.toNat 30 + 0 + 0 = _; rw [hs1]; rfl

section
open StableHlo
variable {F : FTy → Type} [FloatOps F]

/-- `main_v1`'s term of the arguments. -/
def res_main_v1 (V0 : Valuation τ sig (Elt F)) : (Proc.devRef .tc main_v1 : DevRef τ sig).ty.Contents (Elt F) :=
  extf .f32 (extractStridedSlice S8x2048x1536 ![0, 0, 0] (V0 (Proc.devRef .tc main_arg0)) slices_S8x2048x3072_S8x2048x1536_0_0_0) bitsLt_bf16_f32

set_option maxRecDepth 8192 in
/-- `main_v13`'s term of the arguments. -/
def res_main_v13 (V0 : Valuation τ sig (Elt F)) : (Proc.devRef .tc main_v13 : DevRef τ sig).ty.Contents (Elt F) :=
  iotaInDim S32 32 0

set_option maxRecDepth 8192 in
/-- `main_v22`'s term of the arguments. -/
def res_main_v22 (V0 : Valuation τ sig (Elt F)) : (Proc.devRef .tc main_v22 : DevRef τ sig).ty.Contents (Elt F) :=
  addi (broadcastInDim S32x8 ![0, 1] bcast_S32x1_S32x8_0_1 (broadcastInDim S32x1 ![0] bcast_S32_S32x1_0 (minsi (broadcastInDim S32 ![] bcast_S_S32 (id (constantI S_ 32 24#32))) (maxsi (broadcastInDim S32 ![] bcast_S_S32 (id (constantI S_ 32 0#32))) (subi (res_main_v13 V0) (broadcastInDim S32 ![] bcast_S_S32 (constantI S_ 32 4#32))))))) (broadcastInDim S32x8 ![0, 1] bcast_S1x8_S32x8_0_1 (broadcastInDim S1x8 ![1] bcast_S8_S1x8_1 (iotaInDim S8 32 0)))

set_option maxRecDepth 8192 in
/-- `main_v39`'s term of the arguments. -/
def res_main_v39 (V0 : Valuation τ sig (Elt F)) : (Proc.devRef .tc main_v39 : DevRef τ sig).ty.Contents (Elt F) :=
  iotaInDim S64 32 0

set_option maxRecDepth 8192 in
/-- `main_v42`'s term of the arguments. -/
def res_main_v42 (V0 : Valuation τ sig (Elt F)) : (Proc.devRef .tc main_v42 : DevRef τ sig).ty.Contents (Elt F) :=
  minsi (broadcastInDim S64 ![] bcast_S_S64 (id (constantI S_ 32 48#32))) (maxsi (broadcastInDim S64 ![] bcast_S_S64 (id (constantI S_ 32 0#32))) (subi (res_main_v39 V0) (broadcastInDim S64 ![] bcast_S_S64 (constantI S_ 32 8#32))))

set_option maxRecDepth 8192 in
/-- `main_v43`'s term of the arguments. -/
def res_main_v43 (V0 : Valuation τ sig (Elt F)) : (Proc.devRef .tc main_v43 : DevRef τ sig).ty.Contents (Elt F) :=
  broadcastInDim S1x64 ![1] bcast_S64_S1x64_1 (res_main_v39 V0)

set_option maxRecDepth 8192 in
/-- `main_v70`'s term of the arguments. -/
def res_main_v70 (V0 : Valuation τ sig (Elt F)) : (Proc.devRef .tc main_v70 : DevRef τ sig).ty.Contents (Elt F) :=
  broadcastInDim S32x8x1x1 ![0, 1] bcast_S32x8_S32x8x1x1_0_1 (subi (addi (subi (res_main_v22 V0) (broadcastInDim S32x8 ![0, 1] bcast_S32x1_S32x8_0_1 (broadcastInDim S32x1 ![0] bcast_S32_S32x1_0 (res_main_v13 V0)))) (broadcastInDim S32x8 ![] bcast_S_S32x8 (constantI S_ 32 8#32))) (broadcastInDim S32x8 ![] bcast_S_S32x8 (constantI S_ 32 1#32)))

set_option maxRecDepth 8192 in
/-- `main_v75`'s term of the arguments. -/
def res_main_v75 (V0 : Valuation τ sig (Elt F)) : (Proc.devRef .tc main_v75 : DevRef τ sig).ty.Contents (Elt F) :=
  broadcastInDim S1x1x64x64 ![2, 3] bcast_S64x64_S1x1x64x64_2_3 (subi (addi (minsi (broadcastInDim S64x64 ![] bcast_S_S64x64 (id (constantI S_ 32 15#32))) (maxsi (broadcastInDim S64x64 ![] bcast_S_S64x64 (id (constantI S_ 32 4294967281#32))) (subi (broadcastInDim S64x64 ![0, 1] bcast_S1x64_S64x64_0_1 (res_main_v43 V0)) (broadcastInDim S64x64 ![0, 1] bcast_S64x1_S64x64_0_1 (broadcastInDim S64x1 ![0] bcast_S64_S64x1_0 (res_main_v39 V0)))))) (broadcastInDim S64x64 ![] bcast_S_S64x64 (constantI S_ 32 16#32))) (broadcastInDim S64x64 ![] bcast_S_S64x64 (constantI S_ 32 1#32)))

set_option maxRecDepth 8192 in
/-- `main_v100`'s term of the arguments. -/
def res_main_v100 (V0 : Valuation τ sig (Elt F)) : (Proc.devRef .tc main_v100 : DevRef τ sig).ty.Contents (Elt F) :=
  select (broadcastInDim S8x8x32x64x512 ![3, 4] bcast_S64x512_S8x8x32x64x512_3_4 (shapeCast _ (broadcastInDim S1x64x8x64 ![0, 1, 2, 3] bcast_S1x64x1x64_S1x64x8x64_0_1_2_3 (shapeCast _ (andi (cmpi .sge (broadcastInDim S64x64 ![0, 1] bcast_S1x64_S64x64_0_1 (res_main_v43 V0)) (broadcastInDim S64x64 ![0, 1] bcast_S64x1_S64x64_0_1 (broadcastInDim S64x1 ![0] bcast_S64_S64x1_0 (res_main_v42 V0)))) (cmpi .slt (broadcastInDim S64x64 ![0, 1] bcast_S1x64_S64x64_0_1 (res_main_v43 V0)) (broadcastInDim S64x64 ![0, 1] bcast_S64x1_S64x64_0_1 (addi (broadcastInDim S64x1 ![0] bcast_S64_S64x1_0 (res_main_v42 V0)) (broadcastInDim S64x1 ![] bcast_S_S64x1 (constantI S_ 32 16#32)))))) shapeCasts_S64x64_S1x64x1x64)) shapeCasts_S1x64x8x64_S64x512)) (addf (mulf (Host.dotGeneral dot_S8x32x64x8x64_S8x32x512x8x64_S8x8x32x64x512_4_4_2_2_031_031 none (shapeCast _ (shapeCast _ (extractStridedSlice S8x2048x512 ![0, 0, 0] (res_main_v1 V0) slices_S8x2048x1536_S8x2048x512_0_0_0) shapeCasts_S8x2048x512_S8x2048x8x64) shapeCasts_S8x2048x8x64_S8x32x64x8x64) (shapeCast _ (Host.gather gather_S8x32x64x8x64_S32x8x1_S8x32x8x64x8x64_0345_1_n_n_1_2_8164864 (shapeCast _ (shapeCast _ (extractStridedSlice S8x2048x512 ![0, 0, 512] (res_main_v1 V0) slices_S8x2048x1536_S8x2048x512_0_0_512) shapeCasts_S8x2048x512_S8x2048x8x64) shapeCasts_S8x2048x8x64_S8x32x64x8x64) (broadcastInDim S32x8x1 ![0, 1] bcast_S32x8_S32x8x1_0_1 (select (cmpi .slt (res_main_v22 V0) (broadcastInDim S32x8 ![] bcast_S_S32x8 (constantI S_ 32 0#32))) (addi (res_main_v22 V0) (broadcastInDim S32x8 ![] bcast_S_S32x8 (constantI S_ 32 32#32))) (res_main_v22 V0)))) shapeCasts_S8x32x8x64x8x64_S8x32x512x8x64)) (broadcastInDim S8x8x32x64x512 ![] bcast_S_S8x8x32x64x512 (constant S_ .f32 0x3E000000#32))) (broadcastInDim S8x8x32x64x512 ![0, 1, 2, 3, 4] bcast_S1x8x32x64x512_S8x8x32x64x512_0_1_2_3_4 (broadcastInDim S1x8x32x64x512 ![1, 2, 3, 4] bcast_S8x32x64x512_S1x8x32x64x512_1_2_3_4 (shapeCast _ (transpose S8x32x64x8x64 [0, 1, 3, 2, 4] (Host.gather gather_S8x15x31_S32x8x64x64x2_S8x32x8x64x64_0_12_n_n_12_4_811 (shapeCast _ (extractStridedSlice S1x8x15x31 ![1, 0, 0, 0] (V0 (Proc.devRef .tc main_arg1)) slices_S2x8x15x31_S1x8x15x31_1_0_0_0) shapeCasts_S1x8x15x31_S8x15x31) (concatenate S32x8x64x64x2 4 [⟨S32x8x64x64x1, (broadcastInDim S32x8x64x64x1 ![0, 1, 2, 3] bcast_S32x8x64x64_S32x8x64x64x1_0_1_2_3 (broadcastInDim S32x8x64x64 ![0, 1, 2, 3] bcast_S32x8x1x1_S32x8x64x64_0_1_2_3 (select (cmpi .slt (res_main_v70 V0) (broadcastInDim S32x8x1x1 ![] bcast_S_S32x8x1x1 (constantI S_ 32 0#32))) (addi (res_main_v70 V0) (broadcastInDim S32x8x1x1 ![] bcast_S_S32x8x1x1 (constantI S_ 32 15#32))) (res_main_v70 V0))))⟩, ⟨S32x8x64x64x1, (broadcastInDim S32x8x64x64x1 ![0, 1, 2, 3] bcast_S32x8x64x64_S32x8x64x64x1_0_1_2_3 (broadcastInDim S32x8x64x64 ![0, 1, 2, 3] bcast_S1x1x64x64_S32x8x64x64_0_1_2_3 (select (cmpi .slt (res_main_v75 V0) (broadcastInDim S1x1x64x64 ![] bcast_S_S1x1x64x64 (constantI S_ 32 0#32))) (addi (res_main_v75 V0) (broadcastInDim S1x1x64x64 ![] bcast_S_S1x1x64x64 (constantI S_ 32 31#32))) (res_main_v75 V0))))⟩] concatenates_S32x8x64x64x1_S32x8x64x64x1_S32x8x64x64x2_d4)) transposes_S8x32x8x64x64_S8x32x64x8x64_0_1_3_2_4) shapeCasts_S8x32x64x8x64_S8x32x64x512)))) (broadcastInDim S8x8x32x64x512 ![] bcast_S_S8x8x32x64x512 (id (constant S_ .f32 0xFF800000#32)))

set_option maxRecDepth 8192 in
/-- `main_v107`'s term of the arguments. -/
def res_main_v107 (V0 : Valuation τ sig (Elt F)) : (Proc.devRef .tc main_v107 : DevRef τ sig).ty.Contents (Elt F) :=
  Host.exp (subf (res_main_v100 V0) (broadcastInDim S8x8x32x64x512 ![0, 1, 2, 3, 4] bcast_S8x8x32x64x1_S8x8x32x64x512_0_1_2_3_4 (broadcastInDim S8x8x32x64x1 ![0, 1, 2, 3] bcast_S8x8x32x64_S8x8x32x64x1_0_1_2_3 (maximumf (broadcastInDim S8x8x32x64 ![] bcast_S_S8x8x32x64 (constant S_ .f32 0xFF800000#32)) (Host.reduce FloatOps.maximumf (res_main_v100 V0) (constant S_ .f32 0xFF800000#32) reducesTo_S8x8x32x64x512_S8x8x32x64_d4 h_S_)))))

set_option maxRecDepth 8192 in
/-- The attention's term of the arguments. -/
def out115 (V0 : Valuation τ sig (Elt F)) : (Proc.devRef .tc main_v115 : DevRef τ sig).ty.Contents (Elt F) :=
  truncf .bf16 (shapeCast _ (transpose S8x32x64x8x64 [0, 1, 4, 2, 3] (Host.dotGeneral dot_S8x32x512x8x64_S8x8x32x64x512_S8x32x8x64x64_2_4_4_3_013_021 none (shapeCast _ (Host.gather gather_S8x32x64x8x64_S32x8x1_S8x32x8x64x8x64_0345_1_n_n_1_2_8164864 (shapeCast _ (shapeCast _ (extractStridedSlice S8x2048x512 ![0, 0, 1024] (res_main_v1 V0) slices_S8x2048x1536_S8x2048x512_0_0_1024) shapeCasts_S8x2048x512_S8x2048x8x64) shapeCasts_S8x2048x8x64_S8x32x64x8x64) (broadcastInDim S32x8x1 ![0, 1] bcast_S32x8_S32x8x1_0_1 (select (cmpi .slt (res_main_v22 V0) (broadcastInDim S32x8 ![] bcast_S_S32x8 (constantI S_ 32 0#32))) (addi (res_main_v22 V0) (broadcastInDim S32x8 ![] bcast_S_S32x8 (constantI S_ 32 32#32))) (res_main_v22 V0)))) shapeCasts_S8x32x8x64x8x64_S8x32x512x8x64) (Host.divf (res_main_v107 V0) (broadcastInDim S8x8x32x64x512 ![0, 1, 2, 3, 4] bcast_S8x8x32x64x1_S8x8x32x64x512_0_1_2_3_4 (broadcastInDim S8x8x32x64x1 ![0, 1, 2, 3] bcast_S8x8x32x64_S8x8x32x64x1_0_1_2_3 (Host.reduceAdd (res_main_v107 V0) (constant S_ .f32 0x00000000#32) reducesTo_S8x8x32x64x512_S8x8x32x64_d4 h_S_))))) transposes_S8x32x8x64x64_S8x32x64x8x64_0_1_4_2_3) shapeCasts_S8x32x64x8x64_S8x2048x512) bitsLt_bf16_f32

set_option maxRecDepth 8192 in
theorem out115_eq (m : (ℓ : Loc nD τ sig) → Buf (Elt F) ℓ) (c : Dev nD) : Cert.Reference5Ideal.Value.res_main_v115 m c = out115 (StableHlo.launchContents m c) := by
  unfold Cert.Reference5Ideal.Value.res_main_v115 out115
  rfl
end

variable (V0 : Valuation τ sig (Elt Ideal))

theorem v22_at (R : Fin 32) (w : Fin 8) : res_main_v22 V0 (ix2 R w) = BitVec.ofNat 32 (min 24 (R.val - 4) + w.val) := by
  have key : ∀ (R : Fin 32) (w : Fin 8), IntOp.addi (IntOp.minsi 24#32 (IntOp.maxsi 0#32 (IntOp.subi (BitVec.ofNat 32 R.val) 4#32))) (BitVec.ofNat 32 w.val)
      = BitVec.ofNat 32 (min 24 (R.val - 4) + w.val) := by decide +kernel
  refine Eq.trans ?_ (key R w)
  pointwise [res_main_v22, res_main_v13, id]

theorem v42_at (c : Fin 64) : res_main_v42 V0 (ix1 c) = BitVec.ofNat 32 (min 48 (c.val - 8)) := by
  have key : ∀ (c : Fin 64), (IntOp.minsi 48#32 (IntOp.maxsi 0#32 (IntOp.subi (BitVec.ofNat 32 c.val) 8#32)))
      = BitVec.ofNat 32 (min 48 (c.val - 8)) := by decide +kernel
  refine Eq.trans ?_ (key c)
  pointwise [res_main_v42, res_main_v39, id]

theorem v70_at (R : Fin 32) (w : Fin 8) (u v : Fin 1) : res_main_v70 V0 (ix4 R w u v) = BitVec.ofNat 32 (min 24 (R.val - 4) + w.val + 7 - R.val) := by
  have key : ∀ (R : Fin 32) (w : Fin 8), IntOp.subi (IntOp.addi (IntOp.subi (BitVec.ofNat 32 (min 24 (R.val - 4) + w.val)) (BitVec.ofNat 32 R.val)) 8#32) 1#32
      = BitVec.ofNat 32 (min 24 (R.val - 4) + w.val + 7 - R.val) := by decide +kernel
  refine Eq.trans ?_ (key R w)
  rw [← v22_at V0 R w]
  unfold res_main_v70
  generalize res_main_v22 V0 = x
  pointwise [res_main_v13]

theorem v75_at (c k : Fin 64) (u v : Fin 1) : res_main_v75 V0 (ix4 u v c k) = BitVec.ofNat 32 (min 30 (k.val + 15 - c.val)) := by
  have key : ∀ (c k : Fin 64), IntOp.subi (IntOp.addi (IntOp.minsi 15#32 (IntOp.maxsi 4294967281#32 (IntOp.subi (BitVec.ofNat 32 k.val) (BitVec.ofNat 32 c.val)))) 16#32) 1#32
      = BitVec.ofNat 32 (min 30 (k.val + 15 - c.val)) := by decide +kernel
  refine Eq.trans ?_ (key c k)
  pointwise [res_main_v75, res_main_v43, res_main_v39, id]

end Cert.Reference5Ideal.Na

end
-- ==== Proof.NbRef.lean ====
/- Layer 1. The reference's scores and its result, entry by entry. -/
module

public import proofs.«01_k».proof.Proof.NbGather
public import Idealize.ShloMosaic.Lib.Pipeline.ValueKit

@[expose] public section
set_option maxRecDepth 16384
noncomputable section

namespace Cert.Reference5Ideal.Na
open Idealize.ShloMosaic Idealize.ShloMosaic.TcCoe Idealize.SL.Sem
open Cert.Reference5Ideal Cert.Reference5Ideal.Gen Cert.Reference5Ideal.Value
open NaRow
variable (V0 : Valuation τ sig (Elt Ideal))

/-- The grid rows the keys are gathered from. -/
def rowIdx : IVec S32x8x1 32 :=
  broadcastInDim S32x8x1 ![0, 1] bcast_S32x8_S32x8x1_0_1 (select (cmpi .slt (res_main_v22 V0) (broadcastInDim S32x8 ![] bcast_S_S32x8 (constantI S_ 32 0#32))) (addi (res_main_v22 V0) (broadcastInDim S32x8 ![] bcast_S_S32x8 (constantI S_ 32 32#32))) (res_main_v22 V0))

theorem rowIdx_at (R : Fin 32) (w : Fin 8) : min (rowIdx V0 (ix3 R w 0)).toInt.toNat 31 = min 24 (R.val - 4) + w.val := by
  have key : ∀ (R : Fin 32) (w : Fin 8), min (Scalar.select (IntOp.cmpi .slt (BitVec.ofNat 32 (min 24 (R.val - 4) + w.val)) 0#32)
      (IntOp.addi (BitVec.ofNat 32 (min 24 (R.val - 4) + w.val)) 32#32) (BitVec.ofNat 32 (min 24 (R.val - 4) + w.val))).toInt.toNat 31 = min 24 (R.val - 4) + w.val := by decide +kernel
  refine Eq.trans ?_ (key R w)
  rw [← v22_at V0 R w]
  unfold rowIdx
  generalize res_main_v22 V0 = x
  pointwise []

/-- The queries by grid position and head. -/
def queries (x : FVec Ideal S8x2048x512 .f32) : FVec Ideal S8x32x64x8x64 .f32 :=
  shapeCast _ (shapeCast _ x shapeCasts_S8x2048x512_S8x2048x8x64) shapeCasts_S8x2048x8x64_S8x32x64x8x64

theorem queries_at (x : FVec Ideal S8x2048x512 .f32) (b : Fin 8) (R : Fin 32) (c : Fin 64) (h : Fin 8) (a : Fin 64) :
    queries x (ix5 b R c h a) = x (ix3 b ⟨64 * R.val + c.val, by omega⟩ ⟨64 * h.val + a.val, by omega⟩) := by
  pointwise [queries]
  simp only [Nat.mul_comm 64]

/-- The gathered keys (or values) of every query row. -/
def keys (x : FVec Ideal S8x2048x512 .f32) : FVec Ideal S8x32x512x8x64 .f32 :=
  shapeCast _ (Host.gather gather_S8x32x64x8x64_S32x8x1_S8x32x8x64x8x64_0345_1_n_n_1_2_8164864 (queries x) (rowIdx V0)) shapeCasts_S8x32x8x64x8x64_S8x32x512x8x64

theorem keys_at (x : FVec Ideal S8x2048x512 .f32) (b : Fin 8) (R : Fin 32) (i : Fin 512) (h : Fin 8) (a : Fin 64) :
    keys V0 x (ix5 b R i h a) = x (ix3 b ⟨64 * (min 24 (R.val - 4) + i.val / 64) + i.val % 64, by omega⟩ ⟨64 * h.val + a.val, by omega⟩) := by
  have e : keys V0 x (ix5 b R i h a) = Host.gather gk (queries x) (rowIdx V0) (ix6 b R ⟨i.val / 64, by omega⟩ ⟨i.val % 64, by omega⟩ h a) := by
    unfold keys
    generalize queries x = q, rowIdx V0 = z
    pointwise []
  rw [e, gather_keys, queries_at]
  have f := rowIdx_at V0 R ⟨i.val / 64, by omega⟩
  simp only [f]

/-- The bias entries gathered for every query row. -/
def biasIdx : IVec S32x8x64x64x2 32 :=
  concatenate S32x8x64x64x2 4 [⟨S32x8x64x64x1, (broadcastInDim S32x8x64x64x1 ![0, 1, 2, 3] bcast_S32x8x64x64_S32x8x64x64x1_0_1_2_3 (broadcastInDim S32x8x64x64 ![0, 1, 2, 3] bcast_S32x8x1x1_S32x8x64x64_0_1_2_3 (select (cmpi .slt (res_main_v70 V0) (broadcastInDim S32x8x1x1 ![] bcast_S_S32x8x1x1 (constantI S_ 32 0#32))) (addi (res_main_v70 V0) (broadcastInDim S32x8x1x1 ![] bcast_S_S32x8x1x1 (constantI S_ 32 15#32))) (res_main_v70 V0))))⟩, ⟨S32x8x64x64x1, (broadcastInDim S32x8x64x64x1 ![0, 1, 2, 3] bcast_S32x8x64x64_S32x8x64x64x1_0_1_2_3 (broadcastInDim S32x8x64x64 ![0, 1, 2, 3] bcast_S1x1x64x64_S32x8x64x64_0_1_2_3 (select (cmpi .slt (res_main_v75 V0) (broadcastInDim S1x1x64x64 ![] bcast_S_S1x1x64x64 (constantI S_ 32 0#32))) (addi (res_main_v75 V0) (broadcastInDim S1x1x64x64 ![] bcast_S_S1x1x64x64 (constantI S_ 32 31#32))) (res_main_v75 V0))))⟩] concatenates_S32x8x64x64x1_S32x8x64x64x1_S32x8x64x64x2_d4

theorem biasIdx_row (R : Fin 32) (w : Fin 8) (c k : Fin 64) : min (biasIdx V0 (ix5 R w c k 0)).toInt.toNat 14 = min 24 (R.val - 4) + w.val + 7 - R.val := by
  have key : ∀ (R : Fin 32) (w : Fin 8), min (Scalar.select (IntOp.cmpi .slt (BitVec.ofNat 32 (min 24 (R.val - 4) + w.val + 7 - R.val)) 0#32)
      (IntOp.addi (BitVec.ofNat 32 (min 24 (R.val - 4) + w.val + 7 - R.val)) 15#32) (BitVec.ofNat 32 (min 24 (R.val - 4) + w.val + 7 - R.val))).toInt.toNat 14 = min 24 (R.val - 4) + w.val + 7 - R.val := by decide +kernel
  refine Eq.trans ?_ (key R w)
  rw [← v70_at V0 R w 0 0]
  unfold biasIdx
  generalize res_main_v70 V0 = x, res_main_v75 V0 = y
  pointwise []

theorem biasIdx_col (R : Fin 32) (w : Fin 8) (c k : Fin 64) : min (biasIdx V0 (ix5 R w c k 1)).toInt.toNat 30 = min 30 (k.val + 15 - c.val) := by
  have key : ∀ (c k : Fin 64), min (Scalar.select (IntOp.cmpi .slt (BitVec.ofNat 32 (min 30 (k.val + 15 - c.val))) 0#32)
      (IntOp.addi (BitVec.ofNat 32 (min 30 (k.val + 15 - c.val))) 31#32) (BitVec.ofNat 32 (min 30 (k.val + 15 - c.val)))).toInt.toNat 30 = min 30 (k.val + 15 - c.val) := by decide +kernel
  refine Eq.trans ?_ (key c k)
  rw [← v75_at V0 c k 0 0]
  unfold biasIdx
  generalize res_main_v70 V0 = x, res_main_v75 V0 = y
  pointwise []

/-- The gathered biases. -/
def bias (x : FVec Ideal S8x15x31 .f32) : FVec Ideal S8x32x64x512 .f32 :=
  shapeCast _ (transpose S8x32x64x8x64 [0, 1, 3, 2, 4] (Host.gather gather_S8x15x31_S32x8x64x64x2_S8x32x8x64x64_0_12_n_n_12_4_811 x (biasIdx V0)) transposes_S8x32x8x64x64_S8x32x64x8x64_0_1_3_2_4) shapeCasts_S8x32x64x8x64_S8x32x64x512

theorem bias_at (x : FVec Ideal S8x15x31 .f32) (h : Fin 8) (R : Fin 32) (c : Fin 64) (i : Fin 512) :
    bias V0 x (ix4 h R c i) = x (ix3 h ⟨min 24 (R.val - 4) + i.val / 64 + 7 - R.val, by omega⟩ ⟨min 30 (i.val % 64 + 15 - c.val), by omega⟩) := by
  have e : bias V0 x (ix4 h R c i) = Host.gather gb x (biasIdx V0) (ix5 h R ⟨i.val / 64, by omega⟩ c ⟨i.val % 64, by omega⟩) := by
    unfold bias
    generalize biasIdx V0 = z
    pointwise []
  rw [e, gather_bias]
  have f := biasIdx_row V0 R ⟨i.val / 64, by omega⟩ c ⟨i.val % 64, by omega⟩
  have g := biasIdx_col V0 R ⟨i.val / 64, by omega⟩ c ⟨i.val % 64, by omega⟩
  simp only [f, g]

/-- The key columns in each query column's band. -/
def inBand : IVec S64x512 1 :=
  shapeCast _ (broadcastInDim S1x64x8x64 ![0, 1, 2, 3] bcast_S1x64x1x64_S1x64x8x64_0_1_2_3 (shapeCast _ (andi (cmpi .sge (broadcastInDim S64x64 ![0, 1] bcast_S1x64_S64x64_0_1 (res_main_v43 V0)) (broadcastInDim S64x64 ![0, 1] bcast_S64x1_S64x64_0_1 (broadcastInDim S64x1 ![0] bcast_S64_S64x1_0 (res_main_v42 V0)))) (cmpi .slt (broadcastInDim S64x64 ![0, 1] bcast_S1x64_S64x64_0_1 (res_main_v43 V0)) (broadcastInDim S64x64 ![0, 1] bcast_S64x1_S64x64_0_1 (addi (broadcastInDim S64x1 ![0] bcast_S64_S64x1_0 (res_main_v42 V0)) (broadcastInDim S64x1 ![] bcast_S_S64x1 (constantI S_ 32 16#32)))))) shapeCasts_S64x64_S1x64x1x64)) shapeCasts_S1x64x8x64_S64x512

theorem inBand_at (c : Fin 64) (i : Fin 512) : inBand V0 (ix2 c i) = if band c.val (i.val % 64) then 1#1 else 0#1 := by
  have key : ∀ (c k : Fin 64), IntOp.andi (IntOp.cmpi .sge (BitVec.ofNat 32 k.val) (BitVec.ofNat 32 (min 48 (c.val - 8))))
      (IntOp.cmpi .slt (BitVec.ofNat 32 k.val) (IntOp.addi (BitVec.ofNat 32 (min 48 (c.val - 8))) 16#32)) = if band c.val k.val then 1#1 else 0#1 := by decide +kernel
  refine Eq.trans ?_ (key c ⟨i.val % 64, by omega⟩)
  rw [← v42_at V0 c]
  unfold inBand
  generalize res_main_v42 V0 = x
  pointwise [res_main_v43, res_main_v39]

theorem v100_eq : res_main_v100 V0 = (  select (broadcastInDim S8x8x32x64x512 ![3, 4] bcast_S64x512_S8x8x32x64x512_3_4 (inBand V0)) (addf (mulf (Host.dotGeneral dot_S8x32x64x8x64_S8x32x512x8x64_S8x8x32x64x512_4_4_2_2_031_031 none (queries (extractStridedSlice S8x2048x512 ![0, 0, 0] (res_main_v1 V0) slices_S8x2048x1536_S8x2048x512_0_0_0)) (keys V0 (extractStridedSlice S8x2048x512 ![0, 0, 512] (res_main_v1 V0) slices_S8x2048x1536_S8x2048x512_0_0_512))) (broadcastInDim S8x8x32x64x512 ![] bcast_S_S8x8x32x64x512 (constant S_ .f32 0x3E000000#32))) (broadcastInDim S8x8x32x64x512 ![0, 1, 2, 3, 4] bcast_S1x8x32x64x512_S8x8x32x64x512_0_1_2_3_4 (broadcastInDim S1x8x32x64x512 ![1, 2, 3, 4] bcast_S8x32x64x512_S1x8x32x64x512_1_2_3_4 (bias V0 (shapeCast _ (extractStridedSlice S1x8x15x31 ![1, 0, 0, 0] (V0 (Proc.devRef .tc main_arg1)) slices_S2x8x15x31_S1x8x15x31_1_0_0_0) shapeCasts_S1x8x15x31_S8x15x31))))) (broadcastInDim S8x8x32x64x512 ![] bcast_S_S8x8x32x64x512 (id (constant S_ .f32 0xFF800000#32)))) := rfl

/-- The score of query `(R, c)` for its gathered key `i` in head `h`. -/
def score (x : FVec Ideal S8x2048x3072 .bf16) (rpb : FVec Ideal S2x8x15x31 .f32) (b h : Fin 8) (R : Fin 32) (c : Fin 64) (i : Fin 512) : EReal :=
  if band c.val (i.val % 64) then
    (∑ a : Fin 64, x (ix3 b ⟨64 * R.val + c.val, by omega⟩ ⟨64 * h.val + a.val, by omega⟩)
        * x (ix3 b ⟨64 * (min 24 (R.val - 4) + i.val / 64) + i.val % 64, by omega⟩ ⟨512 + (64 * h.val + a.val), by omega⟩)) * ((1 / 8 : ℝ) : EReal)
      + rpb (ix4 1 h ⟨min 24 (R.val - 4) + i.val / 64 + 7 - R.val, by omega⟩ ⟨min 30 (i.val % 64 + 15 - c.val), by omega⟩)
  else ⊥

theorem v1_at (b : Fin 8) (p : Fin 2048) (e : Fin 1536) :
    res_main_v1 V0 (ix3 b p e) = (V0 (Proc.devRef .tc main_arg0) : FVec Ideal S8x2048x3072 .bf16) (ix3 b p ⟨e.val, by omega⟩) := by
  pointwise [res_main_v1]

theorem part_at (x : FVec Ideal S8x2048x1536 .f32) (b : Fin 8) (p : Fin 2048) (e : Fin 512) :
    extractStridedSlice S8x2048x512 ![0, 0, 0] x slices_S8x2048x1536_S8x2048x512_0_0_0 (ix3 b p e) = x (ix3 b p ⟨e.val, by omega⟩)
    ∧ extractStridedSlice S8x2048x512 ![0, 0, 512] x slices_S8x2048x1536_S8x2048x512_0_0_512 (ix3 b p e) = x (ix3 b p ⟨512 + e.val, by omega⟩)
    ∧ extractStridedSlice S8x2048x512 ![0, 0, 1024] x slices_S8x2048x1536_S8x2048x512_0_0_1024 (ix3 b p e) = x (ix3 b p ⟨1024 + e.val, by omega⟩) := by
  refine ⟨?_, ?_, ?_⟩
  · pointwise []
  · pointwise []
  · pointwise []

theorem table_at (x : FVec Ideal S2x8x15x31 .f32) (h : Fin 8) (d : Fin 15) (e : Fin 31) :
    (shapeCast _ (extractStridedSlice S1x8x15x31 ![1, 0, 0, 0] x slices_S2x8x15x31_S1x8x15x31_1_0_0_0) shapeCasts_S1x8x15x31_S8x15x31 : FVec Ideal S8x15x31 .f32) (ix3 h d e)
      = x (ix4 1 h d e) := by
  pointwise []

theorem sel_if (p : Prop) [Decidable p] (x y : EReal) : Scalar.select (if p then 1#1 else 0#1) x y = if p then x else y := by
  unfold Scalar.select; by_cases h : p <;> simp [h]

theorem v100_at (b h : Fin 8) (R : Fin 32) (c : Fin 64) (i : Fin 512) :
    res_main_v100 V0 (ix5 b h R c i) = score (V0 (Proc.devRef .tc main_arg0)) (V0 (Proc.devRef .tc main_arg1)) b h R c i := by
  have e : ∀ (z : IVec S64x512 1) (q : FVec Ideal S8x32x64x8x64 .f32) (k : FVec Ideal S8x32x512x8x64 .f32) (y : FVec Ideal S8x32x64x512 .f32),
      (select (broadcastInDim S8x8x32x64x512 ![3, 4] bcast_S64x512_S8x8x32x64x512_3_4 z) (addf (mulf (Host.dotGeneral dot_S8x32x64x8x64_S8x32x512x8x64_S8x8x32x64x512_4_4_2_2_031_031 none q k) (broadcastInDim S8x8x32x64x512 ![] bcast_S_S8x8x32x64x512 (constant S_ .f32 0x3E000000#32))) (broadcastInDim S8x8x32x64x512 ![0, 1, 2, 3, 4] bcast_S1x8x32x64x512_S8x8x32x64x512_0_1_2_3_4 (broadcastInDim S1x8x32x64x512 ![1, 2, 3, 4] bcast_S8x32x64x512_S1x8x32x64x512_1_2_3_4 y))) (broadcastInDim S8x8x32x64x512 ![] bcast_S_S8x8x32x64x512 (id (constant S_ .f32 0xFF800000#32))) : FVec Ideal S8x8x32x64x512 .f32) (ix5 b h R c i)
        = Scalar.select (z (ix2 c i)) ((∑ a : Fin 64, q (ix5 b R c h a) * k (ix5 b R i h a)) * Ideal.ofBits .f32 0x3E000000#32 + y (ix4 h R c i)) (Ideal.ofBits .f32 0xFF800000#32) := by
    intro z q k y
    pointwise [id]
  rw [v100_eq]
  refine (e _ _ _ _).trans ?_
  rw [inBand_at, sel_if, bias_at, table_at, eighth_f32, neg_inf_f32]
  simp only [queries_at, keys_at, (part_at _ _ _ _).1, (part_at _ _ _ _).2.1, v1_at]
  rfl

/-- The weights. -/
def probs : FVec Ideal S8x8x32x64x512 .f32 :=
  Host.divf (res_main_v107 V0) (broadcastInDim S8x8x32x64x512 ![0, 1, 2, 3, 4] bcast_S8x8x32x64x1_S8x8x32x64x512_0_1_2_3_4 (broadcastInDim S8x8x32x64x1 ![0, 1, 2, 3] bcast_S8x8x32x64_S8x8x32x64x1_0_1_2_3 (Host.reduceAdd (res_main_v107 V0) (constant S_ .f32 0x00000000#32) reducesTo_S8x8x32x64x512_S8x8x32x64_d4 h_S_)))

theorem reduce_at (s : FVec Ideal S8x8x32x64x512 .f32) (b h : Fin 8) (R : Fin 32) (c : Fin 64) :
    (Host.reduce FloatOps.maximumf s (constant S_ .f32 0xFF800000#32) reducesTo_S8x8x32x64x512_S8x8x32x64_d4 h_S_ : FVec Ideal S8x8x32x64 .f32) (ix4 b h R c)
      = Finset.fold max (Ideal.ofBits .f32 0xFF800000#32) (fun j : Fin 512 => s (ix5 b h R c j)) Finset.univ := by
  pointwise []

theorem v107_eq (s : FVec Ideal S8x8x32x64x512 .f32) (t : FVec Ideal S8x8x32x64 .f32) (b h : Fin 8) (R : Fin 32) (c : Fin 64) (i : Fin 512) :
    (Host.exp (subf s (broadcastInDim S8x8x32x64x512 ![0, 1, 2, 3, 4] bcast_S8x8x32x64x1_S8x8x32x64x512_0_1_2_3_4 (broadcastInDim S8x8x32x64x1 ![0, 1, 2, 3] bcast_S8x8x32x64_S8x8x32x64x1_0_1_2_3 (maximumf (broadcastInDim S8x8x32x64 ![] bcast_S_S8x8x32x64 (constant S_ .f32 0xFF800000#32)) t)))) : FVec Ideal S8x8x32x64x512 .f32) (ix5 b h R c i)
      = Ideal.exp (s (ix5 b h R c i) - max (Ideal.ofBits .f32 0xFF800000#32) (t (ix4 b h R c))) := by
  pointwise []

theorem probs_at (b h : Fin 8) (R : Fin 32) (c : Fin 64) (i : Fin 512) :
    probs V0 (ix5 b h R c i) = Ideal.div (res_main_v107 V0 (ix5 b h R c i)) (∑ j : Fin 512, res_main_v107 V0 (ix5 b h R c j)) := by
  unfold probs
  generalize res_main_v107 V0 = x
  pointwise []

theorem out_eq (v : FVec Ideal S8x32x512x8x64 .f32) (y : FVec Ideal S8x8x32x64x512 .f32) (b : Fin 8) (p : Fin 2048) (e : Fin 512) :
    (truncf .bf16 (shapeCast _ (transpose S8x32x64x8x64 [0, 1, 4, 2, 3] (Host.dotGeneral dot_S8x32x512x8x64_S8x8x32x64x512_S8x32x8x64x64_2_4_4_3_013_021 none v y) transposes_S8x32x8x64x64_S8x32x64x8x64_0_1_4_2_3) shapeCasts_S8x32x64x8x64_S8x2048x512) bitsLt_bf16_f32 : FVec Ideal S8x2048x512 .bf16) (ix3 b p e)
      = ∑ i : Fin 512, v (ix5 b ⟨p.val / 64, by omega⟩ i ⟨e.val / 64, by omega⟩ ⟨e.val % 64, by omega⟩) * y (ix5 b ⟨e.val / 64, by omega⟩ ⟨p.val / 64, by omega⟩ ⟨p.val % 64, by omega⟩ i) := by
  pointwise []

theorem exp_at (b h : Fin 8) (R : Fin 32) (c : Fin 64) (i : Fin 512) :
    res_main_v107 V0 (ix5 b h R c i) = Ideal.exp (score (V0 (Proc.devRef .tc main_arg0)) (V0 (Proc.devRef .tc main_arg1)) b h R c i
      - peak (score (V0 (Proc.devRef .tc main_arg0)) (V0 (Proc.devRef .tc main_arg1)) b h R c)) := by
  refine (v107_eq (res_main_v100 V0) _ b h R c i).trans ?_
  rw [reduce_at, neg_inf_f32]
  simp only [v100_at, bot_le, max_eq_right]
  rfl

/-- The reference's attention, entry by entry: the weighted average over the gathered keys. -/
def near (x : FVec Ideal S8x2048x3072 .bf16) (rpb : FVec Ideal S2x8x15x31 .f32) (b : Fin 8) (p : Fin 2048) (e : Fin 512) : EReal :=
  soft (score x rpb b ⟨e.val / 64, by omega⟩ ⟨p.val / 64, by omega⟩ ⟨p.val % 64, by omega⟩)
    (fun i => x (ix3 b ⟨64 * (min 24 (p.val / 64 - 4) + i.val / 64) + i.val % 64, by omega⟩ ⟨1024 + e.val, by omega⟩))

theorem v115_eq : (out115 V0 : FVec Ideal S8x2048x512 .bf16)
    = truncf .bf16 (shapeCast _ (transpose S8x32x64x8x64 [0, 1, 4, 2, 3] (Host.dotGeneral dot_S8x32x512x8x64_S8x8x32x64x512_S8x32x8x64x64_2_4_4_3_013_021 none (keys V0 (extractStridedSlice S8x2048x512 ![0, 0, 1024] (res_main_v1 V0) slices_S8x2048x1536_S8x2048x512_0_0_1024)) (probs V0)) transposes_S8x32x8x64x64_S8x32x64x8x64_0_1_4_2_3) shapeCasts_S8x32x64x8x64_S8x2048x512) bitsLt_bf16_f32 := by
  unfold probs keys queries rowIdx
  rfl

theorem out_at (b : Fin 8) (p : Fin 2048) (e : Fin 512) :
    (out115 V0 : FVec Ideal S8x2048x512 .bf16) (ix3 b p e)
      = near (V0 (Proc.devRef .tc main_arg0)) (V0 (Proc.devRef .tc main_arg1)) b p e := by
  rw [v115_eq, out_eq]
  have he : (⟨1024 + (64 * (e.val / 64) + e.val % 64), by omega⟩ : Fin 3072) = ⟨1024 + e.val, by omega⟩ := Fin.ext (by simp only []; omega)
  simp only [keys_at, (part_at _ _ _ _).2.2, v1_at, probs_at, exp_at, he]
  rfl

end Cert.Reference5Ideal.Na

end
-- ==== Proof.NbMath.lean ====
/- Layer 1. The kernel's attention over a window of twelve key rows is the reference's over the eight gathered ones. -/
module

public import proofs.«01_k».proof.Proof.NbAttn
public import proofs.«01_k».proof.Proof.NbRef

@[expose] public section
set_option maxRecDepth 16384
noncomputable section

namespace Cert.Kernel5Ideal.Na
open Idealize.ShloMosaic
open Cert.Kernel5Ideal Cert.Kernel5Ideal.Gen
open NaRow
open Cert.Reference5Ideal.Na (near)

/-- Which window rows a query row uses, and with which row of the bias table, in every block of query rows. -/
theorem geom_cls : ∀ (rb : Fin 8) (ri : Fin 4) (wj : Fin 12), geom (cls rb.val) ri.val wj.val
    = if min 24 (4 * rb.val + ri.val - 4) ≤ 4 * min 5 (rb.val - 1) + wj.val ∧ 4 * min 5 (rb.val - 1) + wj.val < min 24 (4 * rb.val + ri.val - 4) + 8
      then some (Fin.ofNat 15 (4 * min 5 (rb.val - 1) + wj.val + 7 - (4 * rb.val + ri.val))) else none := by decide +kernel

theorem strip_none (r k : Fin 64) : strip none r k = ⊥ := rfl

theorem strip_some (w : Vec Ideal S1x1x1x128 .f32) (r k : Fin 64) :
    strip (some w) r k = if band r k then w (ix4 0 0 0 ⟨(k.val + 128 - r.val) % 128, by omega⟩) else ⊥ := rfl

variable (x : Vec Ideal S8x2048x3072 .bf16) (rpb : Vec Ideal S2x8x15x31 .f32)

/-- A rotated bias row in the band. -/
theorem row_at (h : Fin 8) (d : Fin 15) (c k : Fin 64) (hb : band c k) :
    row (headRows rpb 1 h) d (ix4 0 0 0 ⟨(k.val + 128 - c.val) % 128, by omega⟩)
      = rpb (ix4 1 h d ⟨min 30 (k.val + 15 - c.val), by omega⟩) := by
  unfold band at hb
  show lanes rpb (ix4 1 h d ⟨(k.val + 128 - c.val) % 128, by omega⟩) = _
  rw [lanes_at rpb 1 h d _ (by simp only []; omega)]
  have e : (⟨((k.val + 128 - c.val) % 128 + 15) % 128, by omega⟩ : Fin 31) = ⟨min 30 (k.val + 15 - c.val), by omega⟩ := Fin.ext (by simp only []; omega)
  exact congrArg (fun z => rpb (ix4 1 h d z)) e

/-- A window entry outside the query row's eight key rows. -/
theorem entry_out (h : Fin 8) (p : Fin 2048) (j : Fin 768)
    (hj : ¬(min 24 (p.val / 64 - 4) ≤ 4 * min 5 (p.val / 256 - 1) + j.val / 64 ∧ 4 * min 5 (p.val / 256 - 1) + j.val / 64 < min 24 (p.val / 64 - 4) + 8)) :
    entry (headRows rpb 1 h) (cls (p.val / 256)) (p.val % 256) j.val = ⊥ := by
  have g := geom_cls ⟨p.val / 256, by omega⟩ ⟨p.val % 256 / 64, by omega⟩ ⟨j.val / 64, by omega⟩
  have hR : 4 * (p.val / 256) + p.val % 256 / 64 = p.val / 64 := by omega
  simp only [hR] at g
  unfold entry
  rw [g, if_neg hj]
  rfl

/-- A window entry inside them. -/
theorem entry_in (h : Fin 8) (p : Fin 2048) (j : Fin 768) (d : Fin 15)
    (hj : min 24 (p.val / 64 - 4) ≤ 4 * min 5 (p.val / 256 - 1) + j.val / 64 ∧ 4 * min 5 (p.val / 256 - 1) + j.val / 64 < min 24 (p.val / 64 - 4) + 8)
    (hd : d.val = 4 * min 5 (p.val / 256 - 1) + j.val / 64 + 7 - p.val / 64) :
    entry (headRows rpb 1 h) (cls (p.val / 256)) (p.val % 256) j.val
      = if band (p.val % 64) (j.val % 64) then rpb (ix4 1 h d ⟨min 30 (j.val % 64 + 15 - p.val % 64), by omega⟩) else ⊥ := by
  have g := geom_cls ⟨p.val / 256, by omega⟩ ⟨p.val % 256 / 64, by omega⟩ ⟨j.val / 64, by omega⟩
  have hR : 4 * (p.val / 256) + p.val % 256 / 64 = p.val / 64 := by omega
  simp only [hR] at g
  have ed : Fin.ofNat 15 (4 * min 5 (p.val / 256 - 1) + j.val / 64 + 7 - p.val / 64) = d :=
    Fin.ext (by rw [← hd]; exact Nat.mod_eq_of_lt d.isLt)
  rw [ed, if_pos hj] at g
  have er : (⟨p.val % 256 % 64, by omega⟩ : Fin 64) = ⟨p.val % 64, by omega⟩ := Fin.ext (by simp only []; omega)
  unfold entry
  rw [g, er]
  show strip (some (row (headRows rpb 1 h) d)) _ _ = _
  rw [strip_some]
  by_cases hb : band (p.val % 64) (j.val % 64)
  · rw [if_pos hb, if_pos hb]
    exact row_at rpb h d ⟨p.val % 64, by omega⟩ ⟨j.val % 64, by omega⟩ hb
  · rw [if_neg hb, if_neg hb]

/-- The window position of a query's gathered key `i`. -/
def pos (p : Fin 2048) (i : Fin 512) : Fin 768 :=
  ⟨64 * (min 24 (p.val / 64 - 4) + i.val / 64) + i.val % 64 - 256 * min 5 (p.val / 256 - 1), by omega⟩

theorem pos_val (p : Fin 2048) (i : Fin 512) :
    256 * min 5 (p.val / 256 - 1) + (pos p i).val = 64 * (min 24 (p.val / 64 - 4) + i.val / 64) + i.val % 64 := by
  unfold pos
  simp only []
  omega

theorem pos_inj (p : Fin 2048) : Function.Injective (pos p) := by
  intro i j h
  have hi := pos_val p i
  have hj := pos_val p j
  rw [h] at hi
  exact Fin.ext (by omega)

/-- The scaled product of a query with a window key. -/
def raw (b : Fin 8) (p : Fin 2048) (e : Fin 512) (j : Fin 768) : EReal :=
  ∑ a : Fin 64, x (ix3 b p ⟨64 * (e.val / 64) + a.val, by omega⟩) * ((1 / 8 : ℝ) : EReal)
        * x (ix3 b ⟨256 * min 5 (p.val / 256 - 1) + j.val, by omega⟩ ⟨512 + (64 * (e.val / 64) + a.val), by omega⟩)

theorem raw_real (hx : ∀ (b : Fin 8) (p : Fin 2048) (e : Fin 1024), ∃ r : ℝ, x (ix3 b p ⟨e.val, by omega⟩) = r)
    (b : Fin 8) (p : Fin 2048) (e : Fin 512) (j : Fin 768) : ∃ r : ℝ, raw x b p e j = r := by
  choose v hv using hx
  refine ⟨∑ a : Fin 64, v b p ⟨64 * (e.val / 64) + a.val, by omega⟩ * (1 / 8)
    * v b ⟨256 * min 5 (p.val / 256 - 1) + j.val, by omega⟩ ⟨512 + (64 * (e.val / 64) + a.val), by omega⟩, ?_⟩
  unfold raw
  rw [coe_sum]
  refine Finset.sum_congr rfl fun a _ => ?_
  rw [EReal.coe_mul, EReal.coe_mul, ← hv, ← hv]

/-- At a gathered key's window position the kernel's score is the reference's. -/
theorem score_pos (b : Fin 8) (p : Fin 2048) (e : Fin 512) (hx : ∃ r : Fin 512 → ℝ, ∀ i, raw x b p e (pos p i) = r i) (i : Fin 512) :
    raw x b p e (pos p i) + entry (headRows rpb 1 ⟨e.val / 64, by omega⟩) (cls (p.val / 256)) (p.val % 256) (pos p i).val
      = Cert.Reference5Ideal.Na.score x rpb b ⟨e.val / 64, by omega⟩ ⟨p.val / 64, by omega⟩ ⟨p.val % 64, by omega⟩ i := by
  obtain ⟨r, hr⟩ := hx
  have h0 := pos_val p i
  have hd : (pos p i).val / 64 + 4 * min 5 (p.val / 256 - 1) = min 24 (p.val / 64 - 4) + i.val / 64 := by omega
  have hm : (pos p i).val % 64 = i.val % 64 := by omega
  rw [entry_in rpb _ p (pos p i) ⟨min 24 (p.val / 64 - 4) + i.val / 64 + 7 - p.val / 64, by omega⟩ (by omega) (by simp only []; omega)]
  unfold Cert.Reference5Ideal.Na.score
  simp only [hm]
  by_cases hb : band (p.val % 64) (i.val % 64)
  · rw [if_pos hb, if_pos hb]
    congr 1
    unfold raw
    rw [scale_sum _ _ _ (by norm_num)]
    have e1 : (⟨256 * min 5 (p.val / 256 - 1) + (pos p i).val, by omega⟩ : Fin 2048) = ⟨64 * (min 24 (p.val / 64 - 4) + i.val / 64) + i.val % 64, by omega⟩ := Fin.ext h0
    have e2 : (⟨64 * (p.val / 64) + p.val % 64, by omega⟩ : Fin 2048) = p := Fin.ext (by simp only []; omega)
    simp only [e1, e2]
  · rw [if_neg hb, if_neg hb, hr, EReal.add_bot]

/-- The kernel's attention is the reference's where queries, keys and biases are real numbers. -/
theorem attn_near (hx : ∀ (b : Fin 8) (p : Fin 2048) (e : Fin 1024), ∃ r : ℝ, x (ix3 b p ⟨e.val, by omega⟩) = r)
    (hr : ∀ (h : Fin 8) (d : Fin 15) (l : Fin 31), ∃ r : ℝ, rpb (ix4 1 h d l) = r)
    (b : Fin 8) (p : Fin 2048) (e : Fin 512) : attn x rpb b p e = near x rpb b p e := by
  have hraw := raw_real x hx b p e
  choose v hv using hraw
  have hs := score_pos x rpb b p e ⟨fun i => v (pos p i), fun i => hv (pos p i)⟩
  refine (att_eq_soft (pos p) (pos_inj p)
    (fun j => raw x b p e j + entry (headRows rpb 1 ⟨e.val / 64, by omega⟩) (cls (p.val / 256)) (p.val % 256) j.val) _ ?_ ?_ ?_).trans ?_
  · intro j hj
    have hout : ¬(min 24 (p.val / 64 - 4) ≤ 4 * min 5 (p.val / 256 - 1) + j.val / 64 ∧ 4 * min 5 (p.val / 256 - 1) + j.val / 64 < min 24 (p.val / 64 - 4) + 8) := by
      rintro ⟨h1, h2⟩
      refine hj ⟨⟨256 * min 5 (p.val / 256 - 1) + j.val - 64 * min 24 (p.val / 64 - 4), by omega⟩, Fin.ext ?_⟩
      have := pos_val p ⟨256 * min 5 (p.val / 256 - 1) + j.val - 64 * min 24 (p.val / 64 - 4), by omega⟩
      simp only [] at this
      omega
    show raw x b p e j + _ = ⊥
    rw [entry_out rpb _ p j hout, hv, EReal.add_bot]
  · intro j
    show raw x b p e j + _ ≠ ⊤
    rw [hv]
    by_cases hin : min 24 (p.val / 64 - 4) ≤ 4 * min 5 (p.val / 256 - 1) + j.val / 64 ∧ 4 * min 5 (p.val / 256 - 1) + j.val / 64 < min 24 (p.val / 64 - 4) + 8
    · rw [entry_in rpb _ p j ⟨4 * min 5 (p.val / 256 - 1) + j.val / 64 + 7 - p.val / 64, by omega⟩ hin rfl]
      split_ifs
      · obtain ⟨r, h⟩ := hr ⟨e.val / 64, by omega⟩ ⟨4 * min 5 (p.val / 256 - 1) + j.val / 64 + 7 - p.val / 64, by omega⟩ ⟨min 30 (j.val % 64 + 15 - p.val % 64), by omega⟩
        rw [h, ← EReal.coe_add]
        exact EReal.coe_ne_top _
      · rw [EReal.add_bot]; exact bot_ne_top
    · rw [entry_out rpb _ p j hin, EReal.add_bot]; exact bot_ne_top
  · refine ⟨⟨p.val % 64, by omega⟩, ?_⟩
    have h0 := pos_val p ⟨p.val % 64, by omega⟩
    simp only [] at h0
    have hm : (pos p ⟨p.val % 64, by omega⟩).val % 64 = p.val % 64 := by omega
    have hb : band (p.val % 64) (p.val % 64) := by unfold band; omega
    show raw x b p e _ + _ ≠ ⊥
    rw [hv, entry_in rpb _ p (pos p ⟨p.val % 64, by omega⟩) ⟨min 24 (p.val / 64 - 4) + 7 - p.val / 64, by omega⟩ (by omega) (by simp only []; omega)]
    simp only [hm]
    rw [if_pos hb]
    obtain ⟨r, h⟩ := hr ⟨e.val / 64, by omega⟩ ⟨min 24 (p.val / 64 - 4) + 7 - p.val / 64, by omega⟩ ⟨min 30 (p.val % 64 + 15 - p.val % 64), by omega⟩
    rw [h, ← EReal.coe_add]
    exact EReal.coe_ne_bot _
  · unfold near
    have e1 : ∀ i, (⟨256 * min 5 (p.val / 256 - 1) + (pos p i).val, by omega⟩ : Fin 2048) = ⟨64 * (min 24 (p.val / 64 - 4) + i.val / 64) + i.val % 64, by omega⟩ := fun i => Fin.ext (pos_val p i)
    simp only [hs, e1]

end Cert.Kernel5Ideal.Na

end
-- ==== Proof.NbCast.lean ====
/- Layer 1. The weights that the two regions cast on the way: every slab of the result is the weight's slab. -/
module

public import proofs.«01_k».proof.Proof.NbHost

@[expose] public section
set_option maxRecDepth 16384
noncomputable section

namespace Cert.Kernel5Ideal.Na
open Idealize.ShloMosaic Idealize.ShloMosaic.TcCoe Idealize.SL.Sem
open Cert.Kernel5Ideal Cert.Kernel5Ideal.Gen
variable (m : (ℓ : Loc nD τ sig) → Buf (Elt Ideal) ℓ) (ρ : Dev nD → PrngReg)

/-- The slab windows' block indices at every grid point of the attention. -/
theorem idxc : ∀ t : Fin cfg1.N, win1_8.index t = ![16 + t.val, 0, 0] ∧ win1_9.index t = ![16 + t.val, 0, 0] ∧ win1_10.index t = ![16 + t.val, 0, 0]
    ∧ win1_11.index t = ![16 + t.val, 0, 0] ∧ win1_12.index t = ![16 + t.val, 0, 0]
    ∧ win1_14.index t = ![t.val, 0, 0] ∧ win1_15.index t = ![t.val, 0, 0] ∧ win1_16.index t = ![t.val, 0, 0]
    ∧ win1_17.index t = ![t.val, 0, 0] ∧ win1_18.index t = ![t.val, 0, 0] ∧ t.val < 16 :=
  (by decide +kernel : ∀ t : Fin grid1.N, _)

/-- The bias-table region's cast weights. -/
theorem final3 (c : Dev nD) : ((dat0 (V4 m ρ) c).arrAt 3 cfg0.N : Vec Ideal S16x64x5120 .bf16)
    = fun y => (m ((c : Thread nD τ).loc main_arg2) : Vec Ideal S2x1024x5120 .f32) (ix3 0 ⟨(y 0).val * 64 + (y 1).val, by have h0 : (y 0).val < 16 := (y 0).isLt; have h1 : (y 1).val < 64 := (y 1).isLt; omega⟩ (y 2)) := by
  refine (dat0 (V4 m ρ) c).arrAt_eq_of_covers 3 _ (by decide +kernel) fun t _ y => ?_
  blk_simp
  rw [after0_3, cast_at]
  have ht := (idx0 t).2.2.2.2
  obtain ⟨u, h, d, rfl⟩ : ∃ (u : Fin 1) (h : Fin 64) (d : Fin 5120), y = ix3 u h d := ⟨y 0, y 1, y 2, eq_ix3 y⟩
  have e := V4_slabs m ρ c ⟨t.val, by omega⟩ h d
  have b : (iblk0 (V4 m ρ) c 1 t : Vec Ideal S1x64x5120 .f32) (ix3 u h d) = (V4 m ρ c main_v2 : Vec Ideal S32x64x5120 .f32) (ix3 ⟨t.val, by omega⟩ h d) := by
    blk_point [iblk0, idx0 t]
  refine (b.trans e).trans ?_
  blk_ext [idx0 t]

theorem result3 (c : Dev nD) (i : Fin 1024) (j : Fin 5120) : (W8 m ρ c (Proc.devRef .tc main_v4) : Vec Ideal S1024x5120 .bf16) (ix2 i j)
    = (m ((c : Thread nD τ).loc main_arg2) : Vec Ideal S2x1024x5120 .f32) (ix3 0 i j) := by
  have e := (W5_arr m ρ c 3).trans (final3 m ρ c)
  rw [W8_of m ρ c main_v4 (by decide), W7_of m ρ c main_v4 (by decide)]
  show StableHlo.after hostOps1 (W5 m ρ c) (Proc.devRef .tc main_v4) _ = _
  have e' : (W5 m ρ c (Proc.devRef .tc main_v3_1) : Vec Ideal S16x64x5120 .bf16) = _ := e
  generalize W5 m ρ c = σ at e' ⊢
  entry_read
  rw [e']
  pointwise []
  blk_ext

theorem slabs8 (c : Dev nD) (L : Fin 32) (h : Fin 32) (d : Fin 1024) : (V6 m ρ c main_v5 : Vec Ideal S32x32x1024 .f32) (ix3 L h d)
    = (m ((c : Thread nD τ).loc main_arg3) : Vec Ideal S2x512x1024 .f32) (ix3 ⟨L.val / 16, by omega⟩ ⟨L.val % 16 * 32 + h.val, by omega⟩ d) := by
  rw [← W5_args m ρ c main_arg3 (by decide)]
  show StableHlo.after hostOps1 (W5 m ρ c) (Proc.devRef .tc main_v5) _ = _
  generalize W5 m ρ c = σ
  entry_read
  pointwise []

theorem out14 (x0 x1 x2 x3 x4 x5 x6 x7 x8 x9 x10 x11 x12) : out1_14 (F := Ideal) x0 x1 x2 x3 x4 x5 x6 x7 x8 x9 x10 x11 x12 = x8 := by
  funext y
  unfold out1_14
  canon_tiles x h
  idx_vars x
  idx_vars y
  pointwise [k1_pay2]
  blk_ext

theorem final14 (c : Dev nD) : ((dat1 (V6 m ρ) c).arrAt 14 cfg1.N : Vec Ideal S16x32x1024 .bf16)
    = fun y => (m ((c : Thread nD τ).loc main_arg3) : Vec Ideal S2x512x1024 .f32) (ix3 1 ⟨(y 0).val * 32 + (y 1).val, by have h0 : (y 0).val < 16 := (y 0).isLt; have h1 : (y 1).val < 32 := (y 1).isLt; omega⟩ (y 2)) := by
  refine (dat1 (V6 m ρ) c).arrAt_eq_of_covers 14 _ (by decide +kernel) fun t _ y => ?_
  blk_simp
  rw [after1_14, out14]
  have ht := (idxc t).2.2.2.2.2.2.2.2.2.2
  obtain ⟨u, h, d, rfl⟩ : ∃ (u : Fin 1) (h : Fin 32) (d : Fin 1024), y = ix3 u h d := ⟨y 0, y 1, y 2, eq_ix3 y⟩
  have e := slabs8 m ρ c ⟨16 + t.val, by omega⟩ h d
  have b : (iblk1 (V6 m ρ) c 8 t : Vec Ideal S1x32x1024 .f32) (ix3 u h d) = (V6 m ρ c main_v5 : Vec Ideal S32x32x1024 .f32) (ix3 ⟨16 + t.val, by omega⟩ h d) := by
    blk_point [iblk1, idxc t]
  refine (b.trans e).trans ?_
  blk_ext [idxc t]

theorem result14 (c : Dev nD) (i : Fin 512) (j : Fin 1024) : (W8 m ρ c (Proc.devRef .tc main_v11) : Vec Ideal S512x1024 .bf16) (ix2 i j)
    = (m ((c : Thread nD τ).loc main_arg3) : Vec Ideal S2x512x1024 .f32) (ix3 1 i j) := by
  have e := (W7_arr m ρ c 14).trans (final14 m ρ c)
  show StableHlo.after hostOps2 (W7 m ρ c) (Proc.devRef .tc main_v11) _ = _
  have e' : (W7 m ρ c (Proc.devRef .tc main_v10_1) : Vec Ideal S16x32x1024 .bf16) = _ := e
  generalize W7 m ρ c = σ at e' ⊢
  entry_read
  rw [e']
  pointwise []
  blk_ext

theorem slabs9 (c : Dev nD) (L : Fin 32) (h : Fin 32) (d : Fin 1024) : (V6 m ρ c main_v6 : Vec Ideal S32x32x1024 .f32) (ix3 L h d)
    = (m ((c : Thread nD τ).loc main_arg4) : Vec Ideal S2x512x1024 .f32) (ix3 ⟨L.val / 16, by omega⟩ ⟨L.val % 16 * 32 + h.val, by omega⟩ d) := by
  rw [← W5_args m ρ c main_arg4 (by decide)]
  show StableHlo.after hostOps1 (W5 m ρ c) (Proc.devRef .tc main_v6) _ = _
  generalize W5 m ρ c = σ
  entry_read
  pointwise []

theorem out15 (x0 x1 x2 x3 x4 x5 x6 x7 x8 x9 x10 x11 x12) : out1_15 (F := Ideal) x0 x1 x2 x3 x4 x5 x6 x7 x8 x9 x10 x11 x12 = x9 := by
  funext y
  unfold out1_15
  canon_tiles x h
  idx_vars x
  idx_vars y
  pointwise [k1_pay3]
  blk_ext

theorem final15 (c : Dev nD) : ((dat1 (V6 m ρ) c).arrAt 15 cfg1.N : Vec Ideal S16x32x1024 .bf16)
    = fun y => (m ((c : Thread nD τ).loc main_arg4) : Vec Ideal S2x512x1024 .f32) (ix3 1 ⟨(y 0).val * 32 + (y 1).val, by have h0 : (y 0).val < 16 := (y 0).isLt; have h1 : (y 1).val < 32 := (y 1).isLt; omega⟩ (y 2)) := by
  refine (dat1 (V6 m ρ) c).arrAt_eq_of_covers 15 _ (by decide +kernel) fun t _ y => ?_
  blk_simp
  rw [after1_15, out15]
  have ht := (idxc t).2.2.2.2.2.2.2.2.2.2
  obtain ⟨u, h, d, rfl⟩ : ∃ (u : Fin 1) (h : Fin 32) (d : Fin 1024), y = ix3 u h d := ⟨y 0, y 1, y 2, eq_ix3 y⟩
  have e := slabs9 m ρ c ⟨16 + t.val, by omega⟩ h d
  have b : (iblk1 (V6 m ρ) c 9 t : Vec Ideal S1x32x1024 .f32) (ix3 u h d) = (V6 m ρ c main_v6 : Vec Ideal S32x32x1024 .f32) (ix3 ⟨16 + t.val, by omega⟩ h d) := by
    blk_point [iblk1, idxc t]
  refine (b.trans e).trans ?_
  blk_ext [idxc t]

theorem result15 (c : Dev nD) (i : Fin 512) (j : Fin 1024) : (W8 m ρ c (Proc.devRef .tc main_v12) : Vec Ideal S512x1024 .bf16) (ix2 i j)
    = (m ((c : Thread nD τ).loc main_arg4) : Vec Ideal S2x512x1024 .f32) (ix3 1 i j) := by
  have e := (W7_arr m ρ c 15).trans (final15 m ρ c)
  show StableHlo.after hostOps2 (W7 m ρ c) (Proc.devRef .tc main_v12) _ = _
  have e' : (W7 m ρ c (Proc.devRef .tc main_v10_2) : Vec Ideal S16x32x1024 .bf16) = _ := e
  generalize W7 m ρ c = σ at e' ⊢
  entry_read
  rw [e']
  pointwise []
  blk_ext

theorem slabs10 (c : Dev nD) (L : Fin 32) (h : Fin 64) (d : Fin 1024) : (V6 m ρ c main_v7 : Vec Ideal S32x64x1024 .f32) (ix3 L h d)
    = (m ((c : Thread nD τ).loc main_arg5) : Vec Ideal S2x1024x1024 .f32) (ix3 ⟨L.val / 16, by omega⟩ ⟨L.val % 16 * 64 + h.val, by omega⟩ d) := by
  rw [← W5_args m ρ c main_arg5 (by decide)]
  show StableHlo.after hostOps1 (W5 m ρ c) (Proc.devRef .tc main_v7) _ = _
  generalize W5 m ρ c = σ
  entry_read
  pointwise []

theorem out16 (x0 x1 x2 x3 x4 x5 x6 x7 x8 x9 x10 x11 x12) : out1_16 (F := Ideal) x0 x1 x2 x3 x4 x5 x6 x7 x8 x9 x10 x11 x12 = x10 := by
  funext y
  unfold out1_16
  canon_tiles x h
  idx_vars x
  idx_vars y
  pointwise [k1_pay4]
  blk_ext

theorem final16 (c : Dev nD) : ((dat1 (V6 m ρ) c).arrAt 16 cfg1.N : Vec Ideal S16x64x1024 .bf16)
    = fun y => (m ((c : Thread nD τ).loc main_arg5) : Vec Ideal S2x1024x1024 .f32) (ix3 1 ⟨(y 0).val * 64 + (y 1).val, by have h0 : (y 0).val < 16 := (y 0).isLt; have h1 : (y 1).val < 64 := (y 1).isLt; omega⟩ (y 2)) := by
  refine (dat1 (V6 m ρ) c).arrAt_eq_of_covers 16 _ (by decide +kernel) fun t _ y => ?_
  blk_simp
  rw [after1_16, out16]
  have ht := (idxc t).2.2.2.2.2.2.2.2.2.2
  obtain ⟨u, h, d, rfl⟩ : ∃ (u : Fin 1) (h : Fin 64) (d : Fin 1024), y = ix3 u h d := ⟨y 0, y 1, y 2, eq_ix3 y⟩
  have e := slabs10 m ρ c ⟨16 + t.val, by omega⟩ h d
  have b : (iblk1 (V6 m ρ) c 10 t : Vec Ideal S1x64x1024 .f32) (ix3 u h d) = (V6 m ρ c main_v7 : Vec Ideal S32x64x1024 .f32) (ix3 ⟨16 + t.val, by omega⟩ h d) := by
    blk_point [iblk1, idxc t]
  refine (b.trans e).trans ?_
  blk_ext [idxc t]

theorem result16 (c : Dev nD) (i : Fin 1024) (j : Fin 1024) : (W8 m ρ c (Proc.devRef .tc main_v13) : Vec Ideal S1024x1024 .bf16) (ix2 i j)
    = (m ((c : Thread nD τ).loc main_arg5) : Vec Ideal S2x1024x1024 .f32) (ix3 1 i j) := by
  have e := (W7_arr m ρ c 16).trans (final16 m ρ c)
  show StableHlo.after hostOps2 (W7 m ρ c) (Proc.devRef .tc main_v13) _ = _
  have e' : (W7 m ρ c (Proc.devRef .tc main_v10_3) : Vec Ideal S16x64x1024 .bf16) = _ := e
  generalize W7 m ρ c = σ at e' ⊢
  entry_read
  rw [e']
  pointwise []
  blk_ext

theorem slabs11 (c : Dev nD) (L : Fin 32) (h : Fin 64) (d : Fin 4096) : (V6 m ρ c main_v8 : Vec Ideal S32x64x4096 .f32) (ix3 L h d)
    = (m ((c : Thread nD τ).loc main_arg6) : Vec Ideal S2x1024x4096 .f32) (ix3 ⟨L.val / 16, by omega⟩ ⟨L.val % 16 * 64 + h.val, by omega⟩ d) := by
  rw [← W5_args m ρ c main_arg6 (by decide)]
  show StableHlo.after hostOps1 (W5 m ρ c) (Proc.devRef .tc main_v8) _ = _
  generalize W5 m ρ c = σ
  entry_read
  pointwise []

theorem out17 (x0 x1 x2 x3 x4 x5 x6 x7 x8 x9 x10 x11 x12) : out1_17 (F := Ideal) x0 x1 x2 x3 x4 x5 x6 x7 x8 x9 x10 x11 x12 = x11 := by
  funext y
  unfold out1_17
  canon_tiles x h
  idx_vars x
  idx_vars y
  pointwise [k1_pay5]
  blk_ext

theorem final17 (c : Dev nD) : ((dat1 (V6 m ρ) c).arrAt 17 cfg1.N : Vec Ideal S16x64x4096 .bf16)
    = fun y => (m ((c : Thread nD τ).loc main_arg6) : Vec Ideal S2x1024x4096 .f32) (ix3 1 ⟨(y 0).val * 64 + (y 1).val, by have h0 : (y 0).val < 16 := (y 0).isLt; have h1 : (y 1).val < 64 := (y 1).isLt; omega⟩ (y 2)) := by
  refine (dat1 (V6 m ρ) c).arrAt_eq_of_covers 17 _ (by decide +kernel) fun t _ y => ?_
  blk_simp
  rw [after1_17, out17]
  have ht := (idxc t).2.2.2.2.2.2.2.2.2.2
  obtain ⟨u, h, d, rfl⟩ : ∃ (u : Fin 1) (h : Fin 64) (d : Fin 4096), y = ix3 u h d := ⟨y 0, y 1, y 2, eq_ix3 y⟩
  have e := slabs11 m ρ c ⟨16 + t.val, by omega⟩ h d
  have b : (iblk1 (V6 m ρ) c 11 t : Vec Ideal S1x64x4096 .f32) (ix3 u h d) = (V6 m ρ c main_v8 : Vec Ideal S32x64x4096 .f32) (ix3 ⟨16 + t.val, by omega⟩ h d) := by
    blk_point [iblk1, idxc t]
  refine (b.trans e).trans ?_
  blk_ext [idxc t]

theorem result17 (c : Dev nD) (i : Fin 1024) (j : Fin 4096) : (W8 m ρ c (Proc.devRef .tc main_v14) : Vec Ideal S1024x4096 .bf16) (ix2 i j)
    = (m ((c : Thread nD τ).loc main_arg6) : Vec Ideal S2x1024x4096 .f32) (ix3 1 i j) := by
  have e := (W7_arr m ρ c 17).trans (final17 m ρ c)
  show StableHlo.after hostOps2 (W7 m ρ c) (Proc.devRef .tc main_v14) _ = _
  have e' : (W7 m ρ c (Proc.devRef .tc main_v10_4) : Vec Ideal S16x64x4096 .bf16) = _ := e
  generalize W7 m ρ c = σ at e' ⊢
  entry_read
  rw [e']
  pointwise []
  blk_ext

theorem slabs12 (c : Dev nD) (L : Fin 32) (h : Fin 256) (d : Fin 1024) : (V6 m ρ c main_v9 : Vec Ideal S32x256x1024 .f32) (ix3 L h d)
    = (m ((c : Thread nD τ).loc main_arg7) : Vec Ideal S2x4096x1024 .f32) (ix3 ⟨L.val / 16, by omega⟩ ⟨L.val % 16 * 256 + h.val, by omega⟩ d) := by
  rw [← W5_args m ρ c main_arg7 (by decide)]
  show StableHlo.after hostOps1 (W5 m ρ c) (Proc.devRef .tc main_v9) _ = _
  generalize W5 m ρ c = σ
  entry_read
  pointwise []

theorem out18 (x0 x1 x2 x3 x4 x5 x6 x7 x8 x9 x10 x11 x12) : out1_18 (F := Ideal) x0 x1 x2 x3 x4 x5 x6 x7 x8 x9 x10 x11 x12 = x12 := by
  funext y
  unfold out1_18
  canon_tiles x h
  idx_vars x
  idx_vars y
  pointwise [k1_pay7, k1_pay6]
  blk_ext

theorem final18 (c : Dev nD) : ((dat1 (V6 m ρ) c).arrAt 18 cfg1.N : Vec Ideal S16x256x1024 .bf16)
    = fun y => (m ((c : Thread nD τ).loc main_arg7) : Vec Ideal S2x4096x1024 .f32) (ix3 1 ⟨(y 0).val * 256 + (y 1).val, by have h0 : (y 0).val < 16 := (y 0).isLt; have h1 : (y 1).val < 256 := (y 1).isLt; omega⟩ (y 2)) := by
  refine (dat1 (V6 m ρ) c).arrAt_eq_of_covers 18 _ (by decide +kernel) fun t _ y => ?_
  blk_simp
  rw [after1_18, out18]
  have ht := (idxc t).2.2.2.2.2.2.2.2.2.2
  obtain ⟨u, h, d, rfl⟩ : ∃ (u : Fin 1) (h : Fin 256) (d : Fin 1024), y = ix3 u h d := ⟨y 0, y 1, y 2, eq_ix3 y⟩
  have e := slabs12 m ρ c ⟨16 + t.val, by omega⟩ h d
  have b : (iblk1 (V6 m ρ) c 12 t : Vec Ideal S1x256x1024 .f32) (ix3 u h d) = (V6 m ρ c main_v9 : Vec Ideal S32x256x1024 .f32) (ix3 ⟨16 + t.val, by omega⟩ h d) := by
    blk_point [iblk1, idxc t]
  refine (b.trans e).trans ?_
  blk_ext [idxc t]

theorem result18 (c : Dev nD) (i : Fin 4096) (j : Fin 1024) : (W8 m ρ c (Proc.devRef .tc main_v15) : Vec Ideal S4096x1024 .bf16) (ix2 i j)
    = (m ((c : Thread nD τ).loc main_arg7) : Vec Ideal S2x4096x1024 .f32) (ix3 1 i j) := by
  have e := (W7_arr m ρ c 18).trans (final18 m ρ c)
  show StableHlo.after hostOps2 (W7 m ρ c) (Proc.devRef .tc main_v15) _ = _
  have e' : (W7 m ρ c (Proc.devRef .tc main_v10_5) : Vec Ideal S16x256x1024 .bf16) = _ := e
  generalize W7 m ρ c = σ at e' ⊢
  entry_read
  rw [e']
  pointwise []
  blk_ext

end Cert.Kernel5Ideal.Na

end
-- ==== Proof.NbVal.lean ====
/- Layer 1. The neighbourhood attention program computes its reference, and passes on the weights it casts. -/
module

public import proofs.«01_k».proof.Defs
public import proofs.«01_k».proof.Proof.NbMath
public import proofs.«01_k».proof.Proof.NbCast
public import proofs.«01_k».proof.Proof.NbRun
public import proofs.«01_k».proof.Proof.Gen.Reference5Ideal.Run

@[expose] public section
set_option maxRecDepth 16384
noncomputable section

/-- The shape relations of the precondition's operations. -/
instance Cert.Pre_finite5.facts : Cert.Pre_finite5.Facts where
  slices_S8x2048x3072_S8x2048x1024_0_0_0 := by decide
  bitsLt_bf16_f32 := by decide
  bcast_S_S8x2048x1024 := by decide
  slices_S2x8x15x31_S1x8x15x31_1_0_0_0 := by decide
  shapeCasts_S1x8x15x31_S8x15x31 := by decide
  bcast_S_S8x15x31 := by decide

namespace Cert.Kernel5Ideal.Na
open Idealize.ShloMosaic Idealize.ShloMosaic.TcCoe Idealize.SL.Sem
open Cert.Kernel5Ideal Cert.Kernel5Ideal.Gen
open Cert.Reference5Ideal.Na (near)

/-- The precondition's bound is infinity. -/
theorem inf_bits : Ideal.ofBits .f32 0x7F800000#32 = ⊤ := by simp [Ideal.ofBits, Ideal.ieee]

/-- A value whose magnitude is below infinity is a real number. -/
theorem real_of_lt (x : EReal) (h : Ideal.cmp .olt (max x (-x)) ⊤ = 1#1) : ∃ r : ℝ, x = r := by
  have hlt : max x (-x) < ⊤ := by
    by_contra hn
    simp [Ideal.cmp, hn] at h
  have h1 : x ≠ ⊤ := fun e => by subst e; simp at hlt
  have h2 : x ≠ ⊥ := fun e => by subst e; simp at hlt
  exact ⟨x.toReal, (EReal.coe_toReal h1 h2).symm⟩

variable (x : Vec Ideal S8x2048x3072 .bf16) (rpb : Vec Ideal S2x8x15x31 .f32)

section
variable (w2 : Vec Ideal S2x1024x5120 .f32) (w3 w4 : Vec Ideal S2x512x1024 .f32) (w5 : Vec Ideal S2x1024x1024 .f32)
  (w6 : Vec Ideal S2x1024x4096 .f32) (w7 : Vec Ideal S2x4096x1024 .f32)

/-- Where the precondition holds, the attention's queries and keys are real numbers. -/
theorem real_x (h : (Cert.Pre_finite5.fn (F := Ideal) x rpb w2 w3 w4 w5 w6 w7).1 = fun _ => 1#1) (b : Fin 8) (p : Fin 2048) (e : Fin 1024) :
    ∃ r : ℝ, x (ix3 b p ⟨e.val, by omega⟩) = r := by
  refine real_of_lt _ ?_
  have h' := congrFun h (ix3 b p e)
  rw [← h']
  pointwise [Cert.Pre_finite5.fn]
  rw [inf_bits]
  rfl

/-- Where the precondition holds, the bias table of the layer is made of real numbers. -/
theorem real_rpb (h : (Cert.Pre_finite5.fn (F := Ideal) x rpb w2 w3 w4 w5 w6 w7).2 = fun _ => 1#1) (i : Fin 8) (d : Fin 15) (l : Fin 31) :
    ∃ r : ℝ, rpb (ix4 1 i d l) = r := by
  refine real_of_lt _ ?_
  have h' := congrFun h (ix3 i d l)
  rw [← h']
  pointwise [Cert.Pre_finite5.fn]
  rw [inf_bits]
  rfl
end

/-- Two matrices equal at every row and column are equal. -/
theorem slab_ext {a b : ℕ} (u : Vec Ideal ⟨2, ![a, b]⟩ .bf16) (f : Fin a → Fin b → EReal) (h : ∀ i j, u (ix2 i j) = f i j) :
    u = fun y => f (y 0) (y 1) := by
  funext y
  obtain ⟨i, j, rfl⟩ : ∃ (i : Fin a) (j : Fin b), y = ix2 i j := ⟨y 0, y 1, eq_ix2 y⟩
  exact h i j

/-! The reference's casts: a layer's slab of a stacked weight, read at a row and a column. -/
theorem cast2 (w : Vec Ideal S2x1024x5120 .f32) (i : Fin 1024) (j : Fin 5120) {h1 : Shape.Slices S2x1024x5120 ![0, 0, 0] Cert.Reference5Ideal.S1x1024x5120} {h2 : Shape.ShapeCasts Cert.Reference5Ideal.S1x1024x5120 S1024x5120} {h3 : FTy.bits .bf16 < FTy.bits .f32} :
    (truncf .bf16 (shapeCast S1024x5120 (extractStridedSlice Cert.Reference5Ideal.S1x1024x5120 ![0, 0, 0] w h1) h2) h3 : FVec Ideal S1024x5120 .bf16) (ix2 i j) = w (ix3 0 i j) := by
  pointwise []

theorem cast3 (w : Vec Ideal S2x512x1024 .f32) (i : Fin 512) (j : Fin 1024) {h1 : Shape.Slices S2x512x1024 ![1, 0, 0] Cert.Reference5Ideal.S1x512x1024} {h2 : Shape.ShapeCasts Cert.Reference5Ideal.S1x512x1024 S512x1024} {h3 : FTy.bits .bf16 < FTy.bits .f32} :
    (truncf .bf16 (shapeCast S512x1024 (extractStridedSlice Cert.Reference5Ideal.S1x512x1024 ![1, 0, 0] w h1) h2) h3 : FVec Ideal S512x1024 .bf16) (ix2 i j) = w (ix3 1 i j) := by
  pointwise []

theorem cast5 (w : Vec Ideal S2x1024x1024 .f32) (i : Fin 1024) (j : Fin 1024) {h1 : Shape.Slices S2x1024x1024 ![1, 0, 0] Cert.Reference5Ideal.S1x1024x1024} {h2 : Shape.ShapeCasts Cert.Reference5Ideal.S1x1024x1024 S1024x1024} {h3 : FTy.bits .bf16 < FTy.bits .f32} :
    (truncf .bf16 (shapeCast S1024x1024 (extractStridedSlice Cert.Reference5Ideal.S1x1024x1024 ![1, 0, 0] w h1) h2) h3 : FVec Ideal S1024x1024 .bf16) (ix2 i j) = w (ix3 1 i j) := by
  pointwise []

theorem cast6 (w : Vec Ideal S2x1024x4096 .f32) (i : Fin 1024) (j : Fin 4096) {h1 : Shape.Slices S2x1024x4096 ![1, 0, 0] Cert.Reference5Ideal.S1x1024x4096} {h2 : Shape.ShapeCasts Cert.Reference5Ideal.S1x1024x4096 S1024x4096} {h3 : FTy.bits .bf16 < FTy.bits .f32} :
    (truncf .bf16 (shapeCast S1024x4096 (extractStridedSlice Cert.Reference5Ideal.S1x1024x4096 ![1, 0, 0] w h1) h2) h3 : FVec Ideal S1024x4096 .bf16) (ix2 i j) = w (ix3 1 i j) := by
  pointwise []

theorem cast7 (w : Vec Ideal S2x4096x1024 .f32) (i : Fin 4096) (j : Fin 1024) {h1 : Shape.Slices S2x4096x1024 ![1, 0, 0] Cert.Reference5Ideal.S1x4096x1024} {h2 : Shape.ShapeCasts Cert.Reference5Ideal.S1x4096x1024 S4096x1024} {h3 : FTy.bits .bf16 < FTy.bits .f32} :
    (truncf .bf16 (shapeCast S4096x1024 (extractStridedSlice Cert.Reference5Ideal.S1x4096x1024 ![1, 0, 0] w h1) h2) h3 : FVec Ideal S4096x1024 .bf16) (ix2 i j) = w (ix3 1 i j) := by
  pointwise []

/-- The kernel computes the reference's attention and weights wherever the precondition holds. -/
theorem algebraic : Cert.algebraic_Kernel5Ideal_Reference5Ideal_pre_finite5 := by
  intro m g m' g' hpre hagree
  refine ⟨fun c => fun y => near (m ((c : Thread nD τ).loc main_arg0)) (m ((c : Thread nD τ).loc main_arg1)) (y 0) (y 1) (y 2),
    fun c => fun y => (m ((c : Thread nD τ).loc main_arg2) : Vec Ideal S2x1024x5120 .f32) (ix3 0 (y 0) (y 1)),
    fun c => fun y => (m ((c : Thread nD τ).loc main_arg3) : Vec Ideal S2x512x1024 .f32) (ix3 1 (y 0) (y 1)),
    fun c => fun y => (m ((c : Thread nD τ).loc main_arg4) : Vec Ideal S2x512x1024 .f32) (ix3 1 (y 0) (y 1)),
    fun c => fun y => (m ((c : Thread nD τ).loc main_arg5) : Vec Ideal S2x1024x1024 .f32) (ix3 1 (y 0) (y 1)),
    fun c => fun y => (m ((c : Thread nD τ).loc main_arg6) : Vec Ideal S2x1024x4096 .f32) (ix3 1 (y 0) (y 1)),
    fun c => fun y => (m ((c : Thread nD τ).loc main_arg7) : Vec Ideal S2x4096x1024 .f32) (ix3 1 (y 0) (y 1)), ?_, ?_⟩
  · refine (θ_run _ _ _).mono (fun r h c => ?_) (run_vals m g)
    obtain ⟨h0, h1, h2, h3, h4, h5, h6, hargs⟩ := h c
    refine ⟨h0.trans ?_, h1.trans ?_, h2.trans ?_, h3.trans ?_, h4.trans ?_, h5.trans ?_, h6.trans ?_, hargs⟩
    · rw [W8_of m g c main_v10_0 (by decide)]
      refine (W7_arr m g c 13).trans ((attn_final m g c).trans ?_)
      funext y
      exact attn_near _ _ (real_x _ _ _ _ _ _ _ _ (hpre c).1) (real_rpb _ _ _ _ _ _ _ _ (hpre c).2) (y 0) (y 1) (y 2)
    · exact slab_ext _ _ (result3 m g c)
    · exact slab_ext _ _ (result14 m g c)
    · exact slab_ext _ _ (result15 m g c)
    · exact slab_ext _ _ (result16 m g c)
    · exact slab_ext _ _ (result17 m g c)
    · exact slab_ext _ _ (result18 m g c)
  · refine (θ_run _ _ _).mono (fun r h c => ?_) (Cert.Reference5Ideal.Value.run m' g')
    obtain ⟨h0, h1, h2, h3, h4, h5, h6, hargs⟩ := h c
    obtain ⟨a0, a1, a2, a3, a4, a5, a6, a7⟩ := hagree c
    refine ⟨h0.trans ?_, h1.trans ?_, h2.trans ?_, h3.trans ?_, h4.trans ?_, h5.trans ?_, h6.trans ?_, hargs⟩
    · refine (Cert.Reference5Ideal.Na.out115_eq m' c).trans ?_
      funext y
      obtain ⟨b, p, e, rfl⟩ : ∃ (b : Fin 8) (p : Fin 2048) (e : Fin 512), y = ix3 b p e := ⟨y 0, y 1, y 2, eq_ix3 y⟩
      refine (Cert.Reference5Ideal.Na.out_at _ b p e).trans ?_
      exact congrArg₂ (fun u v => near u v b p e) a0 a1
    · exact slab_ext _ _ fun i j => (cast2 _ i j).trans (congrFun a2 (ix3 0 i j))
    · exact slab_ext _ _ fun i j => (cast3 _ i j).trans (congrFun a3 (ix3 1 i j))
    · exact slab_ext _ _ fun i j => (cast3 _ i j).trans (congrFun a4 (ix3 1 i j))
    · exact slab_ext _ _ fun i j => (cast5 _ i j).trans (congrFun a5 (ix3 1 i j))
    · exact slab_ext _ _ fun i j => (cast6 _ i j).trans (congrFun a6 (ix3 1 i j))
    · exact slab_ext _ _ fun i j => (cast7 _ i j).trans (congrFun a7 (ix3 1 i j))

end Cert.Kernel5Ideal.Na
-- ==== Proof.MlpRow.lean ====
/- One token row of the mixing and feed-forward layer, as a plain function of the row's inputs. -/
module

public import Idealize.ShloMosaic.Lib.Pointwise

@[expose] public section

noncomputable section

namespace Cert.MlpRow
open Idealize.ShloMosaic

/-- The reciprocal root mean square of a row, with the layer's small constant under the root. -/
def inv (h : Fin 1024 → EReal) : EReal :=
  Ideal.rsqrt (Ideal.div (∑ x, h x * h x) (Ideal.ofBits FTy.f32 1149239296#32) + Ideal.ofBits FTy.f32 897988541#32)

/-- The residual row plus the output projection of the two gated attention projections. -/
def mix (x : Fin 1024 → EReal) (yn yd : Fin 512 → EReal) (gn gd : Fin 1024 → EReal)
    (wn wd : Fin 512 → Fin 1024 → EReal) (wo : Fin 1024 → Fin 1024 → EReal) (c : Fin 1024) : EReal :=
  x c + ∑ j, (Ideal.logistic (gn j) * ∑ k, yn k * wn k j + Ideal.logistic (gd j) * ∑ k, yd k * wd k j) * wo j c

/-- One hidden unit: the squared positive part of the normalized row's projection. -/
def hid (h g w : Fin 1024 → EReal) : EReal :=
  max (∑ x, h x * inv h * g x * w x) 0 * max (∑ x, h x * inv h * g x * w x) 0

/-- The row plus its feed-forward update. -/
def ffn (h g : Fin 1024 → EReal) (w1 : Fin 1024 → Fin 4096 → EReal) (w2 : Fin 4096 → Fin 1024 → EReal) (c : Fin 1024) : EReal :=
  h c + ∑ k, hid h g (fun x => w1 x k) * w2 k c

/-- The final normalization of a row. -/
def norm (y g : Fin 1024 → EReal) (c : Fin 1024) : EReal := y c * inv y * g c

/-- A sum over 4096 terms is the sum of its four runs of 1024. -/
theorem sum_four (f : Fin 4096 → EReal) : ∑ k, f k
    = (∑ k : Fin 1024, f ⟨k.val, by omega⟩) + (∑ k : Fin 1024, f ⟨1024 + k.val, by omega⟩)
      + (∑ k : Fin 1024, f ⟨2048 + k.val, by omega⟩) + ∑ k : Fin 1024, f ⟨3072 + k.val, by omega⟩ := by
  rw [Fin.sum_univ_two_halves 3072 1024 rfl f, Fin.sum_univ_two_halves 2048 1024 rfl (fun k : Fin 3072 => f ⟨k.val, _⟩),
    Fin.sum_univ_two_halves 1024 1024 rfl (fun k : Fin 2048 => f ⟨k.val, _⟩)]

/-- The feed-forward update taken in four runs of hidden units, added one after the other. -/
theorem ffn_four (h g : Fin 1024 → EReal) (w1 : Fin 1024 → Fin 4096 → EReal) (w2 : Fin 4096 → Fin 1024 → EReal) (c : Fin 1024) :
    h c + (∑ k : Fin 1024, hid h g (fun x => w1 x ⟨k.val, by omega⟩) * w2 ⟨k.val, by omega⟩ c)
      + (∑ k : Fin 1024, hid h g (fun x => w1 x ⟨1024 + k.val, by omega⟩) * w2 ⟨1024 + k.val, by omega⟩ c)
      + (∑ k : Fin 1024, hid h g (fun x => w1 x ⟨2048 + k.val, by omega⟩) * w2 ⟨2048 + k.val, by omega⟩ c)
      + (∑ k : Fin 1024, hid h g (fun x => w1 x ⟨3072 + k.val, by omega⟩) * w2 ⟨3072 + k.val, by omega⟩ c)
    = ffn h g w1 w2 c := by
  rw [ffn, sum_four]
  simp only [add_assoc]

end Cert.MlpRow

end
-- ==== Proof.MlpPay.lean ====
/- The mixing and feed-forward kernel's stored block, row by row. -/
module

public import proofs.«01_k».proof.Proof.Gen.Kernel2Ideal.Value
public import Idealize.ShloMosaic.Lib.Pipeline.ValueKit
public import proofs.«01_k».proof.Proof.MlpRow

@[expose] public section
set_option maxRecDepth 16384
noncomputable section

namespace Cert.Kernel2Ideal.Mlp
open Idealize.ShloMosaic Idealize.ShloMosaic.TcCoe Idealize.SL.Sem
open Cert.Kernel2Ideal Cert.Kernel2Ideal.Gen

/-- The mixed residual row. -/
theorem pay2 (v0 : Vec Ideal S512x512 .bf16) (v2 : Vec Ideal S512x1024 .bf16) (v4 : Vec Ideal S512x512 .bf16) (v6 : Vec Ideal S512x1024 .bf16) (v8 : Vec Ideal S512x1024 .f32) (v12 : Vec Ideal S512x1024 .f32) (v17 : Vec Ideal S512x1024 .f32) (v20 : Vec Ideal S1024x1024 .bf16) (r : Fin 512) (c : Fin 1024) :
   k0_pay2 v0 v2 v4 v6 v8 v12 v17 v20 (ix2 r c)
     = MlpRow.mix (fun c => v17 (ix2 r c)) (fun c => v0 (ix2 r c)) (fun c => v4 (ix2 r c)) (fun c => v8 (ix2 r c)) (fun c => v12 (ix2 r c))
        (fun a b => v2 (ix2 a b)) (fun a b => v6 (ix2 a b)) (fun a b => v20 (ix2 a b)) c := by
  pointwise [k0_pay2]
  rfl
/-- The mixed row over its root mean square. -/
theorem pay4 (v0 : Vec Ideal S512x512 .bf16) (v2 : Vec Ideal S512x1024 .bf16) (v4 : Vec Ideal S512x512 .bf16) (v6 : Vec Ideal S512x1024 .bf16) (v8 : Vec Ideal S512x1024 .f32) (v12 : Vec Ideal S512x1024 .f32) (v17 : Vec Ideal S512x1024 .f32) (v20 : Vec Ideal S1024x1024 .bf16) (h : Fin 512 → Fin 1024 → EReal)
   (hh : ∀ r c, k0_pay2 v0 v2 v4 v6 v8 v12 v17 v20 (ix2 r c) = h r c)
   (r : Fin 512) (c : Fin 1024) :
   k0_pay4 v0 v2 v4 v6 v8 v12 v17 v20 (ix2 r c) = h r c * MlpRow.inv (h r) := by
  pointwise [k0_pay4]
  simp only [hh]
  rfl
/-- The last run of hidden units added, and the final normalization. -/
theorem pay1 (v64 : FVec Ideal S512x1024 .f32) (v69 : FVec Ideal S512x1024 .f32) (v71 : Vec Ideal S1024x1024 .bf16) (v74 : Vec Ideal S1x1024 .f32) (r : Fin 512) (c : Fin 1024) :
   k0_pay1 v64 v69 v71 v74 (ix2 r c) = MlpRow.norm (fun c => v64 (ix2 r c) + ∑ k, v69 (ix2 r k) * v71 (ix2 k c)) (fun c => v74 (ix2 0 c)) c := by
  pointwise [k0_pay1]
  rfl
/-- The last run of hidden units. -/
theorem pay7 (v24 : FVec Ideal S1x1024 .f32) (v34 : FVec Ideal S512x1024 .f32) (v65 : Vec Ideal S1024x1024 .bf16) (h : Fin 512 → Fin 1024 → EReal)
   (hh : ∀ r c, v34 (ix2 r c) = h r c * MlpRow.inv (h r)) (r : Fin 512) (c : Fin 1024) :
   k0_pay7 v24 v34 v65 (ix2 r c) = MlpRow.hid (h r) (fun c => v24 (ix2 0 c)) (fun x => v65 (ix2 x c)) := by
  pointwise [k0_pay7, k0_pay5]
  simp only [hh]
  rfl
/-- The first three runs of hidden units, added in turn. -/
theorem pay6 (v22 : FVec Ideal S512x1024 .f32) (v24 : FVec Ideal S1x1024 .f32) (v34 : FVec Ideal S512x1024 .f32) (v38 v44 v47 v53 v56 v62 : Vec Ideal S1024x1024 .bf16) (h : Fin 512 → Fin 1024 → EReal)
   (hh : ∀ r c, v34 (ix2 r c) = h r c * MlpRow.inv (h r)) (r : Fin 512) (c : Fin 1024) :
   k0_pay6 v22 v24 v34 v38 v44 v47 v53 v56 v62 (ix2 r c) = v22 (ix2 r c) + (∑ k, MlpRow.hid (h r) (fun c => v24 (ix2 0 c)) (fun x => v38 (ix2 x k)) * v44 (ix2 k c))
      + (∑ k, MlpRow.hid (h r) (fun c => v24 (ix2 0 c)) (fun x => v47 (ix2 x k)) * v53 (ix2 k c))
      + (∑ k, MlpRow.hid (h r) (fun c => v24 (ix2 0 c)) (fun x => v56 (ix2 x k)) * v62 (ix2 k c)) := by
  pointwise [k0_pay6, k0_pay5]
  simp only [hh]
  rfl
/-- The norm's scale as the body reads it. -/
theorem pay8 (x0 : Vec Ideal S512x1024 .f32) (x1 : Vec Ideal S512x512 .bf16) (x2 : Vec Ideal S512x512 .bf16) (x3 : Vec Ideal S512x2048 .f32) (x4 : Vec Ideal S512x1024 .bf16) (x5 : Vec Ideal S512x1024 .bf16) (x6 : Vec Ideal S1024x1024 .bf16) (x7 : Vec Ideal S1x1024 .f32) (x8 : Vec Ideal S1024x4096 .bf16) (x9 : Vec Ideal S4096x1024 .bf16) (x10 : Vec Ideal S1x1024 .f32) (c : Fin 1024) :
   k0_pay8 x0 x1 x2 x3 x4 x5 x6 x7 x8 x9 x10 (ix2 0 c) = x7 (ix2 0 c) := by
  pointwise [k0_pay8, k0_pay3]

/-- What the body stores, row by row. -/
theorem out_row (x0 : Vec Ideal S512x1024 .f32) (x1 : Vec Ideal S512x512 .bf16) (x2 : Vec Ideal S512x512 .bf16) (x3 : Vec Ideal S512x2048 .f32) (x4 : Vec Ideal S512x1024 .bf16) (x5 : Vec Ideal S512x1024 .bf16) (x6 : Vec Ideal S1024x1024 .bf16) (x7 : Vec Ideal S1x1024 .f32) (x8 : Vec Ideal S1024x4096 .bf16) (x9 : Vec Ideal S4096x1024 .bf16) (x10 : Vec Ideal S1x1024 .f32) (r : Fin 512) (c : Fin 1024) :
   out0_11 x0 x1 x2 x3 x4 x5 x6 x7 x8 x9 x10 (ix2 r c) =
     MlpRow.norm (MlpRow.ffn (MlpRow.mix (fun c => x0 (ix2 r c)) (fun c => x1 (ix2 r c)) (fun c => x2 (ix2 r c)) (fun c => x3 (ix2 r ⟨c.val, by omega⟩)) (fun c => x3 (ix2 r ⟨1024 + c.val, by omega⟩))
        (fun a b => x4 (ix2 a b)) (fun a b => x5 (ix2 a b)) (fun a b => x6 (ix2 a b))) (fun c => x7 (ix2 0 c)) (fun a b => x8 (ix2 a b)) (fun a b => x9 (ix2 a b))) (fun c => x10 (ix2 0 c)) c := by
  have h2 : ∀ r c, k0_pay2 (View.ld x1 r0_0) (View.ld x4 r0_1) (View.ld x2 r0_0) (View.ld x5 r0_1) (View.ld x3 r0_2) (View.ld x3 r0_3) (View.ld x0 r0_1) (View.ld x6 r0_4) (ix2 r c) = MlpRow.mix (fun c => x0 (ix2 r c)) (fun c => x1 (ix2 r c)) (fun c => x2 (ix2 r c)) (fun c => x3 (ix2 r ⟨c.val, by omega⟩)) (fun c => x3 (ix2 r ⟨1024 + c.val, by omega⟩))
        (fun a b => x4 (ix2 a b)) (fun a b => x5 (ix2 a b)) (fun a b => x6 (ix2 a b)) c := by
    intro r c
    rw [pay2]
    pointwise []
  have h9 : ∀ r c, k0_pay9 x0 x1 x2 x3 x4 x5 x6 x7 x8 x9 x10 (ix2 r c) = _ := pay4 _ _ _ _ _ _ _ _ _ h2
  unfold out0_11
  rw [View.canon_unit_zero (by decide)]
  rw [pay1]
  congr 1
  · funext c
    rw [pay6 _ _ _ _ _ _ _ _ _ _ h9]
    simp only [pay7 _ _ _ _ h9, h2, pay8]
    rw [← MlpRow.ffn_four]
    pointwise []
  · pointwise []
end Cert.Kernel2Ideal.Mlp
-- ==== Proof.MlpRef.lean ====
/- The mixing and feed-forward reference, row by row. -/
module

public import proofs.«01_k».proof.Proof.Gen.Reference2Ideal.Read
public import proofs.«01_k».proof.Proof.MlpRow

@[expose] public section
set_option maxRecDepth 16384
noncomputable section

namespace Cert.Reference2Ideal.Mlp
open Idealize.ShloMosaic Idealize.ShloMosaic.TcCoe Idealize.SL.Sem
open Cert.Reference2Ideal Cert.Reference2Ideal.Gen Cert.Reference2Ideal.Read

variable (x0 : Vec Ideal S8x2048x1024 .f32) (x1 x2 : Vec Ideal S8x2048x512 .bf16) (x3 : Vec Ideal S8x2048x2048 .f32)
  (x4 x5 : Vec Ideal S512x1024 .bf16) (x6 : Vec Ideal S1024x1024 .bf16) (x7 : Vec Ideal S1024 .f32)
  (x8 : Vec Ideal S1024x4096 .bf16) (x9 : Vec Ideal S4096x1024 .bf16) (x10 : Vec Ideal S1024 .f32)

/-- The mixed row of token `(a, b)`. -/
def mixed (a : Fin 8) (b : Fin 2048) : Fin 1024 → EReal :=
  MlpRow.mix (fun c => x0 (ix3 a b c)) (fun c => x1 (ix3 a b c)) (fun c => x2 (ix3 a b c))
    (fun c => x3 (ix3 a b ⟨c.val, by omega⟩)) (fun c => x3 (ix3 a b ⟨1024 + c.val, by omega⟩))
    (fun i j => x4 (ix2 i j)) (fun i j => x5 (ix2 i j)) (fun i j => x6 (ix2 i j))

theorem v25 (a : Fin 8) (b : Fin 2048) (c : Fin 1024) :
    val_main_v25 (F := Ideal) x0 x1 x2 x3 x4 x5 x6 (ix3 a b c) = mixed x0 x1 x2 x3 x4 x5 x6 a b c := by
  pointwise [val_main_v25, val_main_v24, val_main_v23, val_main_v22, val_main_v21, val_main_v20, val_main_v19, val_main_cst_2,
    val_main_v18, val_main_v17, val_main_cst_1, val_main_v16, val_main_v15, val_main_v14, val_main_v13, val_main_v12, val_main_cst_0,
    val_main_v11, val_main_v10, val_main_cst, val_main_v9, val_main_v8, val_main_v7, val_main_v6, val_main_v5, val_main_v4, val_main_v3,
    val_main_v2, val_main_v1, val_main_v0]
  rfl

theorem v38 (a : Fin 8) (b : Fin 2048) (c : Fin 1024) :
    val_main_v38 (F := Ideal) x0 x1 x2 x3 x4 x5 x6 x7 (ix3 a b c)
      = mixed x0 x1 x2 x3 x4 x5 x6 a b c * MlpRow.inv (mixed x0 x1 x2 x3 x4 x5 x6 a b) * x7 (ix1 c) := by
  pointwise [val_main_v38, val_main_v37, val_main_v36, val_main_v35, val_main_v34, val_main_v33, val_main_v32, val_main_v31, val_main_cst_5,
    val_main_v30, val_main_v29, val_main_cst_4, val_main_v28, val_main_v27, val_main_cst_3, val_main_v26]
  simp only [v25]
  rfl

theorem v42 (a : Fin 8) (b : Fin 2048) (k : Fin 4096) :
    val_main_v42 (F := Ideal) x0 x1 x2 x3 x4 x5 x6 x7 x8 (ix3 a b k)
      = MlpRow.hid (mixed x0 x1 x2 x3 x4 x5 x6 a b) (fun c => x7 (ix1 c)) (fun x => x8 (ix2 x k)) := by
  pointwise [val_main_v42, val_main_v41, val_main_call0_v0, val_main_call0_cst, val_main_v40, val_main_v39]
  simp only [v38]
  rfl

theorem v45 (a : Fin 8) (b : Fin 2048) (c : Fin 1024) :
    val_main_v45 (F := Ideal) x0 x1 x2 x3 x4 x5 x6 x7 x8 x9 (ix3 a b c)
      = MlpRow.ffn (mixed x0 x1 x2 x3 x4 x5 x6 a b) (fun c => x7 (ix1 c)) (fun i j => x8 (ix2 i j)) (fun i j => x9 (ix2 i j)) c := by
  pointwise [val_main_v45, val_main_v44, val_main_v43]
  simp only [v25, v42]
  rfl

/-- The reference's result at token `(a, b)`. -/
theorem v58 (a : Fin 8) (b : Fin 2048) (c : Fin 1024) :
    val_main_v58 (F := Ideal) x0 x1 x2 x3 x4 x5 x6 x7 x8 x9 x10 (ix3 a b c)
      = MlpRow.norm (MlpRow.ffn (mixed x0 x1 x2 x3 x4 x5 x6 a b) (fun c => x7 (ix1 c)) (fun i j => x8 (ix2 i j)) (fun i j => x9 (ix2 i j)))
          (fun c => x10 (ix1 c)) c := by
  pointwise [val_main_v58, val_main_v57, val_main_v56, val_main_v55, val_main_v54, val_main_v53, val_main_v52, val_main_v51, val_main_cst_8,
    val_main_v50, val_main_v49, val_main_cst_7, val_main_v48, val_main_v47, val_main_cst_6, val_main_v46]
  simp only [v45]
  rfl

theorem v59 (R : Fin 16384) (c : Fin 1024) :
    val_main_v59 (F := Ideal) x0 x1 x2 x3 x4 x5 x6 x7 x8 x9 x10 (ix2 R c)
      = val_main_v58 (F := Ideal) x0 x1 x2 x3 x4 x5 x6 x7 x8 x9 x10 (ix3 ⟨R.val / 2048, by omega⟩ ⟨R.val % 2048, by omega⟩ c) := by
  pointwise [val_main_v59]
end Cert.Reference2Ideal.Mlp
-- ==== Proof.MlpVal.lean ====
/- The mixing and feed-forward kernel's result array, and its agreement with the reference. -/
module

public import proofs.«01_k».proof.Proof.MlpPay
public import proofs.«01_k».proof.Proof.MlpRef
public import proofs.«01_k».proof.Defs

@[expose] public section
set_option maxRecDepth 16384
noncomputable section

namespace Cert.Kernel2Ideal.Mlp
open Idealize.ShloMosaic Idealize.ShloMosaic.TcCoe Idealize.SL.Sem
open Cert.Kernel2Ideal Cert.Kernel2Ideal.Gen
variable (m : (ℓ : Loc nD τ sig) → Buf (Elt Ideal) ℓ)

/-- The windows' block indices at every grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![t.val, 0] ∧ t.val < 32 :=
  (by decide +kernel : ∀ t : Fin grid0.N, _)

/-- The token row that row `r` of point `t`'s block is. -/
def row (t : Fin cfg0.N) (r : Fin 512) : Fin 16384 := ⟨t.val * 512 + r.val, by have := (idx t).2.2.2.2.2.2.2.2.2.2.2.2; omega⟩

theorem blk0 (c : Dev nD) (t : Fin cfg0.N) (r : Fin 512) (j : Fin 1024) :
    (iblk m c 0 t : Vec Ideal S512x1024 .f32) (ix2 r j) = (m ((c : Thread nD τ).loc main_arg0) : Vec Ideal S8x2048x1024 .f32) (ix3 ⟨(row t r).val / 2048, by omega⟩ ⟨(row t r).val % 2048, by omega⟩ j) := by
  unfold row
  blk_point [iblk, V, idx t]
theorem blk1 (c : Dev nD) (t : Fin cfg0.N) (r : Fin 512) (j : Fin 512) :
    (iblk m c 1 t : Vec Ideal S512x512 .bf16) (ix2 r j) = (m ((c : Thread nD τ).loc main_arg1) : Vec Ideal S8x2048x512 .bf16) (ix3 ⟨(row t r).val / 2048, by omega⟩ ⟨(row t r).val % 2048, by omega⟩ j) := by
  unfold row
  blk_point [iblk, V, idx t]
theorem blk2 (c : Dev nD) (t : Fin cfg0.N) (r : Fin 512) (j : Fin 512) :
    (iblk m c 2 t : Vec Ideal S512x512 .bf16) (ix2 r j) = (m ((c : Thread nD τ).loc main_arg2) : Vec Ideal S8x2048x512 .bf16) (ix3 ⟨(row t r).val / 2048, by omega⟩ ⟨(row t r).val % 2048, by omega⟩ j) := by
  unfold row
  blk_point [iblk, V, idx t]
theorem blk3 (c : Dev nD) (t : Fin cfg0.N) (r : Fin 512) (j : Fin 2048) :
    (iblk m c 3 t : Vec Ideal S512x2048 .f32) (ix2 r j) = (m ((c : Thread nD τ).loc main_arg3) : Vec Ideal S8x2048x2048 .f32) (ix3 ⟨(row t r).val / 2048, by omega⟩ ⟨(row t r).val % 2048, by omega⟩ j) := by
  unfold row
  blk_point [iblk, V, idx t]
theorem blk4 (c : Dev nD) (t : Fin cfg0.N) (i : Fin 512) (j : Fin 1024) :
    (iblk m c 4 t : Vec Ideal S512x1024 .bf16) (ix2 i j) = (m ((c : Thread nD τ).loc main_arg4) : Vec Ideal S512x1024 .bf16) (ix2 i j) := by
  blk_point [iblk, V, idx t]
theorem blk5 (c : Dev nD) (t : Fin cfg0.N) (i : Fin 512) (j : Fin 1024) :
    (iblk m c 5 t : Vec Ideal S512x1024 .bf16) (ix2 i j) = (m ((c : Thread nD τ).loc main_arg5) : Vec Ideal S512x1024 .bf16) (ix2 i j) := by
  blk_point [iblk, V, idx t]
theorem blk6 (c : Dev nD) (t : Fin cfg0.N) (i : Fin 1024) (j : Fin 1024) :
    (iblk m c 6 t : Vec Ideal S1024x1024 .bf16) (ix2 i j) = (m ((c : Thread nD τ).loc main_arg6) : Vec Ideal S1024x1024 .bf16) (ix2 i j) := by
  blk_point [iblk, V, idx t]
theorem blk7 (c : Dev nD) (t : Fin cfg0.N) (j : Fin 1024) :
    (iblk m c 7 t : Vec Ideal S1x1024 .f32) (ix2 0 j) = (m ((c : Thread nD τ).loc main_arg7) : Vec Ideal S1024 .f32) (ix1 j) := by
  blk_point [iblk, V, idx t]
theorem blk8 (c : Dev nD) (t : Fin cfg0.N) (i : Fin 1024) (j : Fin 4096) :
    (iblk m c 8 t : Vec Ideal S1024x4096 .bf16) (ix2 i j) = (m ((c : Thread nD τ).loc main_arg8) : Vec Ideal S1024x4096 .bf16) (ix2 i j) := by
  blk_point [iblk, V, idx t]
theorem blk9 (c : Dev nD) (t : Fin cfg0.N) (i : Fin 4096) (j : Fin 1024) :
    (iblk m c 9 t : Vec Ideal S4096x1024 .bf16) (ix2 i j) = (m ((c : Thread nD τ).loc main_arg9) : Vec Ideal S4096x1024 .bf16) (ix2 i j) := by
  blk_point [iblk, V, idx t]
theorem blk10 (c : Dev nD) (t : Fin cfg0.N) (j : Fin 1024) :
    (iblk m c 10 t : Vec Ideal S1x1024 .f32) (ix2 0 j) = (m ((c : Thread nD τ).loc main_arg10) : Vec Ideal S1024 .f32) (ix1 j) := by
  blk_point [iblk, V, idx t]

/-- The reference's result over the kernel's arguments. -/
abbrev REF (c : Dev nD) : Vec Ideal S16384x1024 .f32 :=
  Reference2Ideal.Read.val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

/-- What point `t` stores is the reference's rows there. -/
theorem point (c : Dev nD) (t : Fin cfg0.N) (r : Fin 512) (j : Fin 1024) :
    out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r j)
      = REF m c (ix2 (row t r) j) := by
  refine (out_row _ _ _ _ _ _ _ _ _ _ _ r j).trans ?_
  rw [REF, Reference2Ideal.Mlp.v59, Reference2Ideal.Mlp.v58]
  unfold Reference2Ideal.Mlp.mixed
  simp only [blk0, blk1, blk2, blk3, blk4, blk5, blk6, blk7, blk8, blk9, blk10]

/-- The result array after the run. -/
theorem final (c : Dev nD) : (dats m 0 c).arrAt 11 (cfgs 0).N = REF m c := by
  refine (dats m 0 c).arrAt_eq_of_covers 11 _ (by decide +kernel) fun t _ y => ?_
  blk_simp
  rw [after0_11]
  obtain ⟨r, j, rfl⟩ : ∃ (r : Fin 512) (j : Fin 1024), y = ix2 r j := ⟨y 0, y 1, eq_ix2 y⟩
  refine (point m c t r j).trans ?_
  unfold row
  blk_ext [idx t]

/-- The kernel computes the reference's function. -/
theorem algebraic : Cert.algebraic_Kernel2Ideal_Reference2Ideal := by
  intro m g m' g' _ hagree
  refine ⟨fun c => REF m c, ?_, ?_⟩
  · refine (θ_run _ _ _).mono (fun r h c => ?_) (Value.run_blocks m g)
    obtain ⟨h1, h2⟩ := h c
    exact ⟨h1.trans (final m c), h2⟩
  · refine (θ_run _ _ _).mono (fun r h c => ?_) (Reference2Ideal.Value.run m' g')
    obtain ⟨h1, h2⟩ := h c
    refine ⟨h1.trans ?_, h2⟩
    rw [Reference2Ideal.Read.val_main_v59_eq]
    obtain ⟨a0, a1, a2, a3, a4, a5, a6, a7, a8, a9, a10⟩ := hagree c
    simp only [a0, a1, a2, a3, a4, a5, a6, a7, a8, a9, a10]
end Cert.Kernel2Ideal.Mlp
-- ==== Proof.MlpPlain.lean ====
/- The mixing and feed-forward call without the final norm: its stored block, its reference and its result array. The
   bodies share their parts with the call that has the norm, and so do the references; those lemmas serve here. -/
module

public import proofs.«01_k».proof.Proof.Gen.Kernel4Ideal.Value
public import proofs.«01_k».proof.Proof.Gen.Reference4Ideal.Read
public import proofs.«01_k».proof.Proof.MlpPay
public import proofs.«01_k».proof.Proof.MlpRef
public import proofs.«01_k».proof.Defs

@[expose] public section
set_option maxRecDepth 16384
noncomputable section

namespace Cert.Reference4Ideal.Mlp
open Idealize.ShloMosaic Idealize.ShloMosaic.TcCoe Idealize.SL.Sem
open Cert.Reference4Ideal Cert.Reference4Ideal.Gen Cert.Reference4Ideal.Read

variable (x0 : Vec Ideal S8x2048x1024 .f32) (x1 x2 : Vec Ideal S8x2048x512 .bf16) (x3 : Vec Ideal S8x2048x2048 .f32)
  (x4 x5 : Vec Ideal S512x1024 .bf16) (x6 : Vec Ideal S1024x1024 .bf16) (x7 : Vec Ideal S1024 .f32)
  (x8 : Vec Ideal S1024x4096 .bf16) (x9 : Vec Ideal S4096x1024 .bf16)

/-- Up to the final norm the two references are the same operations. -/
theorem v45 : (val_main_v45 (F := Ideal) x0 x1 x2 x3 x4 x5 x6 x7 x8 x9 : Vec Ideal S8x2048x1024 .f32)
    = Cert.Reference2Ideal.Read.val_main_v45 (F := Ideal) x0 x1 x2 x3 x4 x5 x6 x7 x8 x9 := rfl

/-- The reference's result at row `R`. -/
theorem v46 (R : Fin 16384) (c : Fin 1024) :
    val_main_v46 (F := Ideal) x0 x1 x2 x3 x4 x5 x6 x7 x8 x9 (ix2 R c)
      = MlpRow.ffn (Reference2Ideal.Mlp.mixed x0 x1 x2 x3 x4 x5 x6 ⟨R.val / 2048, by omega⟩ ⟨R.val % 2048, by omega⟩)
          (fun c => x7 (ix1 c)) (fun i j => x8 (ix2 i j)) (fun i j => x9 (ix2 i j)) c := by
  rw [← Reference2Ideal.Mlp.v45, ← v45]
  pointwise [val_main_v46]
end Cert.Reference4Ideal.Mlp

namespace Cert.Kernel4Ideal.Mlp
open Idealize.ShloMosaic Idealize.ShloMosaic.TcCoe Idealize.SL.Sem
open Cert.Kernel4Ideal Cert.Kernel4Ideal.Gen

/-- The mixed residual row. -/
theorem pay2 (v0 : Vec Ideal S512x512 .bf16) (v2 : Vec Ideal S512x1024 .bf16) (v4 : Vec Ideal S512x512 .bf16) (v6 : Vec Ideal S512x1024 .bf16) (v8 : Vec Ideal S512x1024 .f32) (v12 : Vec Ideal S512x1024 .f32) (v17 : Vec Ideal S512x1024 .f32) (v20 : Vec Ideal S1024x1024 .bf16) (r : Fin 512) (c : Fin 1024) :
   k0_pay2 v0 v2 v4 v6 v8 v12 v17 v20 (ix2 r c)
     = MlpRow.mix (fun c => v17 (ix2 r c)) (fun c => v0 (ix2 r c)) (fun c => v4 (ix2 r c)) (fun c => v8 (ix2 r c)) (fun c => v12 (ix2 r c))
        (fun a b => v2 (ix2 a b)) (fun a b => v6 (ix2 a b)) (fun a b => v20 (ix2 a b)) c :=
  Kernel2Ideal.Mlp.pay2 v0 v2 v4 v6 v8 v12 v17 v20 r c
/-- The mixed row over its root mean square. -/
theorem pay4 (v0 : Vec Ideal S512x512 .bf16) (v2 : Vec Ideal S512x1024 .bf16) (v4 : Vec Ideal S512x512 .bf16) (v6 : Vec Ideal S512x1024 .bf16) (v8 : Vec Ideal S512x1024 .f32) (v12 : Vec Ideal S512x1024 .f32) (v17 : Vec Ideal S512x1024 .f32) (v20 : Vec Ideal S1024x1024 .bf16) (h : Fin 512 → Fin 1024 → EReal)
   (hh : ∀ r c, k0_pay2 v0 v2 v4 v6 v8 v12 v17 v20 (ix2 r c) = h r c)
   (r : Fin 512) (c : Fin 1024) :
   k0_pay4 v0 v2 v4 v6 v8 v12 v17 v20 (ix2 r c) = h r c * MlpRow.inv (h r) :=
  Kernel2Ideal.Mlp.pay4 v0 v2 v4 v6 v8 v12 v17 v20 h hh r c
/-- The last run of hidden units. -/
theorem pay7 (v24 : FVec Ideal S1x1024 .f32) (v34 : FVec Ideal S512x1024 .f32) (v65 : Vec Ideal S1024x1024 .bf16) (h : Fin 512 → Fin 1024 → EReal)
   (hh : ∀ r c, v34 (ix2 r c) = h r c * MlpRow.inv (h r)) (r : Fin 512) (c : Fin 1024) :
   k0_pay7 v24 v34 v65 (ix2 r c) = MlpRow.hid (h r) (fun c => v24 (ix2 0 c)) (fun x => v65 (ix2 x c)) :=
  Kernel2Ideal.Mlp.pay7 v24 v34 v65 h hh r c
/-- The first three runs of hidden units, added in turn. -/
theorem pay6 (v22 : FVec Ideal S512x1024 .f32) (v24 : FVec Ideal S1x1024 .f32) (v34 : FVec Ideal S512x1024 .f32) (v38 v44 v47 v53 v56 v62 : Vec Ideal S1024x1024 .bf16) (h : Fin 512 → Fin 1024 → EReal)
   (hh : ∀ r c, v34 (ix2 r c) = h r c * MlpRow.inv (h r)) (r : Fin 512) (c : Fin 1024) :
   k0_pay6 v22 v24 v34 v38 v44 v47 v53 v56 v62 (ix2 r c) = v22 (ix2 r c) + (∑ k, MlpRow.hid (h r) (fun c => v24 (ix2 0 c)) (fun x => v38 (ix2 x k)) * v44 (ix2 k c))
      + (∑ k, MlpRow.hid (h r) (fun c => v24 (ix2 0 c)) (fun x => v47 (ix2 x k)) * v53 (ix2 k c))
      + (∑ k, MlpRow.hid (h r) (fun c => v24 (ix2 0 c)) (fun x => v56 (ix2 x k)) * v62 (ix2 k c)) :=
  Kernel2Ideal.Mlp.pay6 v22 v24 v34 v38 v44 v47 v53 v56 v62 h hh r c
/-- The norm's scale as the body reads it. -/
theorem pay8 (x0 : Vec Ideal S512x1024 .f32) (x1 : Vec Ideal S512x512 .bf16) (x2 : Vec Ideal S512x512 .bf16) (x3 : Vec Ideal S512x2048 .f32) (x4 : Vec Ideal S512x1024 .bf16) (x5 : Vec Ideal S512x1024 .bf16) (x6 : Vec Ideal S1024x1024 .bf16) (x7 : Vec Ideal S1x1024 .f32) (x8 : Vec Ideal S1024x4096 .bf16) (x9 : Vec Ideal S4096x1024 .bf16) (x10 : Vec Ideal S1x1024 .f32) (c : Fin 1024) :
   k0_pay8 x0 x1 x2 x3 x4 x5 x6 x7 x8 x9 x10 (ix2 0 c) = x7 (ix2 0 c) :=
  Kernel2Ideal.Mlp.pay8 x0 x1 x2 x3 x4 x5 x6 x7 x8 x9 x10 c
/-- The last run of hidden units added. -/
theorem pay1 (v64 : FVec Ideal S512x1024 .f32) (v69 : FVec Ideal S512x1024 .f32) (v71 : Vec Ideal S1024x1024 .bf16) (r : Fin 512) (c : Fin 1024) :
   k0_pay1 v64 v69 v71 (ix2 r c) = v64 (ix2 r c) + ∑ k, v69 (ix2 r k) * v71 (ix2 k c) := by
  pointwise [k0_pay1]

/-- What the body stores, row by row. -/
theorem out_row (x0 : Vec Ideal S512x1024 .f32) (x1 : Vec Ideal S512x512 .bf16) (x2 : Vec Ideal S512x512 .bf16) (x3 : Vec Ideal S512x2048 .f32) (x4 : Vec Ideal S512x1024 .bf16) (x5 : Vec Ideal S512x1024 .bf16) (x6 : Vec Ideal S1024x1024 .bf16) (x7 : Vec Ideal S1x1024 .f32) (x8 : Vec Ideal S1024x4096 .bf16) (x9 : Vec Ideal S4096x1024 .bf16) (x10 : Vec Ideal S1x1024 .f32) (r : Fin 512) (c : Fin 1024) :
   out0_11 x0 x1 x2 x3 x4 x5 x6 x7 x8 x9 x10 (ix2 r c) =
     MlpRow.ffn (MlpRow.mix (fun c => x0 (ix2 r c)) (fun c => x1 (ix2 r c)) (fun c => x2 (ix2 r c)) (fun c => x3 (ix2 r ⟨c.val, by omega⟩)) (fun c => x3 (ix2 r ⟨1024 + c.val, by omega⟩))
        (fun a b => x4 (ix2 a b)) (fun a b => x5 (ix2 a b)) (fun a b => x6 (ix2 a b))) (fun c => x7 (ix2 0 c)) (fun a b => x8 (ix2 a b)) (fun a b => x9 (ix2 a b)) c := by
  have h2 : ∀ r c, k0_pay2 (View.ld x1 r0_0) (View.ld x4 r0_1) (View.ld x2 r0_0) (View.ld x5 r0_1) (View.ld x3 r0_2) (View.ld x3 r0_3) (View.ld x0 r0_1) (View.ld x6 r0_4) (ix2 r c) = MlpRow.mix (fun c => x0 (ix2 r c)) (fun c => x1 (ix2 r c)) (fun c => x2 (ix2 r c)) (fun c => x3 (ix2 r ⟨c.val, by omega⟩)) (fun c => x3 (ix2 r ⟨1024 + c.val, by omega⟩))
        (fun a b => x4 (ix2 a b)) (fun a b => x5 (ix2 a b)) (fun a b => x6 (ix2 a b)) c := by
    intro r c
    rw [pay2]
    pointwise []
  have h9 : ∀ r c, k0_pay9 x0 x1 x2 x3 x4 x5 x6 x7 x8 x9 x10 (ix2 r c) = _ := pay4 _ _ _ _ _ _ _ _ _ h2
  unfold out0_11
  rw [View.canon_unit_zero (by decide)]
  rw [pay1]
  rw [pay6 _ _ _ _ _ _ _ _ _ _ h9]
  simp only [pay7 _ _ _ _ h9, h2, pay8]
  rw [← MlpRow.ffn_four]
  pointwise []

variable (m : (ℓ : Loc nD τ sig) → Buf (Elt Ideal) ℓ)

/-- The windows' block indices at every grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![t.val, 0] ∧ t.val < 32 :=
  (by decide +kernel : ∀ t : Fin grid0.N, _)

/-- The token row that row `r` of point `t`'s block is. -/
def row (t : Fin cfg0.N) (r : Fin 512) : Fin 16384 := ⟨t.val * 512 + r.val, by have := (idx t).2.2.2.2.2.2.2.2.2.2.2.2; omega⟩

theorem blk0 (c : Dev nD) (t : Fin cfg0.N) (r : Fin 512) (j : Fin 1024) :
    (iblk m c 0 t : Vec Ideal S512x1024 .f32) (ix2 r j) = (m ((c : Thread nD τ).loc main_arg0) : Vec Ideal S8x2048x1024 .f32) (ix3 ⟨(row t r).val / 2048, by omega⟩ ⟨(row t r).val % 2048, by omega⟩ j) := by
  unfold row
  blk_point [iblk, V, idx t]
theorem blk1 (c : Dev nD) (t : Fin cfg0.N) (r : Fin 512) (j : Fin 512) :
    (iblk m c 1 t : Vec Ideal S512x512 .bf16) (ix2 r j) = (m ((c : Thread nD τ).loc main_arg1) : Vec Ideal S8x2048x512 .bf16) (ix3 ⟨(row t r).val / 2048, by omega⟩ ⟨(row t r).val % 2048, by omega⟩ j) := by
  unfold row
  blk_point [iblk, V, idx t]
theorem blk2 (c : Dev nD) (t : Fin cfg0.N) (r : Fin 512) (j : Fin 512) :
    (iblk m c 2 t : Vec Ideal S512x512 .bf16) (ix2 r j) = (m ((c : Thread nD τ).loc main_arg2) : Vec Ideal S8x2048x512 .bf16) (ix3 ⟨(row t r).val / 2048, by omega⟩ ⟨(row t r).val % 2048, by omega⟩ j) := by
  unfold row
  blk_point [iblk, V, idx t]
theorem blk3 (c : Dev nD) (t : Fin cfg0.N) (r : Fin 512) (j : Fin 2048) :
    (iblk m c 3 t : Vec Ideal S512x2048 .f32) (ix2 r j) = (m ((c : Thread nD τ).loc main_arg3) : Vec Ideal S8x2048x2048 .f32) (ix3 ⟨(row t r).val / 2048, by omega⟩ ⟨(row t r).val % 2048, by omega⟩ j) := by
  unfold row
  blk_point [iblk, V, idx t]
theorem blk4 (c : Dev nD) (t : Fin cfg0.N) (i : Fin 512) (j : Fin 1024) :
    (iblk m c 4 t : Vec Ideal S512x1024 .bf16) (ix2 i j) = (m ((c : Thread nD τ).loc main_arg4) : Vec Ideal S512x1024 .bf16) (ix2 i j) := by
  blk_point [iblk, V, idx t]
theorem blk5 (c : Dev nD) (t : Fin cfg0.N) (i : Fin 512) (j : Fin 1024) :
    (iblk m c 5 t : Vec Ideal S512x1024 .bf16) (ix2 i j) = (m ((c : Thread nD τ).loc main_arg5) : Vec Ideal S512x1024 .bf16) (ix2 i j) := by
  blk_point [iblk, V, idx t]
theorem blk6 (c : Dev nD) (t : Fin cfg0.N) (i : Fin 1024) (j : Fin 1024) :
    (iblk m c 6 t : Vec Ideal S1024x1024 .bf16) (ix2 i j) = (m ((c : Thread nD τ).loc main_arg6) : Vec Ideal S1024x1024 .bf16) (ix2 i j) := by
  blk_point [iblk, V, idx t]
theorem blk7 (c : Dev nD) (t : Fin cfg0.N) (j : Fin 1024) :
    (iblk m c 7 t : Vec Ideal S1x1024 .f32) (ix2 0 j) = (m ((c : Thread nD τ).loc main_arg7) : Vec Ideal S1024 .f32) (ix1 j) := by
  blk_point [iblk, V, idx t]
theorem blk8 (c : Dev nD) (t : Fin cfg0.N) (i : Fin 1024) (j : Fin 4096) :
    (iblk m c 8 t : Vec Ideal S1024x4096 .bf16) (ix2 i j) = (m ((c : Thread nD τ).loc main_arg8) : Vec Ideal S1024x4096 .bf16) (ix2 i j) := by
  blk_point [iblk, V, idx t]
theorem blk9 (c : Dev nD) (t : Fin cfg0.N) (i : Fin 4096) (j : Fin 1024) :
    (iblk m c 9 t : Vec Ideal S4096x1024 .bf16) (ix2 i j) = (m ((c : Thread nD τ).loc main_arg9) : Vec Ideal S4096x1024 .bf16) (ix2 i j) := by
  blk_point [iblk, V, idx t]
theorem blk10 (c : Dev nD) (t : Fin cfg0.N) (j : Fin 1024) :
    (iblk m c 10 t : Vec Ideal S1x1024 .f32) (ix2 0 j) = (m ((c : Thread nD τ).loc main_arg10) : Vec Ideal S1024 .f32) (ix1 j) := by
  blk_point [iblk, V, idx t]

/-- The reference's result over the kernel's arguments. -/
abbrev REF (c : Dev nD) : Vec Ideal S16384x1024 .f32 :=
  Reference4Ideal.Read.val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-- What point `t` stores is the reference's rows there. -/
theorem point (c : Dev nD) (t : Fin cfg0.N) (r : Fin 512) (j : Fin 1024) :
    out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r j)
      = REF m c (ix2 (row t r) j) := by
  refine (out_row _ _ _ _ _ _ _ _ _ _ _ r j).trans ?_
  rw [REF, Reference4Ideal.Mlp.v46]
  unfold Reference2Ideal.Mlp.mixed
  simp only [blk0, blk1, blk2, blk3, blk4, blk5, blk6, blk7, blk8, blk9, blk10]

/-- The result array after the run. -/
theorem final (c : Dev nD) : (dats m 0 c).arrAt 11 (cfgs 0).N = REF m c := by
  refine (dats m 0 c).arrAt_eq_of_covers 11 _ (by decide +kernel) fun t _ y => ?_
  blk_simp
  rw [after0_11]
  obtain ⟨r, j, rfl⟩ : ∃ (r : Fin 512) (j : Fin 1024), y = ix2 r j := ⟨y 0, y 1, eq_ix2 y⟩
  refine (point m c t r j).trans ?_
  unfold row
  blk_ext [idx t]

/-- The kernel computes the reference's function. -/
theorem algebraic : Cert.algebraic_Kernel4Ideal_Reference4Ideal := by
  intro m g m' g' _ hagree
  refine ⟨fun c => REF m c, ?_, ?_⟩
  · refine (θ_run _ _ _).mono (fun r h c => ?_) (Value.run_blocks m g)
    obtain ⟨h1, h2⟩ := h c
    exact ⟨h1.trans (final m c), h2⟩
  · refine (θ_run _ _ _).mono (fun r h c => ?_) (Reference4Ideal.Value.run m' g')
    obtain ⟨h1, h2⟩ := h c
    refine ⟨h1.trans ?_, h2⟩
    rw [Reference4Ideal.Read.val_main_v46_eq]
    obtain ⟨a0, a1, a2, a3, a4, a5, a6, a7, a8, a9, a10⟩ := hagree c
    simp only [a0, a1, a2, a3, a4, a5, a6, a7, a8, a9, a10]
end Cert.Kernel4Ideal.Mlp
-- ==== Proof.ProjKernel.lean ====
/- The input projection's stored blocks, row by row. -/
module

public import proofs.«01_k».proof.Proof.Gen.Kernel3Ideal.Value
public import proofs.«01_k».proof.Proof.MlpRow
public import Idealize.ShloMosaic.Lib.Pipeline.ValueKit

@[expose] public section
set_option maxRecDepth 16384
noncomputable section

namespace Cert.Kernel3Ideal.Proj
open Idealize.ShloMosaic Idealize.ShloMosaic.TcCoe Idealize.SL.Sem
open Cert.Kernel3Ideal Cert.Kernel3Ideal.Gen

/-- One entry of the normalized row's projection. -/
def proj (h g w : Fin 1024 → EReal) : EReal := ∑ x, h x * MlpRow.inv h * g x * w x

/- Every stored tile is the projection of its rows onto its run of columns. -/
theorem pay5 (v0 : Vec Ideal S512x1024 .f32) (v2 : Vec Ideal S1x1024 .f32) (w : Vec Ideal S1024x1024 .bf16) (i : S512x1024.Idx) :
    k0_pay5 v0 v2 w i = proj (fun x => v0 (ix2 (i 0) x)) (fun x => v2 (ix2 0 x)) (fun x => w (ix2 x (i 1))) := by
  obtain ⟨r, j, rfl⟩ : ∃ (r : Fin 512) (j : Fin 1024), i = ix2 r j := ⟨i 0, i 1, eq_ix2 i⟩
  pointwise [k0_pay5, k0_pay4]
  rfl
theorem pay6 (v0 : Vec Ideal S512x1024 .f32) (v2 : Vec Ideal S1x1024 .f32) (w : Vec Ideal S1024x1024 .bf16) (i : S512x1024.Idx) :
    k0_pay6 v0 v2 w i = proj (fun x => v0 (ix2 (i 0) x)) (fun x => v2 (ix2 0 x)) (fun x => w (ix2 x (i 1))) := by
  obtain ⟨r, j, rfl⟩ : ∃ (r : Fin 512) (j : Fin 1024), i = ix2 r j := ⟨i 0, i 1, eq_ix2 i⟩
  pointwise [k0_pay6, k0_pay4]
  rfl
theorem pay7 (v0 : Vec Ideal S512x1024 .f32) (v2 : Vec Ideal S1x1024 .f32) (w : Vec Ideal S1024x1024 .bf16) (i : S512x1024.Idx) :
    k0_pay7 v0 v2 w i = proj (fun x => v0 (ix2 (i 0) x)) (fun x => v2 (ix2 0 x)) (fun x => w (ix2 x (i 1))) := by
  obtain ⟨r, j, rfl⟩ : ∃ (r : Fin 512) (j : Fin 1024), i = ix2 r j := ⟨i 0, i 1, eq_ix2 i⟩
  pointwise [k0_pay7, k0_pay4]
  rfl
theorem pay8 (v0 : Vec Ideal S512x1024 .f32) (v2 : Vec Ideal S1x1024 .f32) (w : Vec Ideal S1024x1024 .bf16) (i : S512x1024.Idx) :
    k0_pay8 v0 v2 w i = proj (fun x => v0 (ix2 (i 0) x)) (fun x => v2 (ix2 0 x)) (fun x => w (ix2 x (i 1))) := by
  obtain ⟨r, j, rfl⟩ : ∃ (r : Fin 512) (j : Fin 1024), i = ix2 r j := ⟨i 0, i 1, eq_ix2 i⟩
  pointwise [k0_pay8, k0_pay4]
  rfl
theorem pay11 (v0 : Vec Ideal S512x1024 .f32) (v2 : Vec Ideal S1x1024 .f32) (w : Vec Ideal S1024x1024 .bf16) (i : S512x1024.Idx) :
    k0_pay11 v0 v2 w i = proj (fun x => v0 (ix2 (i 0) x)) (fun x => v2 (ix2 0 x)) (fun x => w (ix2 x (i 1))) := by
  obtain ⟨r, j, rfl⟩ : ∃ (r : Fin 512) (j : Fin 1024), i = ix2 r j := ⟨i 0, i 1, eq_ix2 i⟩
  pointwise [k0_pay11, k0_pay10]
  rfl
theorem pay12 (v0 : Vec Ideal S512x1024 .f32) (v2 : Vec Ideal S1x1024 .f32) (w : Vec Ideal S1024x1024 .bf16) (i : S512x1024.Idx) :
    k0_pay12 v0 v2 w i = proj (fun x => v0 (ix2 (i 0) x)) (fun x => v2 (ix2 0 x)) (fun x => w (ix2 x (i 1))) := by
  obtain ⟨r, j, rfl⟩ : ∃ (r : Fin 512) (j : Fin 1024), i = ix2 r j := ⟨i 0, i 1, eq_ix2 i⟩
  pointwise [k0_pay12, k0_pay10]
  rfl
theorem pay1 (v0 : Vec Ideal S512x1024 .f32) (v2 : Vec Ideal S1x1024 .f32) (w : Vec Ideal S1024x1024 .bf16) (i : S512x1024.Idx) :
    k0_pay1 (k0_pay10 v0 v2) w i = proj (fun x => v0 (ix2 (i 0) x)) (fun x => v2 (ix2 0 x)) (fun x => w (ix2 x (i 1))) := by
  obtain ⟨r, j, rfl⟩ : ∃ (r : Fin 512) (j : Fin 1024), i = ix2 r j := ⟨i 0, i 1, eq_ix2 i⟩
  pointwise [k0_pay1, k0_pay10]
  rfl
theorem pay2 (v0 : Vec Ideal S512x1024 .f32) (v2 : Vec Ideal S1x1024 .f32) (w : Vec Ideal S1024x1024 .bf16) (i : S512x1024.Idx) :
    k0_pay2 (k0_pay10 v0 v2) w i = proj (fun x => v0 (ix2 (i 0) x)) (fun x => v2 (ix2 0 x)) (fun x => w (ix2 x (i 1))) := by
  obtain ⟨r, j, rfl⟩ : ∃ (r : Fin 512) (j : Fin 1024), i = ix2 r j := ⟨i 0, i 1, eq_ix2 i⟩
  pointwise [k0_pay2, k0_pay10]
  rfl
theorem pay3 (v0 : Vec Ideal S512x1024 .f32) (v2 : Vec Ideal S1x1024 .f32) (w : Vec Ideal S1024x1024 .bf16) (i : S512x1024.Idx) :
    k0_pay3 (k0_pay10 v0 v2) w i = proj (fun x => v0 (ix2 (i 0) x)) (fun x => v2 (ix2 0 x)) (fun x => w (ix2 x (i 1))) := by
  obtain ⟨r, j, rfl⟩ : ∃ (r : Fin 512) (j : Fin 1024), i = ix2 r j := ⟨i 0, i 1, eq_ix2 i⟩
  pointwise [k0_pay3, k0_pay10]
  rfl
theorem pay9 (v0 : Vec Ideal S512x1024 .f32) (v2 : Vec Ideal S1x1024 .f32) (w : Vec Ideal S1024x1024 .bf16) (i : S512x1024.Idx) :
    k0_pay9 (k0_pay4 v0 v2) w i = proj (fun x => v0 (ix2 (i 0) x)) (fun x => v2 (ix2 0 x)) (fun x => w (ix2 x (i 1))) := by
  obtain ⟨r, j, rfl⟩ : ∃ (r : Fin 512) (j : Fin 1024), i = ix2 r j := ⟨i 0, i 1, eq_ix2 i⟩
  pointwise [k0_pay9, k0_pay4]
  rfl

/-- The first output block: the attention inputs. -/
theorem out3_row (x0 : Vec Ideal S1024x1024 .f32) (x1 : Vec Ideal S1x1024 .f32) (x2 : Vec Ideal S1024x5120 .bf16) (y : S1024x3072.Idx) :
    out0_3 x0 x1 x2 y = proj (fun x => x0 (ix2 (y 0) x)) (fun x => x1 (ix2 0 x)) (fun x => x2 (ix2 x ⟨(y 1).val, by have := (y 1).isLt; change _ < 3072 at this; omega⟩)) := by
  unfold out0_3 k0_pay13
  canon_tiles x h
  all_goals (simp only [pay1, pay12, pay11, pay7, pay6, pay5]; pointwise []; congr 1 <;> funext a <;> blk_ext)

/-- The second output block: the gates. -/
theorem out4_row (x0 : Vec Ideal S1024x1024 .f32) (x1 : Vec Ideal S1x1024 .f32) (x2 : Vec Ideal S1024x5120 .bf16) (y : S1024x2048.Idx) :
    out0_4 x0 x1 x2 y = proj (fun x => x0 (ix2 (y 0) x)) (fun x => x1 (ix2 0 x)) (fun x => x2 (ix2 x ⟨3072 + (y 1).val, by have := (y 1).isLt; change _ < 2048 at this; omega⟩)) := by
  unfold out0_4 k0_pay13
  canon_tiles x h
  all_goals (simp only [pay3, pay2, pay9, pay8]; pointwise []; congr 1 <;> funext a <;> blk_ext)
end Cert.Kernel3Ideal.Proj
-- ==== Proof.ProjVal.lean ====
/- The input projection's result arrays, and their agreement with the reference. -/
module

public import proofs.«01_k».proof.Proof.ProjKernel
public import proofs.«01_k».proof.Proof.Gen.Reference3Ideal.Read
public import proofs.«01_k».proof.Defs

@[expose] public section
set_option maxRecDepth 16384
noncomputable section

namespace Cert.Kernel3Ideal.Proj
open Idealize.ShloMosaic Idealize.ShloMosaic.TcCoe Idealize.SL.Sem
open Cert.Kernel3Ideal Cert.Kernel3Ideal.Gen
open Cert.Reference3Ideal.Read

/-- The reference's projection of token row `R`, column `j` of all 5120. -/
theorem ref15 (x0 : Vec Ideal Reference3Ideal.S8x2048x1024 .f32) (x1 : Vec Ideal Reference3Ideal.S1024 .f32) (x2 : Vec Ideal Reference3Ideal.S1024x5120 .bf16) (R : Fin 16384) (j : Fin 5120) :
    val_main_v15 (F := Ideal) x0 x1 x2 (ix2 R j)
      = proj (fun c => x0 (ix3 ⟨R.val / 2048, by omega⟩ ⟨R.val % 2048, by omega⟩ c)) (fun c => x1 (ix1 c)) (fun c => x2 (ix2 c j)) := by
  pointwise [val_main_v15, val_main_v14, val_main_v13, val_main_v12, val_main_v11, val_main_v10, val_main_v9, val_main_v8, val_main_v7,
    val_main_v6, val_main_v5, val_main_cst_1, val_main_v4, val_main_v3, val_main_cst_0, val_main_v2, val_main_v1, val_main_cst, val_main_v0]
  rfl

/-- The attention inputs. -/
theorem ref17 (x0 : Vec Ideal Reference3Ideal.S8x2048x1024 .f32) (x1 : Vec Ideal Reference3Ideal.S1024 .f32) (x2 : Vec Ideal Reference3Ideal.S1024x5120 .bf16) (R : Fin 16384) (j : Fin 3072) :
    val_main_v17 (F := Ideal) x0 x1 x2 (ix2 R j) = val_main_v15 (F := Ideal) x0 x1 x2 (ix2 R ⟨j.val, by omega⟩) := by
  pointwise [val_main_v17, val_main_v16]

/-- The gates. -/
theorem ref18 (x0 : Vec Ideal Reference3Ideal.S8x2048x1024 .f32) (x1 : Vec Ideal Reference3Ideal.S1024 .f32) (x2 : Vec Ideal Reference3Ideal.S1024x5120 .bf16) (R : Fin 16384) (j : Fin 2048) :
    val_main_v18 (F := Ideal) x0 x1 x2 (ix2 R j) = val_main_v15 (F := Ideal) x0 x1 x2 (ix2 R ⟨3072 + j.val, by omega⟩) := by
  pointwise [val_main_v18]

variable (m : (ℓ : Loc nD τ sig) → Buf (Elt Ideal) ℓ)

/-- The windows' block indices at every grid point. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ t.val < 16 :=
  (by decide +kernel : ∀ t : Fin grid0.N, _)

/-- The token row that row `r` of point `t`'s block is. -/
def row (t : Fin cfg0.N) (r : Fin 1024) : Fin 16384 := ⟨t.val * 1024 + r.val, by have := (idx t).2.2.2.2.2; omega⟩

theorem blk0 (c : Dev nD) (t : Fin cfg0.N) (r : Fin 1024) (j : Fin 1024) :
    (iblk m c 0 t : Vec Ideal S1024x1024 .f32) (ix2 r j) = (m ((c : Thread nD τ).loc main_arg0) : Vec Ideal S8x2048x1024 .f32) (ix3 ⟨(row t r).val / 2048, by omega⟩ ⟨(row t r).val % 2048, by omega⟩ j) := by
  unfold row
  blk_point [iblk, V, idx t]
theorem blk1 (c : Dev nD) (t : Fin cfg0.N) (j : Fin 1024) :
    (iblk m c 1 t : Vec Ideal S1x1024 .f32) (ix2 0 j) = (m ((c : Thread nD τ).loc main_arg1) : Vec Ideal S1024 .f32) (ix1 j) := by
  blk_point [iblk, V, idx t]
theorem blk2 (c : Dev nD) (t : Fin cfg0.N) (i : Fin 1024) (j : Fin 5120) :
    (iblk m c 2 t : Vec Ideal S1024x5120 .bf16) (ix2 i j) = (m ((c : Thread nD τ).loc main_arg2) : Vec Ideal S1024x5120 .bf16) (ix2 i j) := by
  blk_point [iblk, V, idx t]

/-- The attention inputs over the kernel's arguments. -/
abbrev REF3 (c : Dev nD) : Vec Ideal S16384x3072 .bf16 :=
  val_main_v17 (F := Ideal) (m ((c : Thread nD τ).loc main_arg0)) (m ((c : Thread nD τ).loc main_arg1)) (m ((c : Thread nD τ).loc main_arg2))
/-- The gates over the kernel's arguments. -/
abbrev REF4 (c : Dev nD) : Vec Ideal S16384x2048 .f32 :=
  val_main_v18 (F := Ideal) (m ((c : Thread nD τ).loc main_arg0)) (m ((c : Thread nD τ).loc main_arg1)) (m ((c : Thread nD τ).loc main_arg2))

/-- The first result array after the run. -/
theorem final3 (c : Dev nD) : (dats m 0 c).arrAt 3 (cfgs 0).N = REF3 m c := by
  refine (dats m 0 c).arrAt_eq_of_covers 3 _ (by decide +kernel) fun t _ y => ?_
  blk_simp
  rw [after0_3]
  obtain ⟨r, j, rfl⟩ : ∃ (r : Fin 1024) (j : Fin 3072), y = ix2 r j := ⟨y 0, y 1, eq_ix2 y⟩
  refine (out3_row _ _ _ _).trans (Eq.trans (b := REF3 m c (ix2 (row t r) j)) ?_ ?_)
  · rw [REF3, ref17, ref15]
    exact congr (congr (congrArg proj (funext fun x => blk0 m c t r x)) (funext fun x => blk1 m c t x)) (funext fun x => blk2 m c t x _)
  · unfold row
    blk_ext [idx t]

/-- The second result array after the run. -/
theorem final4 (c : Dev nD) : (dats m 0 c).arrAt 4 (cfgs 0).N = REF4 m c := by
  refine (dats m 0 c).arrAt_eq_of_covers 4 _ (by decide +kernel) fun t _ y => ?_
  blk_simp
  rw [after0_4]
  obtain ⟨r, j, rfl⟩ : ∃ (r : Fin 1024) (j : Fin 2048), y = ix2 r j := ⟨y 0, y 1, eq_ix2 y⟩
  refine (out4_row _ _ _ _).trans (Eq.trans (b := REF4 m c (ix2 (row t r) j)) ?_ ?_)
  · rw [REF4, ref18, ref15]
    exact congr (congr (congrArg proj (funext fun x => blk0 m c t r x)) (funext fun x => blk1 m c t x)) (funext fun x => blk2 m c t x _)
  · unfold row
    blk_ext [idx t]

/-- The kernel computes the reference's function. -/
theorem algebraic : Cert.algebraic_Kernel3Ideal_Reference3Ideal := by
  intro m g m' g' _ hagree
  refine ⟨fun c => REF3 m c, fun c => REF4 m c, ?_, ?_⟩
  · refine (θ_run _ _ _).mono (fun r h c => ?_) (Value.run_blocks m g)
    obtain ⟨h1, h2, h3⟩ := h c
    exact ⟨h1.trans (final3 m c), h2.trans (final4 m c), h3⟩
  · refine (θ_run _ _ _).mono (fun r h c => ?_) (Reference3Ideal.Value.run m' g')
    obtain ⟨h1, h2, h3⟩ := h c
    obtain ⟨a0, a1, a2⟩ := hagree c
    refine ⟨h1.trans ?_, h2.trans ?_, h3⟩
    · refine (val_main_v17_eq _ _ _).trans ?_
      rw [a0, a1, a2]
    · refine (val_main_v18_eq _ _ _).trans ?_
      rw [a0, a1, a2]
end Cert.Kernel3Ideal.Proj
-- ==== Proof.lean ====
module

public import proofs.«01_k».proof.Defs
public import proofs.«01_k».proof.Proof.Frames
public import proofs.«01_k».proof.Proof.NaVal
public import proofs.«01_k».proof.Proof.NbVal
public import proofs.«01_k».proof.Proof.MlpVal
public import proofs.«01_k».proof.Proof.MlpPlain
public import proofs.«01_k».proof.Proof.ProjVal
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Pre_finite.facts, Cert.Pre_finite5.facts,
  Frames.k, Frames.ki, Frames.kiFinite, Frames.ri, Frames.riFinite, Frames.k2, Frames.k2i, Frames.r2i, Frames.k3, Frames.k3i, Frames.r3i, Frames.k4, Frames.k4i, Frames.r4i,
  Frames.k5, Frames.k5i, Frames.k5iFinite, Frames.r5i, Frames.r5iFinite,
  Frames.kept, Cert.KernelIdeal.Na.algebraic, trivial, Cert.Kernel2Ideal.Mlp.algebraic, trivial, Cert.Kernel3Ideal.Proj.algebraic, trivial, Cert.Kernel4Ideal.Mlp.algebraic, Frames.kept5, Cert.Kernel5Ideal.Na.algebraic⟩

end Cert.Proof

end
